-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_rows : Cert.Pre_in_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ preserves_Kernel_KernelIdeal
    ∧ algebraic_KernelIdeal_ReferenceIdeal (hKernelIdeal := hKernelIdeal) (hReferenceIdeal := hReferenceIdeal) (hPre_in_rows := hPre_in_rows)
-- ==== Pre_in_rows.lean ====
abbrev S700000x128 : Shape := ⟨2, ![700000, 128]⟩
abbrev S700000 : Shape := ⟨1, ![700000]⟩
abbrev S_ : Shape := ⟨0, ![]⟩

class Facts : Prop where
  bcast_S_S700000 : S_.BroadcastsInDim S700000 (![] : Fin 0 → Fin S700000.rank)
  reducesTo_S700000_S_d0 : S700000.ReducesTo [0] S_
  h_S_ : 0 < S_.numel

variable [Facts]

def fn {F : FTy → Type} [FloatOps F] (main_arg0 : FVec F S700000x128 .f32) (main_arg1 : IVec S700000 32) : IVec S_ 1 :=
  let main_c : IVec S_ 32 := constantI S_ 32 0#32
  let main_v0 : IVec S700000 32 := broadcastInDim S700000 ![] bcast_S_S700000 main_c
  let main_v1 : IVec S700000 1 := cmpi .sge main_arg1 main_v0
  let main_c_0 : IVec S_ 32 := constantI S_ 32 700000#32
  let main_v2 : IVec S700000 32 := broadcastInDim S700000 ![] bcast_S_S700000 main_c_0
  let main_v3 : IVec S700000 1 := cmpi .slt main_arg1 main_v2
  let main_v4 : IVec S700000 1 := andi main_v1 main_v3
  let main_c_1 : IVec S_ 1 := constantI S_ 1 1#1
  let main_v5 : IVec S_ 1 := (fun x v => Host.reduce IntOp.andi x v reducesTo_S700000_S_d0 h_S_) main_v4 main_c_1
  main_v5
-- ==== Kernel.lean ====
abbrev S700000x128 : Shape := ⟨2, ![700000, 128]⟩
abbrev S700000 : Shape := ⟨1, ![700000]⟩
abbrev S_ : Shape := ⟨0, ![]⟩
abbrev S672 : Shape := ⟨1, ![672]⟩
abbrev S700672 : Shape := ⟨1, ![700672]⟩
abbrev S100000x128 : Shape := ⟨2, ![100000, 128]⟩
abbrev S22400 : Shape := ⟨1, ![22400]⟩
abbrev S448x128 : Shape := ⟨2, ![448, 128]⟩
abbrev S64x128 : Shape := ⟨2, ![64, 128]⟩
abbrev S4 : Shape := ⟨1, ![4]⟩
abbrev S16 : Shape := ⟨1, ![16]⟩
abbrev S56x128 : Shape := ⟨2, ![56, 128]⟩
abbrev S56 : Shape := ⟨1, ![56]⟩
abbrev S1 : Shape := ⟨1, ![1]⟩
abbrev S16x128 : Shape := ⟨2, ![16, 128]⟩
abbrev S1x16 : Shape := ⟨2, ![1, 16]⟩

abbrev nBuf : Table → Nat
  | .hbm => 7
  | .local .scVector .vmem => 4
  | _ => 0

abbrev bufTy : (tb : Table) → Fin (nBuf tb) → BufTy
  | .hbm, ⟨0, _⟩ => ⟨S700000x128, .f32⟩
  | .hbm, ⟨1, _⟩ => ⟨S700000, .i32⟩
  | .hbm, ⟨2, _⟩ => ⟨S_, .i32⟩
  | .hbm, ⟨3, _⟩ => ⟨S672, .i32⟩
  | .hbm, ⟨4, _⟩ => ⟨S700672, .i32⟩
  | .hbm, ⟨5, _⟩ => ⟨S100000x128, .f32⟩
  | .hbm, ⟨6, _⟩ => ⟨S100000x128, .i32⟩
  | .local .scVector .vmem, ⟨0, _⟩ => ⟨S22400, .i32⟩
  | .local .scVector .vmem, ⟨1, _⟩ => ⟨S448x128, .f32⟩
  | .local .scVector .vmem, ⟨2, _⟩ => ⟨S64x128, .f32⟩
  | .local .scVector .vmem, ⟨3, _⟩ => ⟨S64x128, .i32⟩
  | _, _ => ⟨S700000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_arg0_scv : Ref sig .scVector := ⟨.hbm, 0, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c3104_i32 : BitVec 32 := 3104#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c3104_i32 v1
  let c32_i32 : BitVec 32 := 32#32
  let c21_i32 : BitVec 32 := 21#32
  let v3 : BitVec 32 := Scalar.minsi v1 c21_i32
  let v4 : BitVec 32 := Scalar.muli c32_i32 v3
  let v5 : BitVec 32 := Scalar.addi v2 v4
  let c7_i32_7 : BitVec 32 := 7#32
  let v32 : BitVec 32 := Scalar.muli v5 c7_i32_7
  ![v32.toNat]
@[reducible] def k0_t1_loop (i : grid0.Coords) : Scf.Loop 32 :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_52 : BitVec 32 := 1#32
  ⟨c0_i32_49, v77, c1_i32_52⟩
def k0_off2 (i : grid0.Coords) (k0_t1 : Fin (k0_t1_loop i).trips) : Fin 1 → Nat :=
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  ![v168.toNat]
def k0_cond1 (i : grid0.Coords) (k0_t1 : Fin (k0_t1_loop i).trips) : BitVec 1 :=
  let c0_i32_49 : BitVec 32 := 0#32
  let c1_i32_52 : BitVec 32 := 1#32
  let arg12 : BitVec 32 := Scf.iv c0_i32_49 c1_i32_52 k0_t1
  let c4_i32 : BitVec 32 := 4#32
  let v179 : BitVec 1 := Scalar.cmpi .sge arg12 c4_i32
  let v180 : BitVec 32 := Scalar.extui v179
  let c0_i32_185 : BitVec 32 := 0#32
  let v181 : BitVec 1 := Scalar.cmpi .ne v180 c0_i32_185
  v181

def k0_off3 (i : grid0.Coords) (k0_t1 : Fin (k0_t1_loop i).trips) : Fin 1 → Nat :=
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  ![v168.toNat]
@[reducible] def k0_t2_loop : Scf.Loop 32 :=
  let c0_i32_188 : BitVec 32 := 0#32
  let c16_i32_189 : BitVec 32 := 16#32
  let v184 : BitVec 32 := Scalar.addi c0_i32_188 c16_i32_189
  let c1_i32_190 : BitVec 32 := 1#32
  ⟨c0_i32_188, v184, c1_i32_190⟩

def k0_chk1 (v224 : IVec S16 32) (v226 : IVec S16 32) : Prop :=
  (∀ a x, ((![v224, v226] : Fin 2 → IVec S16 32) a x).toNat < S448x128.size a)
theorem k0_idx1_inb : ∀ (v224 : IVec S16 32) (v226 : IVec S16 32) (k0_hw1 : k0_chk1 v224 v226), ∀ a x, ((![v224, v226] : Fin 2 → IVec S16 32) a x).toNat < S448x128.size a := fun v224 v226 k0_hw1 => k0_hw1

def k0_chk2 (v233 : IVec S16 32) (v235 : IVec S16 32) : Prop :=
  (∀ a x, ((![v233, v235] : Fin 2 → IVec S16 32) a x).toNat < S448x128.size a)
theorem k0_idx2_inb : ∀ (v233 : IVec S16 32) (v235 : IVec S16 32) (k0_hw2 : k0_chk2 v233 v235), ∀ a x, ((![v233, v235] : Fin 2 → IVec S16 32) a x).toNat < S448x128.size a := fun v233 v235 k0_hw2 => k0_hw2

def k0_chk3 (v245 : IVec S16 32) (v247 : IVec S16 32) : Prop :=
  (∀ a x, ((![v245, v247] : Fin 2 → IVec S16 32) a x).toNat < S448x128.size a)
theorem k0_idx3_inb : ∀ (v245 : IVec S16 32) (v247 : IVec S16 32) (k0_hw3 : k0_chk3 v245 v247), ∀ a x, ((![v245, v247] : Fin 2 → IVec S16 32) a x).toNat < S448x128.size a := fun v245 v247 k0_hw3 => k0_hw3

def k0_chk4 (v257 : IVec S16 32) (v259 : IVec S16 32) : Prop :=
  (∀ a x, ((![v257, v259] : Fin 2 → IVec S16 32) a x).toNat < S448x128.size a)
theorem k0_idx4_inb : ∀ (v257 : IVec S16 32) (v259 : IVec S16 32) (k0_hw4 : k0_chk4 v257 v259), ∀ a x, ((![v257, v259] : Fin 2 → IVec S16 32) a x).toNat < S448x128.size a := fun v257 v259 k0_hw4 => k0_hw4

def k0_chk5 (v269 : IVec S16 32) (v271 : IVec S16 32) : Prop :=
  (∀ a x, ((![v269, v271] : Fin 2 → IVec S16 32) a x).toNat < S448x128.size a)
theorem k0_idx5_inb : ∀ (v269 : IVec S16 32) (v271 : IVec S16 32) (k0_hw5 : k0_chk5 v269 v271), ∀ a x, ((![v269, v271] : Fin 2 → IVec S16 32) a x).toNat < S448x128.size a := fun v269 v271 k0_hw5 => k0_hw5

def k0_chk6 (v281 : IVec S16 32) (v283 : IVec S16 32) : Prop :=
  (∀ a x, ((![v281, v283] : Fin 2 → IVec S16 32) a x).toNat < S448x128.size a)
theorem k0_idx6_inb : ∀ (v281 : IVec S16 32) (v283 : IVec S16 32) (k0_hw6 : k0_chk6 v281 v283), ∀ a x, ((![v281, v283] : Fin 2 → IVec S16 32) a x).toNat < S448x128.size a := fun v281 v283 k0_hw6 => k0_hw6

def k0_chk7 (v293 : IVec S16 32) (v295 : IVec S16 32) : Prop :=
  (∀ a x, ((![v293, v295] : Fin 2 → IVec S16 32) a x).toNat < S448x128.size a)
theorem k0_idx7_inb : ∀ (v293 : IVec S16 32) (v295 : IVec S16 32) (k0_hw7 : k0_chk7 v293 v295), ∀ a x, ((![v293, v295] : Fin 2 → IVec S16 32) a x).toNat < S448x128.size a := fun v293 v295 k0_hw7 => k0_hw7
def k0_off4 (i : grid0.Coords) (k0_t1 : Fin (k0_t1_loop i).trips) (k0_t2 : Fin k0_t2_loop.trips) : Fin 2 → Nat :=
  let c0_i32_188 : BitVec 32 := 0#32
  let c1_i32_190 : BitVec 32 := 1#32
  let arg14 : BitVec 32 := Scf.iv c0_i32_188 c1_i32_190 k0_t2
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v300 : Index := Scalar.indexCast v220
  let c0 : Index := 0#32
  ![v300.toNat, 0]

def k0_chk8 (v308 : IVec S16 32) (v310 : IVec S16 32) : Prop :=
  (∀ a x, ((![v308, v310] : Fin 2 → IVec S16 32) a x).toNat < S448x128.size a)
theorem k0_idx8_inb : ∀ (v308 : IVec S16 32) (v310 : IVec S16 32) (k0_hw8 : k0_chk8 v308 v310), ∀ a x, ((![v308, v310] : Fin 2 → IVec S16 32) a x).toNat < S448x128.size a := fun v308 v310 k0_hw8 => k0_hw8

def k0_chk9 (v317 : IVec S16 32) (v319 : IVec S16 32) : Prop :=
  (∀ a x, ((![v317, v319] : Fin 2 → IVec S16 32) a x).toNat < S448x128.size a)
theorem k0_idx9_inb : ∀ (v317 : IVec S16 32) (v319 : IVec S16 32) (k0_hw9 : k0_chk9 v317 v319), ∀ a x, ((![v317, v319] : Fin 2 → IVec S16 32) a x).toNat < S448x128.size a := fun v317 v319 k0_hw9 => k0_hw9

def k0_chk10 (v329 : IVec S16 32) (v331 : IVec S16 32) : Prop :=
  (∀ a x, ((![v329, v331] : Fin 2 → IVec S16 32) a x).toNat < S448x128.size a)
theorem k0_idx10_inb : ∀ (v329 : IVec S16 32) (v331 : IVec S16 32) (k0_hw10 : k0_chk10 v329 v331), ∀ a x, ((![v329, v331] : Fin 2 → IVec S16 32) a x).toNat < S448x128.size a := fun v329 v331 k0_hw10 => k0_hw10

def k0_chk11 (v341 : IVec S16 32) (v343 : IVec S16 32) : Prop :=
  (∀ a x, ((![v341, v343] : Fin 2 → IVec S16 32) a x).toNat < S448x128.size a)
theorem k0_idx11_inb : ∀ (v341 : IVec S16 32) (v343 : IVec S16 32) (k0_hw11 : k0_chk11 v341 v343), ∀ a x, ((![v341, v343] : Fin 2 → IVec S16 32) a x).toNat < S448x128.size a := fun v341 v343 k0_hw11 => k0_hw11

def k0_chk12 (v353 : IVec S16 32) (v355 : IVec S16 32) : Prop :=
  (∀ a x, ((![v353, v355] : Fin 2 → IVec S16 32) a x).toNat < S448x128.size a)
theorem k0_idx12_inb : ∀ (v353 : IVec S16 32) (v355 : IVec S16 32) (k0_hw12 : k0_chk12 v353 v355), ∀ a x, ((![v353, v355] : Fin 2 → IVec S16 32) a x).toNat < S448x128.size a := fun v353 v355 k0_hw12 => k0_hw12

def k0_chk13 (v365 : IVec S16 32) (v367 : IVec S16 32) : Prop :=
  (∀ a x, ((![v365, v367] : Fin 2 → IVec S16 32) a x).toNat < S448x128.size a)
theorem k0_idx13_inb : ∀ (v365 : IVec S16 32) (v367 : IVec S16 32) (k0_hw13 : k0_chk13 v365 v367), ∀ a x, ((![v365, v367] : Fin 2 → IVec S16 32) a x).toNat < S448x128.size a := fun v365 v367 k0_hw13 => k0_hw13

def k0_chk14 (v377 : IVec S16 32) (v379 : IVec S16 32) : Prop :=
  (∀ a x, ((![v377, v379] : Fin 2 → IVec S16 32) a x).toNat < S448x128.size a)
theorem k0_idx14_inb : ∀ (v377 : IVec S16 32) (v379 : IVec S16 32) (k0_hw14 : k0_chk14 v377 v379), ∀ a x, ((![v377, v379] : Fin 2 → IVec S16 32) a x).toNat < S448x128.size a := fun v377 v379 k0_hw14 => k0_hw14
def k0_off5 (i : grid0.Coords) (k0_t1 : Fin (k0_t1_loop i).trips) (k0_t2 : Fin k0_t2_loop.trips) : Fin 2 → Nat :=
  let c0_i32_188 : BitVec 32 := 0#32
  let c1_i32_190 : BitVec 32 := 1#32
  let arg14 : BitVec 32 := Scf.iv c0_i32_188 c1_i32_190 k0_t2
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v384 : Index := Scalar.indexCast v220
  let c16 : Index := 16#32
  ![v384.toNat, 16]

def k0_chk15 (v392 : IVec S16 32) (v394 : IVec S16 32) : Prop :=
  (∀ a x, ((![v392, v394] : Fin 2 → IVec S16 32) a x).toNat < S448x128.size a)
theorem k0_idx15_inb : ∀ (v392 : IVec S16 32) (v394 : IVec S16 32) (k0_hw15 : k0_chk15 v392 v394), ∀ a x, ((![v392, v394] : Fin 2 → IVec S16 32) a x).toNat < S448x128.size a := fun v392 v394 k0_hw15 => k0_hw15

def k0_chk16 (v401 : IVec S16 32) (v403 : IVec S16 32) : Prop :=
  (∀ a x, ((![v401, v403] : Fin 2 → IVec S16 32) a x).toNat < S448x128.size a)
theorem k0_idx16_inb : ∀ (v401 : IVec S16 32) (v403 : IVec S16 32) (k0_hw16 : k0_chk16 v401 v403), ∀ a x, ((![v401, v403] : Fin 2 → IVec S16 32) a x).toNat < S448x128.size a := fun v401 v403 k0_hw16 => k0_hw16

def k0_chk17 (v413 : IVec S16 32) (v415 : IVec S16 32) : Prop :=
  (∀ a x, ((![v413, v415] : Fin 2 → IVec S16 32) a x).toNat < S448x128.size a)
theorem k0_idx17_inb : ∀ (v413 : IVec S16 32) (v415 : IVec S16 32) (k0_hw17 : k0_chk17 v413 v415), ∀ a x, ((![v413, v415] : Fin 2 → IVec S16 32) a x).toNat < S448x128.size a := fun v413 v415 k0_hw17 => k0_hw17

def k0_chk18 (v425 : IVec S16 32) (v427 : IVec S16 32) : Prop :=
  (∀ a x, ((![v425, v427] : Fin 2 → IVec S16 32) a x).toNat < S448x128.size a)
theorem k0_idx18_inb : ∀ (v425 : IVec S16 32) (v427 : IVec S16 32) (k0_hw18 : k0_chk18 v425 v427), ∀ a x, ((![v425, v427] : Fin 2 → IVec S16 32) a x).toNat < S448x128.size a := fun v425 v427 k0_hw18 => k0_hw18

def k0_chk19 (v437 : IVec S16 32) (v439 : IVec S16 32) : Prop :=
  (∀ a x, ((![v437, v439] : Fin 2 → IVec S16 32) a x).toNat < S448x128.size a)
theorem k0_idx19_inb : ∀ (v437 : IVec S16 32) (v439 : IVec S16 32) (k0_hw19 : k0_chk19 v437 v439), ∀ a x, ((![v437, v439] : Fin 2 → IVec S16 32) a x).toNat < S448x128.size a := fun v437 v439 k0_hw19 => k0_hw19

def k0_chk20 (v449 : IVec S16 32) (v451 : IVec S16 32) : Prop :=
  (∀ a x, ((![v449, v451] : Fin 2 → IVec S16 32) a x).toNat < S448x128.size a)
theorem k0_idx20_inb : ∀ (v449 : IVec S16 32) (v451 : IVec S16 32) (k0_hw20 : k0_chk20 v449 v451), ∀ a x, ((![v449, v451] : Fin 2 → IVec S16 32) a x).toNat < S448x128.size a := fun v449 v451 k0_hw20 => k0_hw20

def k0_chk21 (v461 : IVec S16 32) (v463 : IVec S16 32) : Prop :=
  (∀ a x, ((![v461, v463] : Fin 2 → IVec S16 32) a x).toNat < S448x128.size a)
theorem k0_idx21_inb : ∀ (v461 : IVec S16 32) (v463 : IVec S16 32) (k0_hw21 : k0_chk21 v461 v463), ∀ a x, ((![v461, v463] : Fin 2 → IVec S16 32) a x).toNat < S448x128.size a := fun v461 v463 k0_hw21 => k0_hw21
def k0_off6 (i : grid0.Coords) (k0_t1 : Fin (k0_t1_loop i).trips) (k0_t2 : Fin k0_t2_loop.trips) : Fin 2 → Nat :=
  let c0_i32_188 : BitVec 32 := 0#32
  let c1_i32_190 : BitVec 32 := 1#32
  let arg14 : BitVec 32 := Scf.iv c0_i32_188 c1_i32_190 k0_t2
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v468 : Index := Scalar.indexCast v220
  let c32 : Index := 32#32
  ![v468.toNat, 32]

def k0_chk22 (v476 : IVec S16 32) (v478 : IVec S16 32) : Prop :=
  (∀ a x, ((![v476, v478] : Fin 2 → IVec S16 32) a x).toNat < S448x128.size a)
theorem k0_idx22_inb : ∀ (v476 : IVec S16 32) (v478 : IVec S16 32) (k0_hw22 : k0_chk22 v476 v478), ∀ a x, ((![v476, v478] : Fin 2 → IVec S16 32) a x).toNat < S448x128.size a := fun v476 v478 k0_hw22 => k0_hw22

def k0_chk23 (v485 : IVec S16 32) (v487 : IVec S16 32) : Prop :=
  (∀ a x, ((![v485, v487] : Fin 2 → IVec S16 32) a x).toNat < S448x128.size a)
theorem k0_idx23_inb : ∀ (v485 : IVec S16 32) (v487 : IVec S16 32) (k0_hw23 : k0_chk23 v485 v487), ∀ a x, ((![v485, v487] : Fin 2 → IVec S16 32) a x).toNat < S448x128.size a := fun v485 v487 k0_hw23 => k0_hw23

def k0_chk24 (v497 : IVec S16 32) (v499 : IVec S16 32) : Prop :=
  (∀ a x, ((![v497, v499] : Fin 2 → IVec S16 32) a x).toNat < S448x128.size a)
theorem k0_idx24_inb : ∀ (v497 : IVec S16 32) (v499 : IVec S16 32) (k0_hw24 : k0_chk24 v497 v499), ∀ a x, ((![v497, v499] : Fin 2 → IVec S16 32) a x).toNat < S448x128.size a := fun v497 v499 k0_hw24 => k0_hw24

def k0_chk25 (v509 : IVec S16 32) (v511 : IVec S16 32) : Prop :=
  (∀ a x, ((![v509, v511] : Fin 2 → IVec S16 32) a x).toNat < S448x128.size a)
theorem k0_idx25_inb : ∀ (v509 : IVec S16 32) (v511 : IVec S16 32) (k0_hw25 : k0_chk25 v509 v511), ∀ a x, ((![v509, v511] : Fin 2 → IVec S16 32) a x).toNat < S448x128.size a := fun v509 v511 k0_hw25 => k0_hw25

def k0_chk26 (v521 : IVec S16 32) (v523 : IVec S16 32) : Prop :=
  (∀ a x, ((![v521, v523] : Fin 2 → IVec S16 32) a x).toNat < S448x128.size a)
theorem k0_idx26_inb : ∀ (v521 : IVec S16 32) (v523 : IVec S16 32) (k0_hw26 : k0_chk26 v521 v523), ∀ a x, ((![v521, v523] : Fin 2 → IVec S16 32) a x).toNat < S448x128.size a := fun v521 v523 k0_hw26 => k0_hw26

def k0_chk27 (v533 : IVec S16 32) (v535 : IVec S16 32) : Prop :=
  (∀ a x, ((![v533, v535] : Fin 2 → IVec S16 32) a x).toNat < S448x128.size a)
theorem k0_idx27_inb : ∀ (v533 : IVec S16 32) (v535 : IVec S16 32) (k0_hw27 : k0_chk27 v533 v535), ∀ a x, ((![v533, v535] : Fin 2 → IVec S16 32) a x).toNat < S448x128.size a := fun v533 v535 k0_hw27 => k0_hw27

def k0_chk28 (v545 : IVec S16 32) (v547 : IVec S16 32) : Prop :=
  (∀ a x, ((![v545, v547] : Fin 2 → IVec S16 32) a x).toNat < S448x128.size a)
theorem k0_idx28_inb : ∀ (v545 : IVec S16 32) (v547 : IVec S16 32) (k0_hw28 : k0_chk28 v545 v547), ∀ a x, ((![v545, v547] : Fin 2 → IVec S16 32) a x).toNat < S448x128.size a := fun v545 v547 k0_hw28 => k0_hw28
def k0_off7 (i : grid0.Coords) (k0_t1 : Fin (k0_t1_loop i).trips) (k0_t2 : Fin k0_t2_loop.trips) : Fin 2 → Nat :=
  let c0_i32_188 : BitVec 32 := 0#32
  let c1_i32_190 : BitVec 32 := 1#32
  let arg14 : BitVec 32 := Scf.iv c0_i32_188 c1_i32_190 k0_t2
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v552 : Index := Scalar.indexCast v220
  let c48 : Index := 48#32
  ![v552.toNat, 48]

def k0_chk29 (v560 : IVec S16 32) (v562 : IVec S16 32) : Prop :=
  (∀ a x, ((![v560, v562] : Fin 2 → IVec S16 32) a x).toNat < S448x128.size a)
theorem k0_idx29_inb : ∀ (v560 : IVec S16 32) (v562 : IVec S16 32) (k0_hw29 : k0_chk29 v560 v562), ∀ a x, ((![v560, v562] : Fin 2 → IVec S16 32) a x).toNat < S448x128.size a := fun v560 v562 k0_hw29 => k0_hw29

def k0_chk30 (v569 : IVec S16 32) (v571 : IVec S16 32) : Prop :=
  (∀ a x, ((![v569, v571] : Fin 2 → IVec S16 32) a x).toNat < S448x128.size a)
theorem k0_idx30_inb : ∀ (v569 : IVec S16 32) (v571 : IVec S16 32) (k0_hw30 : k0_chk30 v569 v571), ∀ a x, ((![v569, v571] : Fin 2 → IVec S16 32) a x).toNat < S448x128.size a := fun v569 v571 k0_hw30 => k0_hw30

def k0_chk31 (v581 : IVec S16 32) (v583 : IVec S16 32) : Prop :=
  (∀ a x, ((![v581, v583] : Fin 2 → IVec S16 32) a x).toNat < S448x128.size a)
theorem k0_idx31_inb : ∀ (v581 : IVec S16 32) (v583 : IVec S16 32) (k0_hw31 : k0_chk31 v581 v583), ∀ a x, ((![v581, v583] : Fin 2 → IVec S16 32) a x).toNat < S448x128.size a := fun v581 v583 k0_hw31 => k0_hw31

def k0_chk32 (v593 : IVec S16 32) (v595 : IVec S16 32) : Prop :=
  (∀ a x, ((![v593, v595] : Fin 2 → IVec S16 32) a x).toNat < S448x128.size a)
theorem k0_idx32_inb : ∀ (v593 : IVec S16 32) (v595 : IVec S16 32) (k0_hw32 : k0_chk32 v593 v595), ∀ a x, ((![v593, v595] : Fin 2 → IVec S16 32) a x).toNat < S448x128.size a := fun v593 v595 k0_hw32 => k0_hw32

def k0_chk33 (v605 : IVec S16 32) (v607 : IVec S16 32) : Prop :=
  (∀ a x, ((![v605, v607] : Fin 2 → IVec S16 32) a x).toNat < S448x128.size a)
theorem k0_idx33_inb : ∀ (v605 : IVec S16 32) (v607 : IVec S16 32) (k0_hw33 : k0_chk33 v605 v607), ∀ a x, ((![v605, v607] : Fin 2 → IVec S16 32) a x).toNat < S448x128.size a := fun v605 v607 k0_hw33 => k0_hw33

def k0_chk34 (v617 : IVec S16 32) (v619 : IVec S16 32) : Prop :=
  (∀ a x, ((![v617, v619] : Fin 2 → IVec S16 32) a x).toNat < S448x128.size a)
theorem k0_idx34_inb : ∀ (v617 : IVec S16 32) (v619 : IVec S16 32) (k0_hw34 : k0_chk34 v617 v619), ∀ a x, ((![v617, v619] : Fin 2 → IVec S16 32) a x).toNat < S448x128.size a := fun v617 v619 k0_hw34 => k0_hw34

def k0_chk35 (v629 : IVec S16 32) (v631 : IVec S16 32) : Prop :=
  (∀ a x, ((![v629, v631] : Fin 2 → IVec S16 32) a x).toNat < S448x128.size a)
theorem k0_idx35_inb : ∀ (v629 : IVec S16 32) (v631 : IVec S16 32) (k0_hw35 : k0_chk35 v629 v631), ∀ a x, ((![v629, v631] : Fin 2 → IVec S16 32) a x).toNat < S448x128.size a := fun v629 v631 k0_hw35 => k0_hw35
def k0_off8 (i : grid0.Coords) (k0_t1 : Fin (k0_t1_loop i).trips) (k0_t2 : Fin k0_t2_loop.trips) : Fin 2 → Nat :=
  let c0_i32_188 : BitVec 32 := 0#32
  let c1_i32_190 : BitVec 32 := 1#32
  let arg14 : BitVec 32 := Scf.iv c0_i32_188 c1_i32_190 k0_t2
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v636 : Index := Scalar.indexCast v220
  let c64 : Index := 64#32
  ![v636.toNat, 64]

def k0_chk36 (v644 : IVec S16 32) (v646 : IVec S16 32) : Prop :=
  (∀ a x, ((![v644, v646] : Fin 2 → IVec S16 32) a x).toNat < S448x128.size a)
theorem k0_idx36_inb : ∀ (v644 : IVec S16 32) (v646 : IVec S16 32) (k0_hw36 : k0_chk36 v644 v646), ∀ a x, ((![v644, v646] : Fin 2 → IVec S16 32) a x).toNat < S448x128.size a := fun v644 v646 k0_hw36 => k0_hw36

def k0_chk37 (v653 : IVec S16 32) (v655 : IVec S16 32) : Prop :=
  (∀ a x, ((![v653, v655] : Fin 2 → IVec S16 32) a x).toNat < S448x128.size a)
theorem k0_idx37_inb : ∀ (v653 : IVec S16 32) (v655 : IVec S16 32) (k0_hw37 : k0_chk37 v653 v655), ∀ a x, ((![v653, v655] : Fin 2 → IVec S16 32) a x).toNat < S448x128.size a := fun v653 v655 k0_hw37 => k0_hw37

def k0_chk38 (v665 : IVec S16 32) (v667 : IVec S16 32) : Prop :=
  (∀ a x, ((![v665, v667] : Fin 2 → IVec S16 32) a x).toNat < S448x128.size a)
theorem k0_idx38_inb : ∀ (v665 : IVec S16 32) (v667 : IVec S16 32) (k0_hw38 : k0_chk38 v665 v667), ∀ a x, ((![v665, v667] : Fin 2 → IVec S16 32) a x).toNat < S448x128.size a := fun v665 v667 k0_hw38 => k0_hw38

def k0_chk39 (v677 : IVec S16 32) (v679 : IVec S16 32) : Prop :=
  (∀ a x, ((![v677, v679] : Fin 2 → IVec S16 32) a x).toNat < S448x128.size a)
theorem k0_idx39_inb : ∀ (v677 : IVec S16 32) (v679 : IVec S16 32) (k0_hw39 : k0_chk39 v677 v679), ∀ a x, ((![v677, v679] : Fin 2 → IVec S16 32) a x).toNat < S448x128.size a := fun v677 v679 k0_hw39 => k0_hw39

def k0_chk40 (v689 : IVec S16 32) (v691 : IVec S16 32) : Prop :=
  (∀ a x, ((![v689, v691] : Fin 2 → IVec S16 32) a x).toNat < S448x128.size a)
theorem k0_idx40_inb : ∀ (v689 : IVec S16 32) (v691 : IVec S16 32) (k0_hw40 : k0_chk40 v689 v691), ∀ a x, ((![v689, v691] : Fin 2 → IVec S16 32) a x).toNat < S448x128.size a := fun v689 v691 k0_hw40 => k0_hw40

def k0_chk41 (v701 : IVec S16 32) (v703 : IVec S16 32) : Prop :=
  (∀ a x, ((![v701, v703] : Fin 2 → IVec S16 32) a x).toNat < S448x128.size a)
theorem k0_idx41_inb : ∀ (v701 : IVec S16 32) (v703 : IVec S16 32) (k0_hw41 : k0_chk41 v701 v703), ∀ a x, ((![v701, v703] : Fin 2 → IVec S16 32) a x).toNat < S448x128.size a := fun v701 v703 k0_hw41 => k0_hw41

def k0_chk42 (v713 : IVec S16 32) (v715 : IVec S16 32) : Prop :=
  (∀ a x, ((![v713, v715] : Fin 2 → IVec S16 32) a x).toNat < S448x128.size a)
theorem k0_idx42_inb : ∀ (v713 : IVec S16 32) (v715 : IVec S16 32) (k0_hw42 : k0_chk42 v713 v715), ∀ a x, ((![v713, v715] : Fin 2 → IVec S16 32) a x).toNat < S448x128.size a := fun v713 v715 k0_hw42 => k0_hw42
def k0_off9 (i : grid0.Coords) (k0_t1 : Fin (k0_t1_loop i).trips) (k0_t2 : Fin k0_t2_loop.trips) : Fin 2 → Nat :=
  let c0_i32_188 : BitVec 32 := 0#32
  let c1_i32_190 : BitVec 32 := 1#32
  let arg14 : BitVec 32 := Scf.iv c0_i32_188 c1_i32_190 k0_t2
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v720 : Index := Scalar.indexCast v220
  let c80 : Index := 80#32
  ![v720.toNat, 80]

def k0_chk43 (v728 : IVec S16 32) (v730 : IVec S16 32) : Prop :=
  (∀ a x, ((![v728, v730] : Fin 2 → IVec S16 32) a x).toNat < S448x128.size a)
theorem k0_idx43_inb : ∀ (v728 : IVec S16 32) (v730 : IVec S16 32) (k0_hw43 : k0_chk43 v728 v730), ∀ a x, ((![v728, v730] : Fin 2 → IVec S16 32) a x).toNat < S448x128.size a := fun v728 v730 k0_hw43 => k0_hw43

def k0_chk44 (v737 : IVec S16 32) (v739 : IVec S16 32) : Prop :=
  (∀ a x, ((![v737, v739] : Fin 2 → IVec S16 32) a x).toNat < S448x128.size a)
theorem k0_idx44_inb : ∀ (v737 : IVec S16 32) (v739 : IVec S16 32) (k0_hw44 : k0_chk44 v737 v739), ∀ a x, ((![v737, v739] : Fin 2 → IVec S16 32) a x).toNat < S448x128.size a := fun v737 v739 k0_hw44 => k0_hw44

def k0_chk45 (v749 : IVec S16 32) (v751 : IVec S16 32) : Prop :=
  (∀ a x, ((![v749, v751] : Fin 2 → IVec S16 32) a x).toNat < S448x128.size a)
theorem k0_idx45_inb : ∀ (v749 : IVec S16 32) (v751 : IVec S16 32) (k0_hw45 : k0_chk45 v749 v751), ∀ a x, ((![v749, v751] : Fin 2 → IVec S16 32) a x).toNat < S448x128.size a := fun v749 v751 k0_hw45 => k0_hw45

def k0_chk46 (v761 : IVec S16 32) (v763 : IVec S16 32) : Prop :=
  (∀ a x, ((![v761, v763] : Fin 2 → IVec S16 32) a x).toNat < S448x128.size a)
theorem k0_idx46_inb : ∀ (v761 : IVec S16 32) (v763 : IVec S16 32) (k0_hw46 : k0_chk46 v761 v763), ∀ a x, ((![v761, v763] : Fin 2 → IVec S16 32) a x).toNat < S448x128.size a := fun v761 v763 k0_hw46 => k0_hw46

def k0_chk47 (v773 : IVec S16 32) (v775 : IVec S16 32) : Prop :=
  (∀ a x, ((![v773, v775] : Fin 2 → IVec S16 32) a x).toNat < S448x128.size a)
theorem k0_idx47_inb : ∀ (v773 : IVec S16 32) (v775 : IVec S16 32) (k0_hw47 : k0_chk47 v773 v775), ∀ a x, ((![v773, v775] : Fin 2 → IVec S16 32) a x).toNat < S448x128.size a := fun v773 v775 k0_hw47 => k0_hw47

def k0_chk48 (v785 : IVec S16 32) (v787 : IVec S16 32) : Prop :=
  (∀ a x, ((![v785, v787] : Fin 2 → IVec S16 32) a x).toNat < S448x128.size a)
theorem k0_idx48_inb : ∀ (v785 : IVec S16 32) (v787 : IVec S16 32) (k0_hw48 : k0_chk48 v785 v787), ∀ a x, ((![v785, v787] : Fin 2 → IVec S16 32) a x).toNat < S448x128.size a := fun v785 v787 k0_hw48 => k0_hw48

def k0_chk49 (v797 : IVec S16 32) (v799 : IVec S16 32) : Prop :=
  (∀ a x, ((![v797, v799] : Fin 2 → IVec S16 32) a x).toNat < S448x128.size a)
theorem k0_idx49_inb : ∀ (v797 : IVec S16 32) (v799 : IVec S16 32) (k0_hw49 : k0_chk49 v797 v799), ∀ a x, ((![v797, v799] : Fin 2 → IVec S16 32) a x).toNat < S448x128.size a := fun v797 v799 k0_hw49 => k0_hw49
def k0_off10 (i : grid0.Coords) (k0_t1 : Fin (k0_t1_loop i).trips) (k0_t2 : Fin k0_t2_loop.trips) : Fin 2 → Nat :=
  let c0_i32_188 : BitVec 32 := 0#32
  let c1_i32_190 : BitVec 32 := 1#32
  let arg14 : BitVec 32 := Scf.iv c0_i32_188 c1_i32_190 k0_t2
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v804 : Index := Scalar.indexCast v220
  let c96 : Index := 96#32
  ![v804.toNat, 96]

def k0_chk50 (v812 : IVec S16 32) (v814 : IVec S16 32) : Prop :=
  (∀ a x, ((![v812, v814] : Fin 2 → IVec S16 32) a x).toNat < S448x128.size a)
theorem k0_idx50_inb : ∀ (v812 : IVec S16 32) (v814 : IVec S16 32) (k0_hw50 : k0_chk50 v812 v814), ∀ a x, ((![v812, v814] : Fin 2 → IVec S16 32) a x).toNat < S448x128.size a := fun v812 v814 k0_hw50 => k0_hw50

def k0_chk51 (v821 : IVec S16 32) (v823 : IVec S16 32) : Prop :=
  (∀ a x, ((![v821, v823] : Fin 2 → IVec S16 32) a x).toNat < S448x128.size a)
theorem k0_idx51_inb : ∀ (v821 : IVec S16 32) (v823 : IVec S16 32) (k0_hw51 : k0_chk51 v821 v823), ∀ a x, ((![v821, v823] : Fin 2 → IVec S16 32) a x).toNat < S448x128.size a := fun v821 v823 k0_hw51 => k0_hw51

def k0_chk52 (v833 : IVec S16 32) (v835 : IVec S16 32) : Prop :=
  (∀ a x, ((![v833, v835] : Fin 2 → IVec S16 32) a x).toNat < S448x128.size a)
theorem k0_idx52_inb : ∀ (v833 : IVec S16 32) (v835 : IVec S16 32) (k0_hw52 : k0_chk52 v833 v835), ∀ a x, ((![v833, v835] : Fin 2 → IVec S16 32) a x).toNat < S448x128.size a := fun v833 v835 k0_hw52 => k0_hw52

def k0_chk53 (v845 : IVec S16 32) (v847 : IVec S16 32) : Prop :=
  (∀ a x, ((![v845, v847] : Fin 2 → IVec S16 32) a x).toNat < S448x128.size a)
theorem k0_idx53_inb : ∀ (v845 : IVec S16 32) (v847 : IVec S16 32) (k0_hw53 : k0_chk53 v845 v847), ∀ a x, ((![v845, v847] : Fin 2 → IVec S16 32) a x).toNat < S448x128.size a := fun v845 v847 k0_hw53 => k0_hw53

def k0_chk54 (v857 : IVec S16 32) (v859 : IVec S16 32) : Prop :=
  (∀ a x, ((![v857, v859] : Fin 2 → IVec S16 32) a x).toNat < S448x128.size a)
theorem k0_idx54_inb : ∀ (v857 : IVec S16 32) (v859 : IVec S16 32) (k0_hw54 : k0_chk54 v857 v859), ∀ a x, ((![v857, v859] : Fin 2 → IVec S16 32) a x).toNat < S448x128.size a := fun v857 v859 k0_hw54 => k0_hw54

def k0_chk55 (v869 : IVec S16 32) (v871 : IVec S16 32) : Prop :=
  (∀ a x, ((![v869, v871] : Fin 2 → IVec S16 32) a x).toNat < S448x128.size a)
theorem k0_idx55_inb : ∀ (v869 : IVec S16 32) (v871 : IVec S16 32) (k0_hw55 : k0_chk55 v869 v871), ∀ a x, ((![v869, v871] : Fin 2 → IVec S16 32) a x).toNat < S448x128.size a := fun v869 v871 k0_hw55 => k0_hw55

def k0_chk56 (v881 : IVec S16 32) (v883 : IVec S16 32) : Prop :=
  (∀ a x, ((![v881, v883] : Fin 2 → IVec S16 32) a x).toNat < S448x128.size a)
theorem k0_idx56_inb : ∀ (v881 : IVec S16 32) (v883 : IVec S16 32) (k0_hw56 : k0_chk56 v881 v883), ∀ a x, ((![v881, v883] : Fin 2 → IVec S16 32) a x).toNat < S448x128.size a := fun v881 v883 k0_hw56 => k0_hw56
def k0_off11 (i : grid0.Coords) (k0_t1 : Fin (k0_t1_loop i).trips) (k0_t2 : Fin k0_t2_loop.trips) : Fin 2 → Nat :=
  let c0_i32_188 : BitVec 32 := 0#32
  let c1_i32_190 : BitVec 32 := 1#32
  let arg14 : BitVec 32 := Scf.iv c0_i32_188 c1_i32_190 k0_t2
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v888 : Index := Scalar.indexCast v220
  let c112 : Index := 112#32
  ![v888.toNat, 112]
def k0_off12 (i : grid0.Coords) (k0_t1 : Fin (k0_t1_loop i).trips) : Fin 2 → Nat :=
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c16_i32_193 : BitVec 32 := 16#32
  let v188 : BitVec 32 := Scalar.muli v168 c16_i32_193
  let c0_i32_194 : BitVec 32 := 0#32
  ![v188.toNat, 0]
def k0_off13 (i : grid0.Coords) (k0_t1 : Fin (k0_t1_loop i).trips) : Fin 2 → Nat :=
  let c3104_i32 : BitVec 32 := 3104#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c3104_i32 v1
  let c32_i32 : BitVec 32 := 32#32
  let c21_i32 : BitVec 32 := 21#32
  let v3 : BitVec 32 := Scalar.minsi v1 c21_i32
  let v4 : BitVec 32 := Scalar.muli c32_i32 v3
  let v5 : BitVec 32 := Scalar.addi v2 v4
  let c0_i32_49 : BitVec 32 := 0#32
  let c1_i32_52 : BitVec 32 := 1#32
  let arg12 : BitVec 32 := Scf.iv c0_i32_49 c1_i32_52 k0_t1
  let c16_i32_192 : BitVec 32 := 16#32
  let v186 : BitVec 32 := Scalar.muli arg12 c16_i32_192
  let v187 : BitVec 32 := Scalar.addi v5 v186
  let c0_i32_195 : BitVec 32 := 0#32
  ![v187.toNat, 0]
def k0_off14 (i : grid0.Coords) (k0_t1 : Fin (k0_t1_loop i).trips) (c0_i32_206 : BitVec 32) : Fin 2 → Nat :=
  let c0_i32_49 : BitVec 32 := 0#32
  let c1_i32_52 : BitVec 32 := 1#32
  let arg12 : BitVec 32 := Scf.iv c0_i32_49 c1_i32_52 k0_t1
  let c3_i32_174 : BitVec 32 := 3#32
  let v168 : BitVec 32 := Scalar.andi arg12 c3_i32_174
  let c112_i32_204 : BitVec 32 := 112#32
  let v203 : BitVec 32 := Scalar.muli v168 c112_i32_204
  let v205 : BitVec 32 := Scalar.addi v203 c0_i32_206
  let c0_i32_207 : BitVec 32 := 0#32
  ![v205.toNat, 0]
def k0_off15 (i : grid0.Coords) (k0_t1 : Fin (k0_t1_loop i).trips) (c0_i32_205 : BitVec 32) : Fin 1 → Nat :=
  let c0_i32_49 : BitVec 32 := 0#32
  let c1_i32_52 : BitVec 32 := 1#32
  let arg12 : BitVec 32 := Scf.iv c0_i32_49 c1_i32_52 k0_t1
  let c4_i32_202 : BitVec 32 := 4#32
  let v201 : BitVec 32 := Scalar.addi arg12 c4_i32_202
  let c112_i32_203 : BitVec 32 := 112#32
  let v202 : BitVec 32 := Scalar.muli v201 c112_i32_203
  let v204 : BitVec 32 := Scalar.addi v202 c0_i32_205
  ![v204.toNat]
@[reducible] def k0_t3_loop (i : grid0.Coords) : Scf.Loop 32 :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let v74 : BitVec 32 := Scalar.addi c0_i32_49 v73
  let c1_i32_53 : BitVec 32 := 1#32
  ⟨v77, v74, c1_i32_53⟩
def k0_off16 (i : grid0.Coords) (k0_t3 : Fin (k0_t3_loop i).trips) : Fin 1 → Nat :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  ![v168.toNat]
def k0_cond2 (i : grid0.Coords) (k0_t3 : Fin (k0_t3_loop i).trips) : BitVec 1 :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c4_i32 : BitVec 32 := 4#32
  let v179 : BitVec 1 := Scalar.cmpi .sge arg12 c4_i32
  let v180 : BitVec 32 := Scalar.extui v179
  let c0_i32_185 : BitVec 32 := 0#32
  let v181 : BitVec 1 := Scalar.cmpi .ne v180 c0_i32_185
  v181

def k0_off17 (i : grid0.Coords) (k0_t3 : Fin (k0_t3_loop i).trips) : Fin 1 → Nat :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  ![v168.toNat]
@[reducible] def k0_t4_loop : Scf.Loop 32 :=
  let c0_i32_188 : BitVec 32 := 0#32
  let c16_i32_189 : BitVec 32 := 16#32
  let v184 : BitVec 32 := Scalar.addi c0_i32_188 c16_i32_189
  let c1_i32_190 : BitVec 32 := 1#32
  ⟨c0_i32_188, v184, c1_i32_190⟩

def k0_chk57 (i : grid0.Coords) (k0_t3 : Fin (k0_t3_loop i).trips) (v224 : IVec S16 32) (v226 : IVec S16 32) : Prop :=
  (∀ a x, ((![v224, v226] : Fin 2 → IVec S16 32) a x).toNat < S448x128.size a)
theorem k0_idx57_inb : ∀ (i : grid0.Coords) (k0_t3 : Fin (k0_t3_loop i).trips) (v224 : IVec S16 32) (v226 : IVec S16 32) (k0_hw57 : k0_chk57 i k0_t3 v224 v226), ∀ a x, ((![v224, v226] : Fin 2 → IVec S16 32) a x).toNat < S448x128.size a := fun i k0_t3 v224 v226 k0_hw57 => k0_hw57

def k0_chk58 (i : grid0.Coords) (k0_t3 : Fin (k0_t3_loop i).trips) (v233 : IVec S16 32) (v235 : IVec S16 32) : Prop :=
  (∀ a x, ((![v233, v235] : Fin 2 → IVec S16 32) a x).toNat < S448x128.size a)
theorem k0_idx58_inb : ∀ (i : grid0.Coords) (k0_t3 : Fin (k0_t3_loop i).trips) (v233 : IVec S16 32) (v235 : IVec S16 32) (k0_hw58 : k0_chk58 i k0_t3 v233 v235), ∀ a x, ((![v233, v235] : Fin 2 → IVec S16 32) a x).toNat < S448x128.size a := fun i k0_t3 v233 v235 k0_hw58 => k0_hw58

def k0_chk59 (i : grid0.Coords) (k0_t3 : Fin (k0_t3_loop i).trips) (v245 : IVec S16 32) (v247 : IVec S16 32) : Prop :=
  (∀ a x, ((![v245, v247] : Fin 2 → IVec S16 32) a x).toNat < S448x128.size a)
theorem k0_idx59_inb : ∀ (i : grid0.Coords) (k0_t3 : Fin (k0_t3_loop i).trips) (v245 : IVec S16 32) (v247 : IVec S16 32) (k0_hw59 : k0_chk59 i k0_t3 v245 v247), ∀ a x, ((![v245, v247] : Fin 2 → IVec S16 32) a x).toNat < S448x128.size a := fun i k0_t3 v245 v247 k0_hw59 => k0_hw59

def k0_chk60 (i : grid0.Coords) (k0_t3 : Fin (k0_t3_loop i).trips) (v257 : IVec S16 32) (v259 : IVec S16 32) : Prop :=
  (∀ a x, ((![v257, v259] : Fin 2 → IVec S16 32) a x).toNat < S448x128.size a)
theorem k0_idx60_inb : ∀ (i : grid0.Coords) (k0_t3 : Fin (k0_t3_loop i).trips) (v257 : IVec S16 32) (v259 : IVec S16 32) (k0_hw60 : k0_chk60 i k0_t3 v257 v259), ∀ a x, ((![v257, v259] : Fin 2 → IVec S16 32) a x).toNat < S448x128.size a := fun i k0_t3 v257 v259 k0_hw60 => k0_hw60

def k0_chk61 (i : grid0.Coords) (k0_t3 : Fin (k0_t3_loop i).trips) (v269 : IVec S16 32) (v271 : IVec S16 32) : Prop :=
  (∀ a x, ((![v269, v271] : Fin 2 → IVec S16 32) a x).toNat < S448x128.size a)
theorem k0_idx61_inb : ∀ (i : grid0.Coords) (k0_t3 : Fin (k0_t3_loop i).trips) (v269 : IVec S16 32) (v271 : IVec S16 32) (k0_hw61 : k0_chk61 i k0_t3 v269 v271), ∀ a x, ((![v269, v271] : Fin 2 → IVec S16 32) a x).toNat < S448x128.size a := fun i k0_t3 v269 v271 k0_hw61 => k0_hw61

def k0_chk62 (i : grid0.Coords) (k0_t3 : Fin (k0_t3_loop i).trips) (v281 : IVec S16 32) (v283 : IVec S16 32) : Prop :=
  (∀ a x, ((![v281, v283] : Fin 2 → IVec S16 32) a x).toNat < S448x128.size a)
theorem k0_idx62_inb : ∀ (i : grid0.Coords) (k0_t3 : Fin (k0_t3_loop i).trips) (v281 : IVec S16 32) (v283 : IVec S16 32) (k0_hw62 : k0_chk62 i k0_t3 v281 v283), ∀ a x, ((![v281, v283] : Fin 2 → IVec S16 32) a x).toNat < S448x128.size a := fun i k0_t3 v281 v283 k0_hw62 => k0_hw62

def k0_chk63 (i : grid0.Coords) (k0_t3 : Fin (k0_t3_loop i).trips) (v293 : IVec S16 32) (v295 : IVec S16 32) : Prop :=
  (∀ a x, ((![v293, v295] : Fin 2 → IVec S16 32) a x).toNat < S448x128.size a)
theorem k0_idx63_inb : ∀ (i : grid0.Coords) (k0_t3 : Fin (k0_t3_loop i).trips) (v293 : IVec S16 32) (v295 : IVec S16 32) (k0_hw63 : k0_chk63 i k0_t3 v293 v295), ∀ a x, ((![v293, v295] : Fin 2 → IVec S16 32) a x).toNat < S448x128.size a := fun i k0_t3 v293 v295 k0_hw63 => k0_hw63
def k0_off18 (i : grid0.Coords) (k0_t3 : Fin (k0_t3_loop i).trips) (k0_t4 : Fin k0_t4_loop.trips) : Fin 2 → Nat :=
  let c0_i32_188 : BitVec 32 := 0#32
  let c1_i32_190 : BitVec 32 := 1#32
  let arg14 : BitVec 32 := Scf.iv c0_i32_188 c1_i32_190 k0_t4
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v300 : Index := Scalar.indexCast v220
  let c0 : Index := 0#32
  ![v300.toNat, 0]

def k0_chk64 (i : grid0.Coords) (k0_t3 : Fin (k0_t3_loop i).trips) (v308 : IVec S16 32) (v310 : IVec S16 32) : Prop :=
  (∀ a x, ((![v308, v310] : Fin 2 → IVec S16 32) a x).toNat < S448x128.size a)
theorem k0_idx64_inb : ∀ (i : grid0.Coords) (k0_t3 : Fin (k0_t3_loop i).trips) (v308 : IVec S16 32) (v310 : IVec S16 32) (k0_hw64 : k0_chk64 i k0_t3 v308 v310), ∀ a x, ((![v308, v310] : Fin 2 → IVec S16 32) a x).toNat < S448x128.size a := fun i k0_t3 v308 v310 k0_hw64 => k0_hw64

def k0_chk65 (i : grid0.Coords) (k0_t3 : Fin (k0_t3_loop i).trips) (v317 : IVec S16 32) (v319 : IVec S16 32) : Prop :=
  (∀ a x, ((![v317, v319] : Fin 2 → IVec S16 32) a x).toNat < S448x128.size a)
theorem k0_idx65_inb : ∀ (i : grid0.Coords) (k0_t3 : Fin (k0_t3_loop i).trips) (v317 : IVec S16 32) (v319 : IVec S16 32) (k0_hw65 : k0_chk65 i k0_t3 v317 v319), ∀ a x, ((![v317, v319] : Fin 2 → IVec S16 32) a x).toNat < S448x128.size a := fun i k0_t3 v317 v319 k0_hw65 => k0_hw65

def k0_chk66 (i : grid0.Coords) (k0_t3 : Fin (k0_t3_loop i).trips) (v329 : IVec S16 32) (v331 : IVec S16 32) : Prop :=
  (∀ a x, ((![v329, v331] : Fin 2 → IVec S16 32) a x).toNat < S448x128.size a)
theorem k0_idx66_inb : ∀ (i : grid0.Coords) (k0_t3 : Fin (k0_t3_loop i).trips) (v329 : IVec S16 32) (v331 : IVec S16 32) (k0_hw66 : k0_chk66 i k0_t3 v329 v331), ∀ a x, ((![v329, v331] : Fin 2 → IVec S16 32) a x).toNat < S448x128.size a := fun i k0_t3 v329 v331 k0_hw66 => k0_hw66

def k0_chk67 (i : grid0.Coords) (k0_t3 : Fin (k0_t3_loop i).trips) (v341 : IVec S16 32) (v343 : IVec S16 32) : Prop :=
  (∀ a x, ((![v341, v343] : Fin 2 → IVec S16 32) a x).toNat < S448x128.size a)
theorem k0_idx67_inb : ∀ (i : grid0.Coords) (k0_t3 : Fin (k0_t3_loop i).trips) (v341 : IVec S16 32) (v343 : IVec S16 32) (k0_hw67 : k0_chk67 i k0_t3 v341 v343), ∀ a x, ((![v341, v343] : Fin 2 → IVec S16 32) a x).toNat < S448x128.size a := fun i k0_t3 v341 v343 k0_hw67 => k0_hw67

def k0_chk68 (i : grid0.Coords) (k0_t3 : Fin (k0_t3_loop i).trips) (v353 : IVec S16 32) (v355 : IVec S16 32) : Prop :=
  (∀ a x, ((![v353, v355] : Fin 2 → IVec S16 32) a x).toNat < S448x128.size a)
theorem k0_idx68_inb : ∀ (i : grid0.Coords) (k0_t3 : Fin (k0_t3_loop i).trips) (v353 : IVec S16 32) (v355 : IVec S16 32) (k0_hw68 : k0_chk68 i k0_t3 v353 v355), ∀ a x, ((![v353, v355] : Fin 2 → IVec S16 32) a x).toNat < S448x128.size a := fun i k0_t3 v353 v355 k0_hw68 => k0_hw68

def k0_chk69 (i : grid0.Coords) (k0_t3 : Fin (k0_t3_loop i).trips) (v365 : IVec S16 32) (v367 : IVec S16 32) : Prop :=
  (∀ a x, ((![v365, v367] : Fin 2 → IVec S16 32) a x).toNat < S448x128.size a)
theorem k0_idx69_inb : ∀ (i : grid0.Coords) (k0_t3 : Fin (k0_t3_loop i).trips) (v365 : IVec S16 32) (v367 : IVec S16 32) (k0_hw69 : k0_chk69 i k0_t3 v365 v367), ∀ a x, ((![v365, v367] : Fin 2 → IVec S16 32) a x).toNat < S448x128.size a := fun i k0_t3 v365 v367 k0_hw69 => k0_hw69

def k0_chk70 (i : grid0.Coords) (k0_t3 : Fin (k0_t3_loop i).trips) (v377 : IVec S16 32) (v379 : IVec S16 32) : Prop :=
  (∀ a x, ((![v377, v379] : Fin 2 → IVec S16 32) a x).toNat < S448x128.size a)
theorem k0_idx70_inb : ∀ (i : grid0.Coords) (k0_t3 : Fin (k0_t3_loop i).trips) (v377 : IVec S16 32) (v379 : IVec S16 32) (k0_hw70 : k0_chk70 i k0_t3 v377 v379), ∀ a x, ((![v377, v379] : Fin 2 → IVec S16 32) a x).toNat < S448x128.size a := fun i k0_t3 v377 v379 k0_hw70 => k0_hw70
def k0_off19 (i : grid0.Coords) (k0_t3 : Fin (k0_t3_loop i).trips) (k0_t4 : Fin k0_t4_loop.trips) : Fin 2 → Nat :=
  let c0_i32_188 : BitVec 32 := 0#32
  let c1_i32_190 : BitVec 32 := 1#32
  let arg14 : BitVec 32 := Scf.iv c0_i32_188 c1_i32_190 k0_t4
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v384 : Index := Scalar.indexCast v220
  let c16 : Index := 16#32
  ![v384.toNat, 16]

def k0_chk71 (i : grid0.Coords) (k0_t3 : Fin (k0_t3_loop i).trips) (v392 : IVec S16 32) (v394 : IVec S16 32) : Prop :=
  (∀ a x, ((![v392, v394] : Fin 2 → IVec S16 32) a x).toNat < S448x128.size a)
theorem k0_idx71_inb : ∀ (i : grid0.Coords) (k0_t3 : Fin (k0_t3_loop i).trips) (v392 : IVec S16 32) (v394 : IVec S16 32) (k0_hw71 : k0_chk71 i k0_t3 v392 v394), ∀ a x, ((![v392, v394] : Fin 2 → IVec S16 32) a x).toNat < S448x128.size a := fun i k0_t3 v392 v394 k0_hw71 => k0_hw71

def k0_chk72 (i : grid0.Coords) (k0_t3 : Fin (k0_t3_loop i).trips) (v401 : IVec S16 32) (v403 : IVec S16 32) : Prop :=
  (∀ a x, ((![v401, v403] : Fin 2 → IVec S16 32) a x).toNat < S448x128.size a)
theorem k0_idx72_inb : ∀ (i : grid0.Coords) (k0_t3 : Fin (k0_t3_loop i).trips) (v401 : IVec S16 32) (v403 : IVec S16 32) (k0_hw72 : k0_chk72 i k0_t3 v401 v403), ∀ a x, ((![v401, v403] : Fin 2 → IVec S16 32) a x).toNat < S448x128.size a := fun i k0_t3 v401 v403 k0_hw72 => k0_hw72

def k0_chk73 (i : grid0.Coords) (k0_t3 : Fin (k0_t3_loop i).trips) (v413 : IVec S16 32) (v415 : IVec S16 32) : Prop :=
  (∀ a x, ((![v413, v415] : Fin 2 → IVec S16 32) a x).toNat < S448x128.size a)
theorem k0_idx73_inb : ∀ (i : grid0.Coords) (k0_t3 : Fin (k0_t3_loop i).trips) (v413 : IVec S16 32) (v415 : IVec S16 32) (k0_hw73 : k0_chk73 i k0_t3 v413 v415), ∀ a x, ((![v413, v415] : Fin 2 → IVec S16 32) a x).toNat < S448x128.size a := fun i k0_t3 v413 v415 k0_hw73 => k0_hw73

def k0_chk74 (i : grid0.Coords) (k0_t3 : Fin (k0_t3_loop i).trips) (v425 : IVec S16 32) (v427 : IVec S16 32) : Prop :=
  (∀ a x, ((![v425, v427] : Fin 2 → IVec S16 32) a x).toNat < S448x128.size a)
theorem k0_idx74_inb : ∀ (i : grid0.Coords) (k0_t3 : Fin (k0_t3_loop i).trips) (v425 : IVec S16 32) (v427 : IVec S16 32) (k0_hw74 : k0_chk74 i k0_t3 v425 v427), ∀ a x, ((![v425, v427] : Fin 2 → IVec S16 32) a x).toNat < S448x128.size a := fun i k0_t3 v425 v427 k0_hw74 => k0_hw74

def k0_chk75 (i : grid0.Coords) (k0_t3 : Fin (k0_t3_loop i).trips) (v437 : IVec S16 32) (v439 : IVec S16 32) : Prop :=
  (∀ a x, ((![v437, v439] : Fin 2 → IVec S16 32) a x).toNat < S448x128.size a)
theorem k0_idx75_inb : ∀ (i : grid0.Coords) (k0_t3 : Fin (k0_t3_loop i).trips) (v437 : IVec S16 32) (v439 : IVec S16 32) (k0_hw75 : k0_chk75 i k0_t3 v437 v439), ∀ a x, ((![v437, v439] : Fin 2 → IVec S16 32) a x).toNat < S448x128.size a := fun i k0_t3 v437 v439 k0_hw75 => k0_hw75

def k0_chk76 (i : grid0.Coords) (k0_t3 : Fin (k0_t3_loop i).trips) (v449 : IVec S16 32) (v451 : IVec S16 32) : Prop :=
  (∀ a x, ((![v449, v451] : Fin 2 → IVec S16 32) a x).toNat < S448x128.size a)
theorem k0_idx76_inb : ∀ (i : grid0.Coords) (k0_t3 : Fin (k0_t3_loop i).trips) (v449 : IVec S16 32) (v451 : IVec S16 32) (k0_hw76 : k0_chk76 i k0_t3 v449 v451), ∀ a x, ((![v449, v451] : Fin 2 → IVec S16 32) a x).toNat < S448x128.size a := fun i k0_t3 v449 v451 k0_hw76 => k0_hw76

def k0_chk77 (i : grid0.Coords) (k0_t3 : Fin (k0_t3_loop i).trips) (v461 : IVec S16 32) (v463 : IVec S16 32) : Prop :=
  (∀ a x, ((![v461, v463] : Fin 2 → IVec S16 32) a x).toNat < S448x128.size a)
theorem k0_idx77_inb : ∀ (i : grid0.Coords) (k0_t3 : Fin (k0_t3_loop i).trips) (v461 : IVec S16 32) (v463 : IVec S16 32) (k0_hw77 : k0_chk77 i k0_t3 v461 v463), ∀ a x, ((![v461, v463] : Fin 2 → IVec S16 32) a x).toNat < S448x128.size a := fun i k0_t3 v461 v463 k0_hw77 => k0_hw77
def k0_off20 (i : grid0.Coords) (k0_t3 : Fin (k0_t3_loop i).trips) (k0_t4 : Fin k0_t4_loop.trips) : Fin 2 → Nat :=
  let c0_i32_188 : BitVec 32 := 0#32
  let c1_i32_190 : BitVec 32 := 1#32
  let arg14 : BitVec 32 := Scf.iv c0_i32_188 c1_i32_190 k0_t4
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v468 : Index := Scalar.indexCast v220
  let c32 : Index := 32#32
  ![v468.toNat, 32]

def k0_chk78 (i : grid0.Coords) (k0_t3 : Fin (k0_t3_loop i).trips) (v476 : IVec S16 32) (v478 : IVec S16 32) : Prop :=
  (∀ a x, ((![v476, v478] : Fin 2 → IVec S16 32) a x).toNat < S448x128.size a)
theorem k0_idx78_inb : ∀ (i : grid0.Coords) (k0_t3 : Fin (k0_t3_loop i).trips) (v476 : IVec S16 32) (v478 : IVec S16 32) (k0_hw78 : k0_chk78 i k0_t3 v476 v478), ∀ a x, ((![v476, v478] : Fin 2 → IVec S16 32) a x).toNat < S448x128.size a := fun i k0_t3 v476 v478 k0_hw78 => k0_hw78

def k0_chk79 (i : grid0.Coords) (k0_t3 : Fin (k0_t3_loop i).trips) (v485 : IVec S16 32) (v487 : IVec S16 32) : Prop :=
  (∀ a x, ((![v485, v487] : Fin 2 → IVec S16 32) a x).toNat < S448x128.size a)
theorem k0_idx79_inb : ∀ (i : grid0.Coords) (k0_t3 : Fin (k0_t3_loop i).trips) (v485 : IVec S16 32) (v487 : IVec S16 32) (k0_hw79 : k0_chk79 i k0_t3 v485 v487), ∀ a x, ((![v485, v487] : Fin 2 → IVec S16 32) a x).toNat < S448x128.size a := fun i k0_t3 v485 v487 k0_hw79 => k0_hw79

def k0_chk80 (i : grid0.Coords) (k0_t3 : Fin (k0_t3_loop i).trips) (v497 : IVec S16 32) (v499 : IVec S16 32) : Prop :=
  (∀ a x, ((![v497, v499] : Fin 2 → IVec S16 32) a x).toNat < S448x128.size a)
theorem k0_idx80_inb : ∀ (i : grid0.Coords) (k0_t3 : Fin (k0_t3_loop i).trips) (v497 : IVec S16 32) (v499 : IVec S16 32) (k0_hw80 : k0_chk80 i k0_t3 v497 v499), ∀ a x, ((![v497, v499] : Fin 2 → IVec S16 32) a x).toNat < S448x128.size a := fun i k0_t3 v497 v499 k0_hw80 => k0_hw80

def k0_chk81 (i : grid0.Coords) (k0_t3 : Fin (k0_t3_loop i).trips) (v509 : IVec S16 32) (v511 : IVec S16 32) : Prop :=
  (∀ a x, ((![v509, v511] : Fin 2 → IVec S16 32) a x).toNat < S448x128.size a)
theorem k0_idx81_inb : ∀ (i : grid0.Coords) (k0_t3 : Fin (k0_t3_loop i).trips) (v509 : IVec S16 32) (v511 : IVec S16 32) (k0_hw81 : k0_chk81 i k0_t3 v509 v511), ∀ a x, ((![v509, v511] : Fin 2 → IVec S16 32) a x).toNat < S448x128.size a := fun i k0_t3 v509 v511 k0_hw81 => k0_hw81

def k0_chk82 (i : grid0.Coords) (k0_t3 : Fin (k0_t3_loop i).trips) (v521 : IVec S16 32) (v523 : IVec S16 32) : Prop :=
  (∀ a x, ((![v521, v523] : Fin 2 → IVec S16 32) a x).toNat < S448x128.size a)
theorem k0_idx82_inb : ∀ (i : grid0.Coords) (k0_t3 : Fin (k0_t3_loop i).trips) (v521 : IVec S16 32) (v523 : IVec S16 32) (k0_hw82 : k0_chk82 i k0_t3 v521 v523), ∀ a x, ((![v521, v523] : Fin 2 → IVec S16 32) a x).toNat < S448x128.size a := fun i k0_t3 v521 v523 k0_hw82 => k0_hw82

def k0_chk83 (i : grid0.Coords) (k0_t3 : Fin (k0_t3_loop i).trips) (v533 : IVec S16 32) (v535 : IVec S16 32) : Prop :=
  (∀ a x, ((![v533, v535] : Fin 2 → IVec S16 32) a x).toNat < S448x128.size a)
theorem k0_idx83_inb : ∀ (i : grid0.Coords) (k0_t3 : Fin (k0_t3_loop i).trips) (v533 : IVec S16 32) (v535 : IVec S16 32) (k0_hw83 : k0_chk83 i k0_t3 v533 v535), ∀ a x, ((![v533, v535] : Fin 2 → IVec S16 32) a x).toNat < S448x128.size a := fun i k0_t3 v533 v535 k0_hw83 => k0_hw83

def k0_chk84 (i : grid0.Coords) (k0_t3 : Fin (k0_t3_loop i).trips) (v545 : IVec S16 32) (v547 : IVec S16 32) : Prop :=
  (∀ a x, ((![v545, v547] : Fin 2 → IVec S16 32) a x).toNat < S448x128.size a)
theorem k0_idx84_inb : ∀ (i : grid0.Coords) (k0_t3 : Fin (k0_t3_loop i).trips) (v545 : IVec S16 32) (v547 : IVec S16 32) (k0_hw84 : k0_chk84 i k0_t3 v545 v547), ∀ a x, ((![v545, v547] : Fin 2 → IVec S16 32) a x).toNat < S448x128.size a := fun i k0_t3 v545 v547 k0_hw84 => k0_hw84
def k0_off21 (i : grid0.Coords) (k0_t3 : Fin (k0_t3_loop i).trips) (k0_t4 : Fin k0_t4_loop.trips) : Fin 2 → Nat :=
  let c0_i32_188 : BitVec 32 := 0#32
  let c1_i32_190 : BitVec 32 := 1#32
  let arg14 : BitVec 32 := Scf.iv c0_i32_188 c1_i32_190 k0_t4
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v552 : Index := Scalar.indexCast v220
  let c48 : Index := 48#32
  ![v552.toNat, 48]

def k0_chk85 (i : grid0.Coords) (k0_t3 : Fin (k0_t3_loop i).trips) (v560 : IVec S16 32) (v562 : IVec S16 32) : Prop :=
  (∀ a x, ((![v560, v562] : Fin 2 → IVec S16 32) a x).toNat < S448x128.size a)
theorem k0_idx85_inb : ∀ (i : grid0.Coords) (k0_t3 : Fin (k0_t3_loop i).trips) (v560 : IVec S16 32) (v562 : IVec S16 32) (k0_hw85 : k0_chk85 i k0_t3 v560 v562), ∀ a x, ((![v560, v562] : Fin 2 → IVec S16 32) a x).toNat < S448x128.size a := fun i k0_t3 v560 v562 k0_hw85 => k0_hw85

def k0_chk86 (i : grid0.Coords) (k0_t3 : Fin (k0_t3_loop i).trips) (v569 : IVec S16 32) (v571 : IVec S16 32) : Prop :=
  (∀ a x, ((![v569, v571] : Fin 2 → IVec S16 32) a x).toNat < S448x128.size a)
theorem k0_idx86_inb : ∀ (i : grid0.Coords) (k0_t3 : Fin (k0_t3_loop i).trips) (v569 : IVec S16 32) (v571 : IVec S16 32) (k0_hw86 : k0_chk86 i k0_t3 v569 v571), ∀ a x, ((![v569, v571] : Fin 2 → IVec S16 32) a x).toNat < S448x128.size a := fun i k0_t3 v569 v571 k0_hw86 => k0_hw86

def k0_chk87 (i : grid0.Coords) (k0_t3 : Fin (k0_t3_loop i).trips) (v581 : IVec S16 32) (v583 : IVec S16 32) : Prop :=
  (∀ a x, ((![v581, v583] : Fin 2 → IVec S16 32) a x).toNat < S448x128.size a)
theorem k0_idx87_inb : ∀ (i : grid0.Coords) (k0_t3 : Fin (k0_t3_loop i).trips) (v581 : IVec S16 32) (v583 : IVec S16 32) (k0_hw87 : k0_chk87 i k0_t3 v581 v583), ∀ a x, ((![v581, v583] : Fin 2 → IVec S16 32) a x).toNat < S448x128.size a := fun i k0_t3 v581 v583 k0_hw87 => k0_hw87

def k0_chk88 (i : grid0.Coords) (k0_t3 : Fin (k0_t3_loop i).trips) (v593 : IVec S16 32) (v595 : IVec S16 32) : Prop :=
  (∀ a x, ((![v593, v595] : Fin 2 → IVec S16 32) a x).toNat < S448x128.size a)
theorem k0_idx88_inb : ∀ (i : grid0.Coords) (k0_t3 : Fin (k0_t3_loop i).trips) (v593 : IVec S16 32) (v595 : IVec S16 32) (k0_hw88 : k0_chk88 i k0_t3 v593 v595), ∀ a x, ((![v593, v595] : Fin 2 → IVec S16 32) a x).toNat < S448x128.size a := fun i k0_t3 v593 v595 k0_hw88 => k0_hw88

def k0_chk89 (i : grid0.Coords) (k0_t3 : Fin (k0_t3_loop i).trips) (v605 : IVec S16 32) (v607 : IVec S16 32) : Prop :=
  (∀ a x, ((![v605, v607] : Fin 2 → IVec S16 32) a x).toNat < S448x128.size a)
theorem k0_idx89_inb : ∀ (i : grid0.Coords) (k0_t3 : Fin (k0_t3_loop i).trips) (v605 : IVec S16 32) (v607 : IVec S16 32) (k0_hw89 : k0_chk89 i k0_t3 v605 v607), ∀ a x, ((![v605, v607] : Fin 2 → IVec S16 32) a x).toNat < S448x128.size a := fun i k0_t3 v605 v607 k0_hw89 => k0_hw89

def k0_chk90 (i : grid0.Coords) (k0_t3 : Fin (k0_t3_loop i).trips) (v617 : IVec S16 32) (v619 : IVec S16 32) : Prop :=
  (∀ a x, ((![v617, v619] : Fin 2 → IVec S16 32) a x).toNat < S448x128.size a)
theorem k0_idx90_inb : ∀ (i : grid0.Coords) (k0_t3 : Fin (k0_t3_loop i).trips) (v617 : IVec S16 32) (v619 : IVec S16 32) (k0_hw90 : k0_chk90 i k0_t3 v617 v619), ∀ a x, ((![v617, v619] : Fin 2 → IVec S16 32) a x).toNat < S448x128.size a := fun i k0_t3 v617 v619 k0_hw90 => k0_hw90

def k0_chk91 (i : grid0.Coords) (k0_t3 : Fin (k0_t3_loop i).trips) (v629 : IVec S16 32) (v631 : IVec S16 32) : Prop :=
  (∀ a x, ((![v629, v631] : Fin 2 → IVec S16 32) a x).toNat < S448x128.size a)
theorem k0_idx91_inb : ∀ (i : grid0.Coords) (k0_t3 : Fin (k0_t3_loop i).trips) (v629 : IVec S16 32) (v631 : IVec S16 32) (k0_hw91 : k0_chk91 i k0_t3 v629 v631), ∀ a x, ((![v629, v631] : Fin 2 → IVec S16 32) a x).toNat < S448x128.size a := fun i k0_t3 v629 v631 k0_hw91 => k0_hw91
def k0_off22 (i : grid0.Coords) (k0_t3 : Fin (k0_t3_loop i).trips) (k0_t4 : Fin k0_t4_loop.trips) : Fin 2 → Nat :=
  let c0_i32_188 : BitVec 32 := 0#32
  let c1_i32_190 : BitVec 32 := 1#32
  let arg14 : BitVec 32 := Scf.iv c0_i32_188 c1_i32_190 k0_t4
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v636 : Index := Scalar.indexCast v220
  let c64 : Index := 64#32
  ![v636.toNat, 64]

def k0_chk92 (i : grid0.Coords) (k0_t3 : Fin (k0_t3_loop i).trips) (v644 : IVec S16 32) (v646 : IVec S16 32) : Prop :=
  (∀ a x, ((![v644, v646] : Fin 2 → IVec S16 32) a x).toNat < S448x128.size a)
theorem k0_idx92_inb : ∀ (i : grid0.Coords) (k0_t3 : Fin (k0_t3_loop i).trips) (v644 : IVec S16 32) (v646 : IVec S16 32) (k0_hw92 : k0_chk92 i k0_t3 v644 v646), ∀ a x, ((![v644, v646] : Fin 2 → IVec S16 32) a x).toNat < S448x128.size a := fun i k0_t3 v644 v646 k0_hw92 => k0_hw92

def k0_chk93 (i : grid0.Coords) (k0_t3 : Fin (k0_t3_loop i).trips) (v653 : IVec S16 32) (v655 : IVec S16 32) : Prop :=
  (∀ a x, ((![v653, v655] : Fin 2 → IVec S16 32) a x).toNat < S448x128.size a)
theorem k0_idx93_inb : ∀ (i : grid0.Coords) (k0_t3 : Fin (k0_t3_loop i).trips) (v653 : IVec S16 32) (v655 : IVec S16 32) (k0_hw93 : k0_chk93 i k0_t3 v653 v655), ∀ a x, ((![v653, v655] : Fin 2 → IVec S16 32) a x).toNat < S448x128.size a := fun i k0_t3 v653 v655 k0_hw93 => k0_hw93

def k0_chk94 (i : grid0.Coords) (k0_t3 : Fin (k0_t3_loop i).trips) (v665 : IVec S16 32) (v667 : IVec S16 32) : Prop :=
  (∀ a x, ((![v665, v667] : Fin 2 → IVec S16 32) a x).toNat < S448x128.size a)
theorem k0_idx94_inb : ∀ (i : grid0.Coords) (k0_t3 : Fin (k0_t3_loop i).trips) (v665 : IVec S16 32) (v667 : IVec S16 32) (k0_hw94 : k0_chk94 i k0_t3 v665 v667), ∀ a x, ((![v665, v667] : Fin 2 → IVec S16 32) a x).toNat < S448x128.size a := fun i k0_t3 v665 v667 k0_hw94 => k0_hw94

def k0_chk95 (i : grid0.Coords) (k0_t3 : Fin (k0_t3_loop i).trips) (v677 : IVec S16 32) (v679 : IVec S16 32) : Prop :=
  (∀ a x, ((![v677, v679] : Fin 2 → IVec S16 32) a x).toNat < S448x128.size a)
theorem k0_idx95_inb : ∀ (i : grid0.Coords) (k0_t3 : Fin (k0_t3_loop i).trips) (v677 : IVec S16 32) (v679 : IVec S16 32) (k0_hw95 : k0_chk95 i k0_t3 v677 v679), ∀ a x, ((![v677, v679] : Fin 2 → IVec S16 32) a x).toNat < S448x128.size a := fun i k0_t3 v677 v679 k0_hw95 => k0_hw95

def k0_chk96 (i : grid0.Coords) (k0_t3 : Fin (k0_t3_loop i).trips) (v689 : IVec S16 32) (v691 : IVec S16 32) : Prop :=
  (∀ a x, ((![v689, v691] : Fin 2 → IVec S16 32) a x).toNat < S448x128.size a)
theorem k0_idx96_inb : ∀ (i : grid0.Coords) (k0_t3 : Fin (k0_t3_loop i).trips) (v689 : IVec S16 32) (v691 : IVec S16 32) (k0_hw96 : k0_chk96 i k0_t3 v689 v691), ∀ a x, ((![v689, v691] : Fin 2 → IVec S16 32) a x).toNat < S448x128.size a := fun i k0_t3 v689 v691 k0_hw96 => k0_hw96

def k0_chk97 (i : grid0.Coords) (k0_t3 : Fin (k0_t3_loop i).trips) (v701 : IVec S16 32) (v703 : IVec S16 32) : Prop :=
  (∀ a x, ((![v701, v703] : Fin 2 → IVec S16 32) a x).toNat < S448x128.size a)
theorem k0_idx97_inb : ∀ (i : grid0.Coords) (k0_t3 : Fin (k0_t3_loop i).trips) (v701 : IVec S16 32) (v703 : IVec S16 32) (k0_hw97 : k0_chk97 i k0_t3 v701 v703), ∀ a x, ((![v701, v703] : Fin 2 → IVec S16 32) a x).toNat < S448x128.size a := fun i k0_t3 v701 v703 k0_hw97 => k0_hw97

def k0_chk98 (i : grid0.Coords) (k0_t3 : Fin (k0_t3_loop i).trips) (v713 : IVec S16 32) (v715 : IVec S16 32) : Prop :=
  (∀ a x, ((![v713, v715] : Fin 2 → IVec S16 32) a x).toNat < S448x128.size a)
theorem k0_idx98_inb : ∀ (i : grid0.Coords) (k0_t3 : Fin (k0_t3_loop i).trips) (v713 : IVec S16 32) (v715 : IVec S16 32) (k0_hw98 : k0_chk98 i k0_t3 v713 v715), ∀ a x, ((![v713, v715] : Fin 2 → IVec S16 32) a x).toNat < S448x128.size a := fun i k0_t3 v713 v715 k0_hw98 => k0_hw98
def k0_off23 (i : grid0.Coords) (k0_t3 : Fin (k0_t3_loop i).trips) (k0_t4 : Fin k0_t4_loop.trips) : Fin 2 → Nat :=
  let c0_i32_188 : BitVec 32 := 0#32
  let c1_i32_190 : BitVec 32 := 1#32
  let arg14 : BitVec 32 := Scf.iv c0_i32_188 c1_i32_190 k0_t4
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v720 : Index := Scalar.indexCast v220
  let c80 : Index := 80#32
  ![v720.toNat, 80]

def k0_chk99 (i : grid0.Coords) (k0_t3 : Fin (k0_t3_loop i).trips) (v728 : IVec S16 32) (v730 : IVec S16 32) : Prop :=
  (∀ a x, ((![v728, v730] : Fin 2 → IVec S16 32) a x).toNat < S448x128.size a)
theorem k0_idx99_inb : ∀ (i : grid0.Coords) (k0_t3 : Fin (k0_t3_loop i).trips) (v728 : IVec S16 32) (v730 : IVec S16 32) (k0_hw99 : k0_chk99 i k0_t3 v728 v730), ∀ a x, ((![v728, v730] : Fin 2 → IVec S16 32) a x).toNat < S448x128.size a := fun i k0_t3 v728 v730 k0_hw99 => k0_hw99

def k0_chk100 (i : grid0.Coords) (k0_t3 : Fin (k0_t3_loop i).trips) (v737 : IVec S16 32) (v739 : IVec S16 32) : Prop :=
  (∀ a x, ((![v737, v739] : Fin 2 → IVec S16 32) a x).toNat < S448x128.size a)
theorem k0_idx100_inb : ∀ (i : grid0.Coords) (k0_t3 : Fin (k0_t3_loop i).trips) (v737 : IVec S16 32) (v739 : IVec S16 32) (k0_hw100 : k0_chk100 i k0_t3 v737 v739), ∀ a x, ((![v737, v739] : Fin 2 → IVec S16 32) a x).toNat < S448x128.size a := fun i k0_t3 v737 v739 k0_hw100 => k0_hw100

def k0_chk101 (i : grid0.Coords) (k0_t3 : Fin (k0_t3_loop i).trips) (v749 : IVec S16 32) (v751 : IVec S16 32) : Prop :=
  (∀ a x, ((![v749, v751] : Fin 2 → IVec S16 32) a x).toNat < S448x128.size a)
theorem k0_idx101_inb : ∀ (i : grid0.Coords) (k0_t3 : Fin (k0_t3_loop i).trips) (v749 : IVec S16 32) (v751 : IVec S16 32) (k0_hw101 : k0_chk101 i k0_t3 v749 v751), ∀ a x, ((![v749, v751] : Fin 2 → IVec S16 32) a x).toNat < S448x128.size a := fun i k0_t3 v749 v751 k0_hw101 => k0_hw101

def k0_chk102 (i : grid0.Coords) (k0_t3 : Fin (k0_t3_loop i).trips) (v761 : IVec S16 32) (v763 : IVec S16 32) : Prop :=
  (∀ a x, ((![v761, v763] : Fin 2 → IVec S16 32) a x).toNat < S448x128.size a)
theorem k0_idx102_inb : ∀ (i : grid0.Coords) (k0_t3 : Fin (k0_t3_loop i).trips) (v761 : IVec S16 32) (v763 : IVec S16 32) (k0_hw102 : k0_chk102 i k0_t3 v761 v763), ∀ a x, ((![v761, v763] : Fin 2 → IVec S16 32) a x).toNat < S448x128.size a := fun i k0_t3 v761 v763 k0_hw102 => k0_hw102

def k0_chk103 (i : grid0.Coords) (k0_t3 : Fin (k0_t3_loop i).trips) (v773 : IVec S16 32) (v775 : IVec S16 32) : Prop :=
  (∀ a x, ((![v773, v775] : Fin 2 → IVec S16 32) a x).toNat < S448x128.size a)
theorem k0_idx103_inb : ∀ (i : grid0.Coords) (k0_t3 : Fin (k0_t3_loop i).trips) (v773 : IVec S16 32) (v775 : IVec S16 32) (k0_hw103 : k0_chk103 i k0_t3 v773 v775), ∀ a x, ((![v773, v775] : Fin 2 → IVec S16 32) a x).toNat < S448x128.size a := fun i k0_t3 v773 v775 k0_hw103 => k0_hw103

def k0_chk104 (i : grid0.Coords) (k0_t3 : Fin (k0_t3_loop i).trips) (v785 : IVec S16 32) (v787 : IVec S16 32) : Prop :=
  (∀ a x, ((![v785, v787] : Fin 2 → IVec S16 32) a x).toNat < S448x128.size a)
theorem k0_idx104_inb : ∀ (i : grid0.Coords) (k0_t3 : Fin (k0_t3_loop i).trips) (v785 : IVec S16 32) (v787 : IVec S16 32) (k0_hw104 : k0_chk104 i k0_t3 v785 v787), ∀ a x, ((![v785, v787] : Fin 2 → IVec S16 32) a x).toNat < S448x128.size a := fun i k0_t3 v785 v787 k0_hw104 => k0_hw104

def k0_chk105 (i : grid0.Coords) (k0_t3 : Fin (k0_t3_loop i).trips) (v797 : IVec S16 32) (v799 : IVec S16 32) : Prop :=
  (∀ a x, ((![v797, v799] : Fin 2 → IVec S16 32) a x).toNat < S448x128.size a)
theorem k0_idx105_inb : ∀ (i : grid0.Coords) (k0_t3 : Fin (k0_t3_loop i).trips) (v797 : IVec S16 32) (v799 : IVec S16 32) (k0_hw105 : k0_chk105 i k0_t3 v797 v799), ∀ a x, ((![v797, v799] : Fin 2 → IVec S16 32) a x).toNat < S448x128.size a := fun i k0_t3 v797 v799 k0_hw105 => k0_hw105
def k0_off24 (i : grid0.Coords) (k0_t3 : Fin (k0_t3_loop i).trips) (k0_t4 : Fin k0_t4_loop.trips) : Fin 2 → Nat :=
  let c0_i32_188 : BitVec 32 := 0#32
  let c1_i32_190 : BitVec 32 := 1#32
  let arg14 : BitVec 32 := Scf.iv c0_i32_188 c1_i32_190 k0_t4
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v804 : Index := Scalar.indexCast v220
  let c96 : Index := 96#32
  ![v804.toNat, 96]

def k0_chk106 (i : grid0.Coords) (k0_t3 : Fin (k0_t3_loop i).trips) (v812 : IVec S16 32) (v814 : IVec S16 32) : Prop :=
  (∀ a x, ((![v812, v814] : Fin 2 → IVec S16 32) a x).toNat < S448x128.size a)
theorem k0_idx106_inb : ∀ (i : grid0.Coords) (k0_t3 : Fin (k0_t3_loop i).trips) (v812 : IVec S16 32) (v814 : IVec S16 32) (k0_hw106 : k0_chk106 i k0_t3 v812 v814), ∀ a x, ((![v812, v814] : Fin 2 → IVec S16 32) a x).toNat < S448x128.size a := fun i k0_t3 v812 v814 k0_hw106 => k0_hw106

def k0_chk107 (i : grid0.Coords) (k0_t3 : Fin (k0_t3_loop i).trips) (v821 : IVec S16 32) (v823 : IVec S16 32) : Prop :=
  (∀ a x, ((![v821, v823] : Fin 2 → IVec S16 32) a x).toNat < S448x128.size a)
theorem k0_idx107_inb : ∀ (i : grid0.Coords) (k0_t3 : Fin (k0_t3_loop i).trips) (v821 : IVec S16 32) (v823 : IVec S16 32) (k0_hw107 : k0_chk107 i k0_t3 v821 v823), ∀ a x, ((![v821, v823] : Fin 2 → IVec S16 32) a x).toNat < S448x128.size a := fun i k0_t3 v821 v823 k0_hw107 => k0_hw107

def k0_chk108 (i : grid0.Coords) (k0_t3 : Fin (k0_t3_loop i).trips) (v833 : IVec S16 32) (v835 : IVec S16 32) : Prop :=
  (∀ a x, ((![v833, v835] : Fin 2 → IVec S16 32) a x).toNat < S448x128.size a)
theorem k0_idx108_inb : ∀ (i : grid0.Coords) (k0_t3 : Fin (k0_t3_loop i).trips) (v833 : IVec S16 32) (v835 : IVec S16 32) (k0_hw108 : k0_chk108 i k0_t3 v833 v835), ∀ a x, ((![v833, v835] : Fin 2 → IVec S16 32) a x).toNat < S448x128.size a := fun i k0_t3 v833 v835 k0_hw108 => k0_hw108

def k0_chk109 (i : grid0.Coords) (k0_t3 : Fin (k0_t3_loop i).trips) (v845 : IVec S16 32) (v847 : IVec S16 32) : Prop :=
  (∀ a x, ((![v845, v847] : Fin 2 → IVec S16 32) a x).toNat < S448x128.size a)
theorem k0_idx109_inb : ∀ (i : grid0.Coords) (k0_t3 : Fin (k0_t3_loop i).trips) (v845 : IVec S16 32) (v847 : IVec S16 32) (k0_hw109 : k0_chk109 i k0_t3 v845 v847), ∀ a x, ((![v845, v847] : Fin 2 → IVec S16 32) a x).toNat < S448x128.size a := fun i k0_t3 v845 v847 k0_hw109 => k0_hw109

def k0_chk110 (i : grid0.Coords) (k0_t3 : Fin (k0_t3_loop i).trips) (v857 : IVec S16 32) (v859 : IVec S16 32) : Prop :=
  (∀ a x, ((![v857, v859] : Fin 2 → IVec S16 32) a x).toNat < S448x128.size a)
theorem k0_idx110_inb : ∀ (i : grid0.Coords) (k0_t3 : Fin (k0_t3_loop i).trips) (v857 : IVec S16 32) (v859 : IVec S16 32) (k0_hw110 : k0_chk110 i k0_t3 v857 v859), ∀ a x, ((![v857, v859] : Fin 2 → IVec S16 32) a x).toNat < S448x128.size a := fun i k0_t3 v857 v859 k0_hw110 => k0_hw110

def k0_chk111 (i : grid0.Coords) (k0_t3 : Fin (k0_t3_loop i).trips) (v869 : IVec S16 32) (v871 : IVec S16 32) : Prop :=
  (∀ a x, ((![v869, v871] : Fin 2 → IVec S16 32) a x).toNat < S448x128.size a)
theorem k0_idx111_inb : ∀ (i : grid0.Coords) (k0_t3 : Fin (k0_t3_loop i).trips) (v869 : IVec S16 32) (v871 : IVec S16 32) (k0_hw111 : k0_chk111 i k0_t3 v869 v871), ∀ a x, ((![v869, v871] : Fin 2 → IVec S16 32) a x).toNat < S448x128.size a := fun i k0_t3 v869 v871 k0_hw111 => k0_hw111

def k0_chk112 (i : grid0.Coords) (k0_t3 : Fin (k0_t3_loop i).trips) (v881 : IVec S16 32) (v883 : IVec S16 32) : Prop :=
  (∀ a x, ((![v881, v883] : Fin 2 → IVec S16 32) a x).toNat < S448x128.size a)
theorem k0_idx112_inb : ∀ (i : grid0.Coords) (k0_t3 : Fin (k0_t3_loop i).trips) (v881 : IVec S16 32) (v883 : IVec S16 32) (k0_hw112 : k0_chk112 i k0_t3 v881 v883), ∀ a x, ((![v881, v883] : Fin 2 → IVec S16 32) a x).toNat < S448x128.size a := fun i k0_t3 v881 v883 k0_hw112 => k0_hw112
def k0_off25 (i : grid0.Coords) (k0_t3 : Fin (k0_t3_loop i).trips) (k0_t4 : Fin k0_t4_loop.trips) : Fin 2 → Nat :=
  let c0_i32_188 : BitVec 32 := 0#32
  let c1_i32_190 : BitVec 32 := 1#32
  let arg14 : BitVec 32 := Scf.iv c0_i32_188 c1_i32_190 k0_t4
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32 : BitVec 32 := 16#32
  let v183 : BitVec 32 := Scalar.muli v168 c16_i32
  let v220 : BitVec 32 := Scalar.addi arg14 v183
  let v888 : Index := Scalar.indexCast v220
  let c112 : Index := 112#32
  ![v888.toNat, 112]
def k0_off26 (i : grid0.Coords) (k0_t3 : Fin (k0_t3_loop i).trips) : Fin 2 → Nat :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c16_i32_193 : BitVec 32 := 16#32
  let v188 : BitVec 32 := Scalar.muli v168 c16_i32_193
  let c0_i32_194 : BitVec 32 := 0#32
  ![v188.toNat, 0]
def k0_off27 (i : grid0.Coords) (k0_t3 : Fin (k0_t3_loop i).trips) : Fin 2 → Nat :=
  let c3104_i32 : BitVec 32 := 3104#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c3104_i32 v1
  let c32_i32 : BitVec 32 := 32#32
  let c21_i32 : BitVec 32 := 21#32
  let v3 : BitVec 32 := Scalar.minsi v1 c21_i32
  let v4 : BitVec 32 := Scalar.muli c32_i32 v3
  let v5 : BitVec 32 := Scalar.addi v2 v4
  let c0_i32_49 : BitVec 32 := 0#32
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c16_i32_192 : BitVec 32 := 16#32
  let v186 : BitVec 32 := Scalar.muli arg12 c16_i32_192
  let v187 : BitVec 32 := Scalar.addi v5 v186
  let c0_i32_195 : BitVec 32 := 0#32
  ![v187.toNat, 0]
def k0_off28 (i : grid0.Coords) (k0_t3 : Fin (k0_t3_loop i).trips) (c0_i32_206 : BitVec 32) : Fin 2 → Nat :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c3_i32_174 : BitVec 32 := 3#32
  let v168 : BitVec 32 := Scalar.andi arg12 c3_i32_174
  let c112_i32_204 : BitVec 32 := 112#32
  let v203 : BitVec 32 := Scalar.muli v168 c112_i32_204
  let v205 : BitVec 32 := Scalar.addi v203 c0_i32_206
  let c0_i32_207 : BitVec 32 := 0#32
  ![v205.toNat, 0]
def k0_off29 (i : grid0.Coords) (k0_t3 : Fin (k0_t3_loop i).trips) (c0_i32_205 : BitVec 32) : Fin 1 → Nat :=
  let c0_i32_49 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c21_i32_0 : BitVec 32 := 21#32
  let v6 : BitVec 1 := Scalar.cmpi .slt v1 c21_i32_0
  let c196_i32 : BitVec 32 := 196#32
  let c194_i32 : BitVec 32 := 194#32
  let v7 : BitVec 32 := Scalar.select v6 c196_i32 c194_i32
  let v73 : BitVec 32 := Scalar.subi v7 c0_i32_49
  let c1_i32_51 : BitVec 32 := 1#32
  let v75 : BitVec 32 := Scalar.divsi v73 c1_i32_51
  let v76 : BitVec 32 := Scalar.muli v75 c1_i32_51
  let v77 : BitVec 32 := Scalar.addi c0_i32_49 v76
  let c1_i32_53 : BitVec 32 := 1#32
  let arg12 : BitVec 32 := Scf.iv v77 c1_i32_53 k0_t3
  let c4_i32_202 : BitVec 32 := 4#32
  let v201 : BitVec 32 := Scalar.addi arg12 c4_i32_202
  let c112_i32_203 : BitVec 32 := 112#32
  let v202 : BitVec 32 := Scalar.muli v201 c112_i32_203
  let v204 : BitVec 32 := Scalar.addi v202 c0_i32_205
  ![v204.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S700000x128 : Shape := ⟨2, ![700000, 128]⟩
abbrev S700000 : Shape := ⟨1, ![700000]⟩
abbrev S_ : Shape := ⟨0, ![]⟩
abbrev S700000x1 : Shape := ⟨2, ![700000, 1]⟩
abbrev S100000x128x7 : Shape := ⟨3, ![100000, 128, 7]⟩
abbrev S100000x128 : Shape := ⟨2, ![100000, 128]⟩

abbrev nBuf : Space → Nat
  | .hbm => 19
  | .vmem => 0
  | .smem => 0
  | _ => 0

abbrev bufTy : (tb : Table) → Fin (tcTables nBuf tb) → BufTy
  | .hbm, ⟨0, _⟩ => ⟨S700000x128, .f32⟩
  | .hbm, ⟨1, _⟩ => ⟨S700000, .i32⟩
  | .hbm, ⟨2, _⟩ => ⟨S_, .i32⟩
  | .hbm, ⟨3, _⟩ => ⟨S700000, .i32⟩
  | .hbm, ⟨4, _⟩ => ⟨S700000, .i1⟩
  | .hbm, ⟨5, _⟩ => ⟨S_, .i32⟩
  | .hbm, ⟨6, _⟩ => ⟨S700000, .i32⟩
  | .hbm, ⟨7, _⟩ => ⟨S700000, .i32⟩
  | .hbm, ⟨8, _⟩ => ⟨S700000, .i32⟩
  | .hbm, ⟨9, _⟩ => ⟨S700000x1, .i32⟩
  | .hbm, ⟨10, _⟩ => ⟨S700000x128, .f32⟩
  | .hbm, ⟨11, _⟩ => ⟨S100000x128x7, .f32⟩
  | .hbm, ⟨12, _⟩ => ⟨S_, .f32⟩
  | .hbm, ⟨13, _⟩ => ⟨S100000x128, .f32⟩
  | .hbm, ⟨14, _⟩ => ⟨S100000x128x7, .i32⟩
  | .hbm, ⟨15, _⟩ => ⟨S_, .f32⟩
  | .hbm, ⟨16, _⟩ => ⟨S_, .i32⟩
  | .hbm, ⟨17, _⟩ => ⟨S100000x128, .f32⟩
  | .hbm, ⟨18, _⟩ => ⟨S100000x128, .i32⟩
  | _, _ => ⟨S700000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Proof.VecProg.lean ====
/-
  One node's inner body, as eight runs of ONE program: sixteen columns of a node, seven gathers of sixteen words each, the
  running maximum and the place it was first reached, both stored.
-/
module

public import proofs.«01_k».proof.Proof.Gen.KernelIdeal.Skeleton
public import Idealize.ShloMosaic.Lib.SparseCore.Ops

@[expose] public section

noncomputable section

namespace Cert.Proof

open Idealize.ShloMosaic Idealize.SL.Sem
open Cert.KernelIdeal Cert.KernelIdeal.Gen

variable {F : FTy → Type} [FloatOps F]

/-- The words' places, `7·f + j` of the columns `f` whose `7·f` is `b`, as the kernel adds them: nothing for `j = 0`. -/
def posOf (b : IVec S16 32) : ℕ → IVec S16 32
  | 0 => b
  | j + 1 => addi b (broadcast S16 (BitVec.ofNat 32 (j + 1)))

/-- The row a place lies in, in the slot's block from `base` on. -/
def rowOf (b : IVec S16 32) (base : BitVec 32) (j : ℕ) : IVec S16 32 :=
  addi (shrsi (posOf b j) (broadcast S16 7#32)) (broadcast S16 base)

/-- The column a place lies in. -/
def colOf (b : IVec S16 32) (j : ℕ) : IVec S16 32 :=
  andi (posOf b j) (broadcast S16 127#32)

variable (i : grid0.Coords)

/-- One of the seven gathers: the bounds are assumed, the words read. -/
def gathOne (arg7 : Memref sig .scVector .vmem S448x128 .f32) (b : IVec S16 32) (base : BitVec 32) (j : ℕ) :
    Prog (TpuEff nD τ sig (Elt F) Λ₀ (.scVector ((i 0).castLE hcore0) ((i 1).castLE hsub0))) (Vec F S16 .f32) := do
  have hw : k0_chk1 (rowOf b base j) (colOf b j) := (← Prog.lift (TpuEff.assume (k0_chk1 (rowOf b base j) (colOf b j)) (k0_chk1.dec (rowOf b base j) (colOf b j)))).down
  SparseCore.vectorLoadIdx arg7 ![rowOf b base j, colOf b j] (k0_idx1_inb (rowOf b base j) (colOf b j) hw) (View.loads_vmem h_S448x128)

/-- The maximum of the first words, in the kernel's order. -/
def maxUpto (g : ℕ → FVec F S16 .f32) : ℕ → FVec F S16 .f32
  | 0 => g 0
  | j + 1 => maximumf (maxUpto g j) (g (j + 1))

/-- The place the maximum of the first words was first reached, as the kernel selects it among its seven constants. -/
def argUpto (g cst : ℕ → FVec F S16 .f32) : ℕ → FVec F S16 .f32
  | 0 => cst 0
  | j + 1 => select (cmpf .ogt (g (j + 1)) (maxUpto g j)) (cst (j + 1)) (argUpto g cst j)

/-- The words or constants `0 … 6`, of their seven values. -/
def seven {α : Type} (a0 a1 a2 a3 a4 a5 a6 : α) : ℕ → α
  | 0 => a0 | 1 => a1 | 2 => a2 | 3 => a3 | 4 => a4 | 5 => a5 | _ => a6

/-- Sixteen columns of one node. -/
def vecStep (arg7 : Memref sig .scVector .vmem S448x128 .f32) (arg8 : Memref sig .scVector .vmem S64x128 .f32) (arg9 : Memref sig .scVector .vmem S64x128 .i32)
    (cst : ℕ → FVec F S16 .f32) (b : IVec S16 32) (base : BitVec 32) (off : Fin 2 → ℕ) (hoff : ∀ a, off a + S1x16.size a ≤ S64x128.size a) :
    Prog (TpuEff nD τ sig (Elt F) Λ₀ (.scVector ((i 0).castLE hcore0) ((i 1).castLE hsub0))) PUnit := do
  let g0 ← gathOne i arg7 b base 0
  let g1 ← gathOne i arg7 b base 1
  let g2 ← gathOne i arg7 b base 2
  let g3 ← gathOne i arg7 b base 3
  let g4 ← gathOne i arg7 b base 4
  let g5 ← gathOne i arg7 b base 5
  let g6 ← gathOne i arg7 b base 6
  let _ ← Prog.lift (.load arg8 (Rect.unit (s := S64x128) off S1x16.size hoff).toLoadRect (View.loadsAt_vmem h_S1x16))
  Prog.lift (.store arg8 (Rect.unit (s := S64x128) off S1x16.size hoff) (shapeCast S1x16 (maxUpto (seven g0 g1 g2 g3 g4 g5 g6) 6) shapeCasts_S16_S1x16) Finset.univ (View.stores_vmem_bits_univ h_S1x16 rfl) (.inl rfl))
  let _ ← Prog.lift (.load arg9 (Rect.unit (s := S64x128) off S1x16.size hoff).toLoadRect (View.loadsAt_vmem h_S1x16))
  Prog.lift (.store arg9 (Rect.unit (s := S64x128) off S1x16.size hoff) (shapeCast S1x16 (fptosi 32 (argUpto (seven g0 g1 g2 g3 g4 g5 g6) cst 6)) shapeCasts_S16_S1x16) Finset.univ (View.stores_vmem_bits_univ h_S1x16 rfl) (.inl rfl))

set_option maxRecDepth 100000 in
set_option maxHeartbeats 4000000 in
/-- The printed body of a node IS eight of them. -/
theorem t2_body_eq (arg2 : Memref sig .scVector .hbm S700000x128 .f32) (harg2 : arg2.IsWhole) (arg3 : Memref sig .scVector .hbm S700672 .i32) (harg3 : arg3.IsWhole) (arg4 : Memref sig .scVector .hbm S100000x128 .f32) (harg4 : arg4.IsWhole) (arg5 : Memref sig .scVector .hbm S100000x128 .i32) (harg5 : arg5.IsWhole) (arg6 : Memref sig .scVector .vmem S22400 .i32) (harg6 : arg6.IsWhole) (arg7 : Memref sig .scVector .vmem S448x128 .f32) (harg7 : arg7.IsWhole) (arg8 : Memref sig .scVector .vmem S64x128 .f32) (harg8 : arg8.IsWhole) (arg9 : Memref sig .scVector .vmem S64x128 .i32) (harg9 : arg9.IsWhole) (arg10 : DmaSems sig S4) (arg11 : DmaSems sig S4) (v168_r0 : DmaSems sig S_)
    (v5 : BitVec 32) (v10 v12 v14 v16 v18 v20 v22 v24 : IVec S16 32) (v25 v26 v27 v28 v29 v30 v31 : FVec F S16 .f32) (c0 c1 : BitVec 32) (t1 : Fin (k0_t1_loop i).trips) (v182 v183 : BitVec 32) (t2 : Fin k0_t2_loop.trips) (a15 : BitVec 32) :
    k0_t2_body i arg2 harg2 arg3 harg3 arg4 harg4 arg5 harg5 arg6 harg6 arg7 harg7 arg8 harg8 arg9 harg9 arg10 arg11 v168_r0 v5 v10 v12 v14 v16 v18 v20 v22 v24 v25 v26 v27 v28 v29 v30 v31 c0 c1 t1 v182 v183 t2 a15
      = (do
        let base : BitVec 32 := Scalar.addi (Scalar.muli (Scf.iv 0#32 1#32 t2) 7#32) v182
        let cst := seven v25 v26 v27 v28 v29 v30 v31
        vecStep i arg7 arg8 arg9 cst v10 base (k0_off4 i t1 t2) (k0_off4_inb i t1 t2)
        vecStep i arg7 arg8 arg9 cst v12 base (k0_off5 i t1 t2) (k0_off5_inb i t1 t2)
        vecStep i arg7 arg8 arg9 cst v14 base (k0_off6 i t1 t2) (k0_off6_inb i t1 t2)
        vecStep i arg7 arg8 arg9 cst v16 base (k0_off7 i t1 t2) (k0_off7_inb i t1 t2)
        vecStep i arg7 arg8 arg9 cst v18 base (k0_off8 i t1 t2) (k0_off8_inb i t1 t2)
        vecStep i arg7 arg8 arg9 cst v20 base (k0_off9 i t1 t2) (k0_off9_inb i t1 t2)
        vecStep i arg7 arg8 arg9 cst v22 base (k0_off10 i t1 t2) (k0_off10_inb i t1 t2)
        vecStep i arg7 arg8 arg9 cst v24 base (k0_off11 i t1 t2) (k0_off11_inb i t1 t2)
        pure 0#32) := by
  rfl

end Cert.Proof
-- ==== Proof.Geom.lean ====
/-
  The kernel's geometry in plain numbers: which nodes a tile has, what its offsets and loop bounds are, the bands of rows
  its buffers are used in, and the words the kernel computes.
-/
module

public import proofs.«01_k».proof.Proof.VecProg
public import Idealize.ShloMosaic.Lib.Pointwise.Index

@[expose] public section

noncomputable section

namespace Cert.Proof

open Idealize.ShloMosaic Idealize.SL.Sem
open Cert.KernelIdeal Cert.KernelIdeal.Gen

/-! ## A tile's nodes -/

/-- The tile's number. -/
def wid (L : grid0.Coords) : ℕ := 2 * (L 1).val + (L 0).val
/-- Its first node. -/
def n0 (L : grid0.Coords) : ℕ := 3104 * wid L + 32 * min (wid L) 21
/-- How many chunks of sixteen nodes it has. -/
def nch (L : grid0.Coords) : ℕ := if wid L < 21 then 196 else 194

theorem L0_lt (L : grid0.Coords) : (L 0).val < 2 := (L 0).isLt
theorem L1_lt (L : grid0.Coords) : (L 1).val < 16 := (L 1).isLt

theorem nch_le (L : grid0.Coords) : nch L ≤ 196 := by unfold nch; split <;> omega
theorem nch_ge (L : grid0.Coords) : 194 ≤ nch L := by unfold nch; split <;> omega
theorem n0_add_le (L : grid0.Coords) : n0 L + 16 * nch L ≤ 100000 := by
  have h0 := L0_lt L; have h1 := L1_lt L
  unfold nch n0 wid; split <;> omega
theorem n0_list_le (L : grid0.Coords) : 7 * n0 L + 22400 ≤ 700672 := by
  have h0 := L0_lt L; have h1 := L1_lt L
  unfold n0 wid; omega

theorem trips_one : ∀ L : grid0.Coords, (k0_t1_loop L).trips = if 2 * (L 1).val + (L 0).val < 21 then 196 else 194 := by decide +kernel
theorem trips_one' (L : grid0.Coords) : (k0_t1_loop L).trips = nch L := trips_one L
theorem trips_two : k0_t2_loop.trips = 16 := by decide +kernel
theorem trips_three (L : grid0.Coords) : (k0_t3_loop L).trips = 0 := Nat.le_zero.mp (k0_t3_abs L).2.1

theorem t1_lt {L : grid0.Coords} (t : Fin (k0_t1_loop L).trips) : t.val < 196 :=
  Nat.lt_of_lt_of_le t.isLt (trips_one' L ▸ nch_le L)
theorem t2_lt (t : Fin k0_t2_loop.trips) : t.val < 16 := trips_two ▸ t.isLt

/-! ## The offsets -/

theorem off1_eq (L : grid0.Coords) : k0_off1 L = ![7 * n0 L] := by
  rw [k0_off1_eq]; congr 1; unfold n0 wid; omega

theorem iv_slot : ∀ t : Fin 196, Scalar.andi (Scf.iv 0#32 1#32 t.val) 3#32 = BitVec.ofNat 32 (t.val % 4) := by decide +kernel
theorem iv_slot' {t : ℕ} (h : t < 196) : Scalar.andi (Scf.iv 0#32 1#32 t) 3#32 = BitVec.ofNat 32 (t % 4) := iv_slot ⟨t, h⟩

theorem off2_eq {L : grid0.Coords} (t : Fin (k0_t1_loop L).trips) : k0_off2 L t = ![t.val % 4] := by
  unfold k0_off2
  simp only [iv_slot' (t1_lt t)]
  congr 1
  simp only [BitVec.toNat_ofNat]; omega
theorem off3_eq {L : grid0.Coords} (t : Fin (k0_t1_loop L).trips) : k0_off3 L t = ![t.val % 4] := off2_eq t

theorem cond1_iff : ∀ t : Fin 196, (Scalar.cmpi .ne (Scalar.extui (Scalar.cmpi .sge (Scf.iv 0#32 1#32 t.val) 4#32)) (0#32 : BitVec 32) = 1#1) ↔ 4 ≤ t.val := by
  decide +kernel
theorem cond1_eq {L : grid0.Coords} (t : Fin (k0_t1_loop L).trips) : (k0_cond1 L t = 1#1) ↔ 4 ≤ t.val := cond1_iff ⟨t.val, t1_lt t⟩

theorem row_word : ∀ (s : Fin 4) (t : Fin 16), (Scalar.addi (Scf.iv 0#32 1#32 t.val) (Scalar.muli (BitVec.ofNat 32 s.val) 16#32)).toNat = 16 * s.val + t.val := by decide +kernel
theorem row_word' {t1 t2 : ℕ} (h : t1 < 196) (h2 : t2 < 16) :
    (Scalar.addi (Scf.iv 0#32 1#32 t2) (Scalar.muli (Scalar.andi (Scf.iv 0#32 1#32 t1) 3#32) 16#32)).toNat = 16 * (t1 % 4) + t2 := by
  rw [iv_slot' h]
  exact row_word ⟨t1 % 4, by omega⟩ ⟨t2, h2⟩

theorem off4_eq {L : grid0.Coords} (t1 : Fin (k0_t1_loop L).trips) (t2 : Fin k0_t2_loop.trips) : k0_off4 L t1 t2 = ![16 * (t1.val % 4) + t2.val, 0] :=
  congrArg (fun n => ![n, 0]) (row_word' (t1_lt t1) (t2_lt t2))
theorem off5_eq {L : grid0.Coords} (t1 : Fin (k0_t1_loop L).trips) (t2 : Fin k0_t2_loop.trips) : k0_off5 L t1 t2 = ![16 * (t1.val % 4) + t2.val, 16] :=
  congrArg (fun n => ![n, 16]) (row_word' (t1_lt t1) (t2_lt t2))
theorem off6_eq {L : grid0.Coords} (t1 : Fin (k0_t1_loop L).trips) (t2 : Fin k0_t2_loop.trips) : k0_off6 L t1 t2 = ![16 * (t1.val % 4) + t2.val, 32] :=
  congrArg (fun n => ![n, 32]) (row_word' (t1_lt t1) (t2_lt t2))
theorem off7_eq {L : grid0.Coords} (t1 : Fin (k0_t1_loop L).trips) (t2 : Fin k0_t2_loop.trips) : k0_off7 L t1 t2 = ![16 * (t1.val % 4) + t2.val, 48] :=
  congrArg (fun n => ![n, 48]) (row_word' (t1_lt t1) (t2_lt t2))
theorem off8_eq {L : grid0.Coords} (t1 : Fin (k0_t1_loop L).trips) (t2 : Fin k0_t2_loop.trips) : k0_off8 L t1 t2 = ![16 * (t1.val % 4) + t2.val, 64] :=
  congrArg (fun n => ![n, 64]) (row_word' (t1_lt t1) (t2_lt t2))
theorem off9_eq {L : grid0.Coords} (t1 : Fin (k0_t1_loop L).trips) (t2 : Fin k0_t2_loop.trips) : k0_off9 L t1 t2 = ![16 * (t1.val % 4) + t2.val, 80] :=
  congrArg (fun n => ![n, 80]) (row_word' (t1_lt t1) (t2_lt t2))
theorem off10_eq {L : grid0.Coords} (t1 : Fin (k0_t1_loop L).trips) (t2 : Fin k0_t2_loop.trips) : k0_off10 L t1 t2 = ![16 * (t1.val % 4) + t2.val, 96] :=
  congrArg (fun n => ![n, 96]) (row_word' (t1_lt t1) (t2_lt t2))
theorem off11_eq {L : grid0.Coords} (t1 : Fin (k0_t1_loop L).trips) (t2 : Fin k0_t2_loop.trips) : k0_off11 L t1 t2 = ![16 * (t1.val % 4) + t2.val, 112] :=
  congrArg (fun n => ![n, 112]) (row_word' (t1_lt t1) (t2_lt t2))

theorem off12_eq {L : grid0.Coords} (t : Fin (k0_t1_loop L).trips) : k0_off12 L t = ![16 * (t.val % 4), 0] := by
  unfold k0_off12
  simp only [iv_slot' (t1_lt t)]
  congr 1
  have h : ∀ s : Fin 4, (Scalar.muli (BitVec.ofNat 32 s.val) 16#32).toNat = 16 * s.val := by decide +kernel
  exact h ⟨t.val % 4, by omega⟩
theorem off13_eq {L : grid0.Coords} (t : Fin (k0_t1_loop L).trips) : k0_off13 L t = ![n0 L + 16 * t.val, 0] := by
  rw [k0_off13_eq]; congr 1; unfold n0 wid; omega
theorem off14_eq {L : grid0.Coords} (t : Fin (k0_t1_loop L).trips) (r : Fin 2) :
    k0_off14 L t (BitVec.ofNat 32 (56 * r.val)) = ![112 * (t.val % 4) + 56 * r.val, 0] := by
  unfold k0_off14
  simp only [iv_slot' (t1_lt t)]
  congr 1
  have h : ∀ (s : Fin 4) (r : Fin 2), (Scalar.addi (Scalar.muli (BitVec.ofNat 32 s.val) 112#32) (BitVec.ofNat 32 (56 * r.val))).toNat = 112 * s.val + 56 * r.val := by decide +kernel
  exact h ⟨t.val % 4, by omega⟩ r
theorem off15_eq {L : grid0.Coords} (t : Fin (k0_t1_loop L).trips) (r : Fin 2) :
    k0_off15 L t (BitVec.ofNat 32 (56 * r.val)) = ![112 * (t.val + 4) + 56 * r.val] := by
  rw [k0_off15_eq]; congr 1; omega

/-! ## The gathers' indices -/

/-- The columns' bases, as the kernel makes them. -/
def basev : ℕ → IVec S16 32
  | 0 => k0_pay459
  | v + 1 => addi k0_pay459 (broadcast S16 (BitVec.ofNat 32 (112 * (v + 1))))

theorem shr_word : ∀ (v : Fin 8) (j : Fin 7) (l : Fin 16),
    (shrsi (posOf (basev v.val) j.val) (broadcast S16 7#32) (ix1 l)).toNat = (7 * (16 * v.val + l.val) + j.val) / 128 := by decide +kernel
theorem col_word : ∀ (v : Fin 8) (j : Fin 7) (l : Fin 16),
    (colOf (basev v.val) j.val (ix1 l)).toNat = (7 * (16 * v.val + l.val) + j.val) % 128 := by decide +kernel
theorem base_word : ∀ (s : Fin 4) (t : Fin 16),
    (Scalar.addi (Scalar.muli (Scf.iv 0#32 1#32 t.val) 7#32) (Scalar.muli (BitVec.ofNat 32 s.val) 112#32)).toNat = 112 * s.val + 7 * t.val := by decide +kernel
theorem base_word' {t1 t2 : ℕ} (h : t1 < 196) (h2 : t2 < 16) :
    (Scalar.addi (Scalar.muli (Scf.iv 0#32 1#32 t2) 7#32) (Scalar.muli (Scalar.andi (Scf.iv 0#32 1#32 t1) 3#32) 112#32)).toNat = 112 * (t1 % 4) + 7 * t2 := by
  rw [iv_slot' h]
  exact base_word ⟨t1 % 4, by omega⟩ ⟨t2, h2⟩

theorem row_word_of {v j : ℕ} (hv : v < 8) (hj : j < 7) (l : Fin 16) {base : BitVec 32} {s t : ℕ} (hs : s < 4) (ht : t < 16)
    (hb : base.toNat = 112 * s + 7 * t) :
    (rowOf (basev v) base j (ix1 l)).toNat = 112 * s + 7 * t + (7 * (16 * v + l.val) + j) / 128 := by
  have e : rowOf (basev v) base j (ix1 l) = shrsi (posOf (basev v) j) (broadcast S16 7#32) (ix1 l) + base := rfl
  rw [e, BitVec.toNat_add, shr_word ⟨v, hv⟩ ⟨j, hj⟩ l, hb]
  have := l.isLt
  have h3 : (7 * (16 * v + l.val) + j) / 128 ≤ 6 := by omega
  simp only []
  omega

/-! ## Bands of rows -/

/-- The rows from `lo`, `n` of them, of a buffer of `R` rows of 128. -/
def band {R : ℕ} (lo n : ℕ) : Finset (⟨2, ![R, 128]⟩ : Shape).Idx := Finset.univ.filter fun i => lo ≤ (i 0).val ∧ (i 0).val < lo + n

theorem mem_band {R lo n : ℕ} {i : (⟨2, ![R, 128]⟩ : Shape).Idx} : i ∈ band lo n ↔ lo ≤ (i 0).val ∧ (i 0).val < lo + n := by
  simp [band]

theorem set_unit_band {R n lo : ℕ} {off : Fin 2 → ℕ} (hoff : off = ![lo, 0]) (h : ∀ a, off a + (⟨2, ![n, 128]⟩ : Shape).size a ≤ (⟨2, ![R, 128]⟩ : Shape).size a) :
    (Rect.unit (s := (⟨2, ![R, 128]⟩ : Shape)) off (⟨2, ![n, 128]⟩ : Shape).size h).set = band lo n := by
  subst hoff
  ext i
  rw [Rect.mem_set_unit, mem_band]
  constructor
  · intro H; exact H 0
  · intro H a
    match a with
    | ⟨0, _⟩ => exact H
    | ⟨1, _⟩ => exact ⟨Nat.zero_le _, by have := (i 1).isLt; simpa using this⟩

theorem band_disjoint {R lo n lo' n' : ℕ} (h : lo + n ≤ lo' ∨ lo' + n' ≤ lo) : Disjoint (band (R := R) lo n) (band lo' n') := by
  rw [Finset.disjoint_left]; intro i hi hi'
  rw [mem_band] at hi hi'; omega

/-- A band is the bands of `m` rows it is cut into. -/
theorem band_cut {R lo m k : ℕ} : (Finset.range k).biUnion (fun j => band (R := R) (lo + m * j) m) = band lo (m * k) := by
  induction k with
  | zero => ext i; simp [mem_band]
  | succ k ih =>
    rw [Finset.range_add_one, Finset.biUnion_insert, ih]
    ext i
    rw [Finset.mem_union, mem_band, mem_band, mem_band, Nat.mul_succ]
    omega

theorem band_all {R : ℕ} : band (R := R) 0 R = Finset.univ := by
  ext i; rw [mem_band]; have : (i 0).val < R := (i 0).isLt; simp [this]

/-! ## The words -/

section Words

variable {F : FTy → Type} [FloatOps F]

/-- The word the list names, in column `c`. -/
def xAt (x : S700000x128.Idx → Elt F .f32) (w : BitVec 32) (c : ℕ) : Elt F .f32 :=
  x (ix2 ⟨w.toNat % 700000, Nat.mod_lt _ (by decide)⟩ ⟨c % 128, Nat.mod_lt _ (by decide)⟩)

/-- The padded list, as words at numbers. -/
def lst (v1 : S700672.Idx → Elt F .i32) (j : ℕ) : BitVec 32 := v1 (ix1 ⟨j % 700672, Nat.mod_lt _ (by decide)⟩)

/-- What chunk `g` of the tile whose first node is `b` brings into its slot. -/
def GT (x : S700000x128.Idx → Elt F .f32) (l : ℕ → BitVec 32) (b g : ℕ) : S448x128.Idx → Elt F .f32 :=
  fun i => xAt x (l (7 * b + 112 * g + (i 0).val % 112)) (i 1).val

/-- Word `j` of the seven that column `f` of node `n` takes. -/
def XV (x : S700000x128.Idx → Elt F .f32) (l : ℕ → BitVec 32) (n f j : ℕ) : F .f32 :=
  xAt x (l (7 * n + (7 * f + j) / 128)) ((7 * f + j) % 128)

/-- The maximum of the first words. -/
def maxS (w : ℕ → F .f32) : ℕ → F .f32
  | 0 => w 0
  | j + 1 => FloatOps.maximumf (maxS w j) (w (j + 1))

/-- The constants the places are selected among. -/
def cstS : ℕ → F .f32 := seven (Scalar.ofBits .f32 0x00000000#32) (Scalar.ofBits .f32 0x3F800000#32) (Scalar.ofBits .f32 0x40000000#32)
  (Scalar.ofBits .f32 0x40400000#32) (Scalar.ofBits .f32 0x40800000#32) (Scalar.ofBits .f32 0x40A00000#32) (Scalar.ofBits .f32 0x40C00000#32)

/-- The place, among the constants, where the maximum of the first words was first reached. -/
def argS (w : ℕ → F .f32) : ℕ → F .f32
  | 0 => cstS 0
  | j + 1 => Scalar.select (FloatOps.cmpf .ogt (w (j + 1)) (maxS w j)) (cstS (j + 1)) (argS w j)

/-- The kernel's first result at node `n`, column `f`; -/
def OV (x : S700000x128.Idx → Elt F .f32) (l : ℕ → BitVec 32) (n f : ℕ) : F .f32 := maxS (XV x l n f) 6
/-- its second. -/
def OI (x : S700000x128.Idx → Elt F .f32) (l : ℕ → BitVec 32) (n f : ℕ) : BitVec 32 := FloatOps.fptosi 32 (argS (XV x l n f) 6)

/-- The seven constants' vectors. -/
def cstv : ℕ → FVec F S16 .f32 := seven (k0_pay467) (k0_pay468) (k0_pay469) (k0_pay470) (k0_pay471) (k0_pay472) (k0_pay473)

theorem cstv_apply (j : ℕ) (l : S16.Idx) : cstv (F := F) j l = cstS j := by
  match j with
  | 0 | 1 | 2 | 3 | 4 | 5 | _ + 6 => rfl

theorem maxUpto_apply (g : ℕ → FVec F S16 .f32) (n : ℕ) (l : S16.Idx) : maxUpto g n l = maxS (fun j => g j l) n := by
  induction n with
  | zero => rfl
  | succ n ih => show FloatOps.maximumf (maxUpto g n l) _ = _; rw [ih]; rfl

theorem argUpto_apply (g : ℕ → FVec F S16 .f32) (n : ℕ) (l : S16.Idx) : argUpto g cstv n l = argS (fun j => g j l) n := by
  induction n with
  | zero => exact cstv_apply 0 l
  | succ n ih =>
    rw [argUpto, argS, ← ih, ← maxUpto_apply, ← cstv_apply (n + 1) l]
    rfl

end Words

end Cert.Proof
-- ==== Proof.Ref.lean ====
/-
  The run of the reference.
-/
module

public import proofs.«01_k».proof.Defs
public import proofs.«01_k».proof.Proof.Gen.ReferenceIdeal
public import Idealize.ShloMosaic.Lib.Claim
public import Idealize.ShloMosaic.Lib.Quiescent
public import Idealize.ShloMosaic.PureOps.Ideal.Laws

@[expose] public section

noncomputable section

namespace Cert.Proof.Ref

open Cert.ReferenceIdeal Cert.ReferenceIdeal.Facts₀ Cert.ReferenceIdeal.Facts
open Idealize.ShloMosaic Idealize.SL.Sem

variable {F : FTy → Type} [FloatOps F]

/-- The start indices the reference reads: the list, a negative word moved up by the number of rows. -/
def starts (n : IVec S700000 32) : IVec S700000x1 32 :=
  broadcastInDim S700000x1 ![0] bcast_S700000_S700000x1_0
    (select (cmpi .slt n (broadcastInDim S700000 ![] bcast_S_S700000 (constantI S_ 32 0#32)))
      (addi n (broadcastInDim S700000 ![] bcast_S_S700000 (constantI S_ 32 700000#32))) n)

/-- The gathered rows, seven words to a node and feature. -/
def cells (x : FVec F S700000x128 .f32) (n : IVec S700000 32) : FVec F S100000x128x7 .f32 :=
  shapeCast S100000x128x7 (Host.gather gather_S700000x128_S700000x1_S700000x128_1_0_n_n_0_1_1128 x (starts n)) shapeCasts_S700000x128_S100000x128x7

def vals (x : FVec F S700000x128 .f32) (n : IVec S700000 32) : FVec F S100000x128 .f32 :=
  Host.reduce FloatOps.maximumf (cells x n) (constant S_ .f32 0xFF800000#32) reducesTo_S100000x128x7_S100000x128_d2 h_S_

def idxs (x : FVec F S700000x128 .f32) (n : IVec S700000 32) : IVec S100000x128 32 := fun j =>
  (Host.argReduce reducer_argmax_f32_i32 (cells x n) (iotaInDim S100000x128x7 32 2) (constant S_ .f32 0xFF800000#32) (constantI S_ 32 0#32)
    reducesTo_S100000x128x7_S100000x128_d2 h_S_ j).2

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v8) = vals (m ((c.tc : Thread nD τ).loc main_arg0)) (m ((c.tc : Thread nD τ).loc main_arg1))
      ∧ r.2.mem ((c.tc : Thread nD τ).loc main_v9) = idxs (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  · rfl
  · simp only [StableHlo.TRef.toBuf, StableHlo.TRef.ofBuf, cast_cast, cast_eq]
    rfl

end Cert.Proof.Ref

end
-- ==== Proof.Argmax.lean ====
/-
  The reference's reducer on (value, index) pairs over the extended reals, and its fold over seven words.
-/
module

public import proofs.«01_k».proof.Proof.Geom
public import proofs.«01_k».proof.Proof.Ref
public import Mathlib.Data.Prod.Lex

@[expose] public section

noncomputable section

namespace Cert.Proof

open Idealize.ShloMosaic

/-- A pair of the reference's fold. -/
abbrev Pr : Type := Ideal .f32 × BitVec 32

abbrev red : Pr → Pr → Pr := Cert.ReferenceIdeal.reducer_argmax_f32_i32 (F := Ideal)

/-- The first pair is kept where its value is greater, or equal with a smaller index. -/
def Keeps (a b : Pr) : Prop := (b.1 : EReal) < a.1 ∨ (a.1 : EReal) = b.1 ∧ a.2.toInt < b.2.toInt

open Classical in
theorem red_eq (a b : Pr) : red a b = if Keeps a b then a else b := by
  obtain ⟨a1, a2⟩ := a
  obtain ⟨b1, b2⟩ := b
  unfold red Cert.ReferenceIdeal.reducer_argmax_f32_i32 Keeps
  simp only [Ideal.cmpf_def, Ideal.cmp, IntOp.cmpi, IntOp.ori, IntOp.andi, Scalar.select]
  change EReal at a1 b1
  rcases lt_trichotomy b1 a1 with h | h | h
  · have e : ∀ x : BitVec 1, (1#1 ||| x) = 1#1 := by decide
    simp [h, e]
  · subst h
    by_cases h2 : a2.toInt < b2.toInt
    · simp [h2, BitVec.slt]
    · simp [h2, BitVec.slt]
  · simp [h, h.le, h.ne, not_lt.mpr h.le]

/-- The order by which the fold is a maximum: the value first, then the index backwards. -/
def key (a : Pr) : EReal ×ₗ ℤ := toLex (a.1, -a.2.toInt)

theorem key_inj : Function.Injective key := by
  rintro ⟨a1, a2⟩ ⟨b1, b2⟩ h
  have h' := congrArg ofLex h
  simp only [key, ofLex_toLex, Prod.mk.injEq, neg_inj] at h'
  exact Prod.ext h'.1 (BitVec.eq_of_toInt_eq h'.2)

theorem keeps_iff (a b : Pr) : Keeps a b ↔ key b < key a := by
  unfold Keeps key
  rw [Prod.Lex.toLex_lt_toLex]
  simp only [neg_lt_neg_iff]
  constructor
  · rintro (h | ⟨h, h'⟩)
    · exact Or.inl h
    · exact Or.inr ⟨h.symm, h'⟩
  · rintro (h | ⟨h, h'⟩)
    · exact Or.inl h
    · exact Or.inr ⟨h.symm, h'⟩

theorem key_red (a b : Pr) : key (red a b) = max (key a) (key b) := by
  classical
  rw [red_eq]
  by_cases h : Keeps a b
  · rw [if_pos h, max_eq_left ((keeps_iff a b).1 h).le]
  · rw [if_neg h, max_eq_right (not_lt.1 fun h' => h ((keeps_iff a b).2 h'))]

instance red_comm : Std.Commutative red := ⟨fun a b => key_inj (by rw [key_red, key_red, max_comm])⟩
instance red_assoc : Std.Associative red := ⟨fun a b c => key_inj (by rw [key_red, key_red, key_red, key_red, max_assoc])⟩

/-- The position of the running maximum. -/
def argI (w : ℕ → Ideal .f32) : ℕ → ℕ
  | 0 => 0
  | j + 1 => if (maxS w j : EReal) < w (j + 1) then j + 1 else argI w j

theorem argI_le (w : ℕ → Ideal .f32) : ∀ j, argI w j ≤ j
  | 0 => le_refl _
  | j + 1 => by
    unfold argI
    split
    · exact le_refl _
    · exact (argI_le w j).trans (Nat.le_succ j)

theorem argS_eq (w : ℕ → Ideal .f32) : ∀ j, argS w j = cstS (argI w j)
  | 0 => rfl
  | j + 1 => by
    show Scalar.select (FloatOps.cmpf .ogt (w (j + 1)) (maxS w j)) (cstS (j + 1)) (argS w j) = _
    rw [argS_eq w j, Ideal.cmpf_def]
    by_cases h : (maxS w j : EReal) < w (j + 1)
    · rw [argI, if_pos h]; simp [Ideal.cmp, Scalar.select, h]
    · rw [argI, if_neg h]; simp [Ideal.cmp, Scalar.select, h]

theorem cst_word : ∀ k, k ≤ 6 → FloatOps.fptosi (F := Ideal) 32 (cstS k) = BitVec.ofNat 32 k := by
  intro k hk
  have e0 : (Scalar.ofBits (F := Ideal) .f32 0x00000000#32 : EReal) = ((0 : ℝ) : EReal) := by
    simp [Ideal.ofBits, Ideal.ieee, -EReal.coe_mul]
  have e1 : (Scalar.ofBits (F := Ideal) .f32 0x3F800000#32 : EReal) = ((1 : ℝ) : EReal) := by
    simp [Ideal.ofBits, Ideal.ieee, -EReal.coe_mul]; norm_num
  have e2 : (Scalar.ofBits (F := Ideal) .f32 0x40000000#32 : EReal) = ((2 : ℝ) : EReal) := by
    simp [Ideal.ofBits, Ideal.ieee, -EReal.coe_mul]; norm_num
  have e3 : (Scalar.ofBits (F := Ideal) .f32 0x40400000#32 : EReal) = ((3 : ℝ) : EReal) := by
    simp [Ideal.ofBits, Ideal.ieee, -EReal.coe_mul]; norm_num
  have e4 : (Scalar.ofBits (F := Ideal) .f32 0x40800000#32 : EReal) = ((4 : ℝ) : EReal) := by
    simp [Ideal.ofBits, Ideal.ieee, -EReal.coe_mul]; norm_num
  have e5 : (Scalar.ofBits (F := Ideal) .f32 0x40A00000#32 : EReal) = ((5 : ℝ) : EReal) := by
    simp [Ideal.ofBits, Ideal.ieee, -EReal.coe_mul]; norm_num
  have e6 : (Scalar.ofBits (F := Ideal) .f32 0x40C00000#32 : EReal) = ((6 : ℝ) : EReal) := by
    simp [Ideal.ofBits, Ideal.ieee, -EReal.coe_mul]; norm_num
  have e : (cstS (F := Ideal) k : EReal) = (((k : ℤ) : ℝ) : EReal) := by
    unfold cstS
    interval_cases k
    · simpa [seven] using e0
    · simpa [seven] using e1
    · simpa [seven] using e2
    · simpa [seven] using e3
    · simpa [seven] using e4
    · simpa [seven] using e5
    · simpa [seven] using e6
  have e' : Ideal.fptosi 32 (((k : ℤ) : ℝ) : EReal) = BitVec.ofNat 32 k := by
    rw [Ideal.fptosi, Ideal.toIntClamped_coe, if_pos (by positivity), Int.floor_intCast,
      min_eq_right (by push_cast; omega), max_eq_right (by push_cast; omega), BitVec.ofInt_natCast]
  exact (congrArg (Ideal.fptosi 32) e).trans e'

/-- The fold of the first `j + 1` pairs. -/
def foldP (w : ℕ → Ideal .f32) : ℕ → Pr
  | 0 => red (FloatOps.ofBits .f32 0xFF800000#32, 0#32) (w 0, 0#32)
  | j + 1 => red (foldP w j) (w (j + 1), BitVec.ofNat 32 (j + 1))

theorem bot_eq : (FloatOps.ofBits (F := Ideal) .f32 0xFF800000#32 : EReal) = ⊥ := by
  simp [Ideal.ofBits, Ideal.ieee]

theorem toInt_small {k : ℕ} (h : k ≤ 6) : (BitVec.ofNat 32 k).toInt = k := by
  interval_cases k <;> rfl

theorem foldP_eq (w : ℕ → Ideal .f32) : ∀ j, j ≤ 6 → foldP w j = (maxS w j, BitVec.ofNat 32 (argI w j))
  | 0, _ => by
    classical
    show red (FloatOps.ofBits .f32 0xFF800000#32, 0#32) (w 0, 0#32) = (w 0, 0#32)
    rw [red_eq, if_neg]
    rintro (h | ⟨-, h⟩)
    · rw [show (FloatOps.ofBits (F := Ideal) .f32 0xFF800000#32) = (⊥ : EReal) from bot_eq] at h
      exact absurd h not_lt_bot
    · exact absurd h (lt_irrefl _)
  | j + 1, hj => by
    classical
    have hi := argI_le w j
    show red (foldP w j) (w (j + 1), BitVec.ofNat 32 (j + 1)) = _
    rw [foldP_eq w j (by omega), red_eq]
    have hm : maxS w (j + 1) = max (maxS w j : EReal) (w (j + 1)) := rfl
    by_cases h : (maxS w j : EReal) < w (j + 1)
    · rw [if_neg, hm, max_eq_right h.le, argI, if_pos h]
      rintro (h' | ⟨h', -⟩)
      · exact absurd h' (not_lt.2 h.le)
      · exact absurd h' h.ne
    · have hle := not_lt.1 h
      rw [if_pos, hm, max_eq_left hle, argI, if_neg h]
      rcases hle.lt_or_eq with h' | h'
      · exact Or.inl h'
      · refine Or.inr ⟨h'.symm, ?_⟩
        show (BitVec.ofNat 32 (argI w j)).toInt < (BitVec.ofNat 32 (j + 1)).toInt
        rw [toInt_small (by omega), toInt_small hj]
        exact_mod_cast Nat.lt_succ_of_le hi

/-- The fold over the seven coordinates, in any order. -/
theorem fold_seven {α : Type} (f : α → α → α) [Std.Commutative f] [Std.Associative f] (b : α) (g : ℕ → α) :
    (Finset.univ : Finset (Fin 7)).fold f b (fun k => g k.val)
      = f (f (f (f (f (f (f b (g 0)) (g 1)) (g 2)) (g 3)) (g 4)) (g 5)) (g 6) := by
  have e : (Finset.univ : Finset (Fin 7)).val = ((List.finRange 7 : List (Fin 7)) : Multiset (Fin 7)) := rfl
  rw [Finset.fold, e, Multiset.map_coe, Multiset.coe_fold_l]
  rfl

theorem fold_max (w : ℕ → Ideal .f32) :
    (Finset.univ : Finset (Fin 7)).fold (FloatOps.maximumf (F := Ideal) (φ := .f32)) (FloatOps.ofBits .f32 0xFF800000#32) (fun k => w k.val) = maxS w 6 := by
  rw [fold_seven]
  have e : FloatOps.maximumf (FloatOps.ofBits (F := Ideal) .f32 0xFF800000#32) (w 0) = w 0 := by
    show max (FloatOps.ofBits (F := Ideal) .f32 0xFF800000#32 : EReal) (w 0) = w 0
    rw [bot_eq]; exact max_eq_right bot_le
  rw [e]; rfl

theorem fold_red (w : ℕ → Ideal .f32) :
    (Finset.univ : Finset (Fin 7)).fold red (FloatOps.ofBits .f32 0xFF800000#32, 0#32) (fun k => (w k.val, BitVec.ofNat 32 k.val))
      = (maxS w 6, BitVec.ofNat 32 (argI w 6)) := by
  rw [fold_seven red _ (fun k => (w k, BitVec.ofNat 32 k)), ← foldP_eq w 6 (le_refl _)]; rfl

theorem word_arg (w : ℕ → Ideal .f32) : FloatOps.fptosi 32 (argS w 6) = BitVec.ofNat 32 (argI w 6) := by
  rw [argS_eq, cst_word _ (argI_le w 6)]

end Cert.Proof

end
-- ==== Proof.Batched.lean ====
/-
  An indirect gather issued as part of a BATCH on its DMA semaphore: the rows of the gather are the next transfers of a
  `Transfers.Batch`, so several gathers may be outstanding on one semaphore and be drained by waits of any of them.
  The rule is open in what the destination's rows are held as (`Din`, `Dout`): elements in write mode will do, which is
  what a tile needs whose other loads read the buffer the gather is still writing.
-/
module

public import Idealize.ShloMosaic.Lib.SparseCore.Stream
public import Idealize.ShloMosaic.Lib.SparseCore.Ops
public import Idealize.ShloMosaic.Lib.Batch
public import Idealize.ShloMosaic.Lib.WriteMode
public import Idealize.ShloMosaic.Lib.Tactic

@[expose] public section

noncomputable section

namespace Cert.Proof

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers

section Gather

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

variable {defs : Defs nD τ sig (Elt F) Λ} (EC : UEmb Counters (MT nD τ sig Ix (Elt F) Name U Lvl)) (𝒱 : Variants) (c : Thread nD τ) (bd : Option 𝒱.V)

/-- The `o` transfers of a batch of `n` that come from the `k`th on. -/
def nextEmb {n o k : ℕ} (hk : k + o ≤ n) : Fin o ↪ Fin n where
  toFun j := ⟨k + j.val, by omega⟩
  inj' := by
    intro a b h
    have := Fin.ext_iff.mp h
    simp only at this
    exact Fin.ext (by omega)

/-- The transfers of a batch not yet issued, the next `o` of them apart. -/
theorem bigSep_pending_add {n o k : ℕ} (hk : k + o ≤ n) (Φ : Fin n → sProp 𝕄) :
    bigSep (pending k) Φ
      = iprop(bigSep Finset.univ (fun j : Fin o => Φ ⟨k + j.val, by omega⟩) ∗ bigSep (pending (k + o)) Φ) := by
  classical
  have e : pending (n := n) k = (Finset.univ.map (nextEmb hk)) ∪ pending (k + o) := by
    ext t
    simp only [pending, Finset.mem_filter, Finset.mem_univ, _root_.true_and, Finset.mem_union, Finset.mem_map]
    constructor
    · intro h
      by_cases h' : k + o ≤ t.val
      · exact .inr h'
      · exact .inl ⟨⟨t.val - k, by omega⟩, Fin.ext (show k + (t.val - k) = t.val by omega)⟩
    · rintro (⟨j, rfl⟩ | h)
      · exact Nat.le_add_right _ _
      · omega
  have hd : Disjoint (Finset.univ.map (nextEmb hk)) (pending (n := n) (k + o)) := by
    refine Finset.disjoint_left.mpr fun t ht ht' => ?_
    simp only [pending, Finset.mem_filter, Finset.mem_univ, _root_.true_and, Finset.mem_map] at ht ht'
    obtain ⟨j, rfl⟩ := ht
    have h2 : k + o ≤ k + j.val := ht'
    omega
  rw [e, BI.bigSep_union hd, BI.bigSep_map]
  rfl

variable {sp : Space} {s₀ s si : Shape} {e : EltTy} {a : Nat} {α : Type} {Q : α → sProp (MT nD τ sig Ix (Elt F) Name U Lvl)}

/-- What row `j` of a gather writes: the source's row that the list names for it. -/
def rowVal (src : Memref sig c.2.kind sp s₀ e) (hg : s₀.Gathers a s) (fs : Buf (Elt F) (src.view.loc c))
    (r : Fin (s.size hg.axis') → Fin (s₀.size hg.axis)) (j : Fin (s.size hg.axis')) : (s.rowShape hg.axis').Idx → Elt F e :=
  fun i => src.view.read (Elt F) fs (hg.rowIdx (r j) i)

/-- `enqueueIndirectGather` at the head of a program, its rows the next transfers of a batch on its semaphore. -/
theorem wp_indirectGatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {n : ℕ} {D : Fin n → sProp 𝕄}
    {qk : Fin (s.size hg.axis') → PosShare TreeShare} {qo : PosShare TreeShare}
    {fs : Buf (Elt F) (src.view.loc c)} {fo : Buf (Elt F) (offs.view.loc c)}
    (Din Dout : Fin (s.size hg.axis') → sProp 𝕄)
    (ι : Ix) (N : ℕ) (hN : ∀ j, (dst.slice (s.rowRect hg.axis' j) (s.stride_rowRect hg.axis' j)).view.dmaCredit = N)
    (hin : ∀ x, (offs.view.read (Elt F) fo x).toNat < s₀.size hg.axis)
    (k₀ u : ℕ) (hk : k₀ + s.size hg.axis' ≤ n) (hu : u ≤ k₀ * N)
    (hwr : ∀ j, Din j ⊢ writeUpdate c (dst.view.slice (s.rowRect hg.axis' j))
      (rowVal c src hg fs (rows (offs.view.read (Elt F) fo) hn hin) j) (Dout j))
    (hD : ∀ j, iprop((Dout j ∗ offs.view.loc c ↦[{offs.view.emb (si.rowMajor.symm (j.cast hn.symm))}]{qo} fo)
        ∗ (src.view.loc c ↦[src.view.set]{qk j} fs)) ⊢ D ⟨k₀ + j.val, by omega⟩) :
    iprop(bigSep Finset.univ (fun j : Fin (s.size hg.axis') =>
          iprop((Din j ∗ offs.view.loc c ↦[{offs.view.emb (si.rowMajor.symm (j.cast hn.symm))}]{qo} fo)
            ∗ (src.view.loc c ↦[src.view.set]{qk j} fs)))
        ∗ Batch EC c (.dma sem) ι N D k₀ u)
      ⊢ iprop((Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => show (rd j).dst.view.dmaCredit = N from hN j]
    simp
  unfold Batch
  iintro ⟨HR, ⟨%γ, %γ₀, %κ, #Hinv, HI, H0, Hcred⟩⟩ Hk
  ihave HI2 := (Entails.of_eq (bigSep_pending_add hk (fun t => count EC (γ t) 0))) $$ HI
  icases HI2 with ⟨HI, HI'⟩
  iapply (wp_enqueueIndirectDma 𝒱 c bd Set.univ (qo := qo) (fo := fo) (rd := rd) ι (s.size hg.axis' * N) hA hrd hsum) $$ [HR HI]
  · have hrow : ∀ j, iprop(inv κ (batchBody EC (c, SemLoc.dma sem) N D γ γ₀)
          ∗ (((Din j ∗ S.heldEntry qo fo j) ∗ (src.view.loc c ↦[src.view.set]{qk j} fs)) ∗ count EC (γ ⟨k₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists qk j, fs, iprop(Dout j ∗ S.heldEntry qo fo j)
      isplitl [Hsq]; · iexact Hsq
      isplitl [Hr He]
      · iapply writeUpdate_frame
        isplitl [Hr]
        · iapply (hwr j) $$ Hr
        · iexact He
      · have hc : (rd j).dst.view.amount (.dma sem) = N := hN j
        rw [hc]
        iapply (batch_creditUpdate EC ⟨k₀ + j.val, by omega⟩ (hD j))
        isplitr; · iexact Hinv
        iexact Hγj
    unfold Stream.res
    ihave H3 := Transfers.bigSep_sep_in _ _ _ $$ [HR HI]; · isplitl [HR] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI']; · iexact HI'
    isplitl [H0]; · iexact H0
    rw [show (k₀ + s.size hg.axis') * N - u = (k₀ * N - u) + s.size hg.axis' * N by rw [Nat.add_mul]; omega, ← tallyAt_add]
    icombine Hcred Hcred' as H
    iexact H

end Gather

end Cert.Proof
-- ==== Proof.Setup.lean ====
/-
  The program as the launch theorem sees it, the resource algebra, and write mode's splitting and joining.
-/
module

public import proofs.«01_k».proof.Defs
public import proofs.«01_k».proof.Proof.Batched
public import proofs.«01_k».proof.Proof.Geom
public import Idealize.ShloMosaic.Lib.SparseCore.Quiescent
public import Idealize.ShloMosaic.Lib.SparseCore.Ops
public import Idealize.ShloMosaic.Lib.SparseCore.Stream
public import Idealize.ShloMosaic.Lib.WriteMode
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UW (F : FTy → Type) : Type := WmRA nD τ sig (Elt F)
abbrev UU (F : FTy → Type) : Type := UH × (UW F × Counters)

local notation "𝕄" => MT nD τ sig (HIx 1) (Elt F) ℕ (UU F) ℕ

abbrev EH : Emb UH (MT nD τ sig (HIx 1) (Elt F) ℕ (UU F) ℕ) := embL
/-- Where write mode's algebra lies. -/
abbrev EW : UEmb (UW F) (UU F) := (UEmb.inl : UEmb (UW F) (UW F × Counters)).trans UEmb.inr
/-- The counters. -/
abbrev EC : UEmb Counters (MT nD τ sig (HIx 1) (Elt F) ℕ (UU F) ℕ) := countersEmb

/-- Elements in write mode. -/
abbrev wb (ℓ : Loc nD τ sig) (I : Finset (Idx ℓ)) (q : PosShare TreeShare) (f : Buf (Elt F) ℓ) (g : Tgt (Elt F) ℓ) (W : Finset (Idx ℓ)) : sProp 𝕄 :=
  willBeTo (Ix := HIx 1) (Name := ℕ) (Lvl := ℕ) (EW (F := F)) ℓ I q f g W

abbrev wmI (κ : ℕ) : sProp 𝕄 := wmInv (Ix := HIx 1) (Name := ℕ) (Lvl := ℕ) (EW (F := F)) κ

section Wb

variable {ℓ : Loc nD τ sig} {I J : Finset (Idx ℓ)} {q : PosShare TreeShare} {f f' : Buf (Elt F) ℓ} {g g' : Tgt (Elt F) ℓ} {W W' : Finset (Idx ℓ)}

instance wb_storable : BI.Storable (upEmb : UEmb _ 𝕄) (wb (F := F) ℓ I q f g W) := by unfold wb; infer_instance

theorem wb_congr (hf : ∀ i ∈ I, f i = f' i) (hg : ∀ i ∈ I, g i = g' i) (hW : ∀ i ∈ I, i ∈ W ↔ i ∈ W') :
    (wb ℓ I q f g W : sProp 𝕄) = wb ℓ I q f' g' W' := BI.Region.willBe_congr hf hg hW

theorem wb_union (h : Disjoint I J) : (wb ℓ (I ∪ J) q f g W : sProp 𝕄) = iprop(wb ℓ I q f g W ∗ wb ℓ J q f g W) :=
  BI.Entails.antisymm (BI.Region.held_union h).1 (BI.Region.held_union h).2

/-- Write mode over a union of disjoint sets of elements is write mode over each. -/
theorem wb_biUnion {ι : Type} [DecidableEq ι] (s : Finset ι) (hs : s.Nonempty) (A : ι → Finset (Idx ℓ)) (h : ∀ a ∈ s, ∀ b ∈ s, a ≠ b → Disjoint (A a) (A b)) :
    (wb ℓ (s.biUnion A) q f g W : sProp 𝕄) = bigSep s fun a => wb ℓ (A a) q f g W := by
  induction hs using Finset.Nonempty.cons_induction with
  | singleton a => rw [Finset.singleton_biUnion, bigSep_singleton]
  | cons a s ha hs ih =>
    rw [Finset.cons_eq_insert] at h ⊢
    rw [Finset.biUnion_insert, wb_union, SparseCore.bigSep_insert' ha, ih fun x hx y hy => h x (Finset.mem_insert_of_mem hx) y (Finset.mem_insert_of_mem hy)]
    rw [Finset.disjoint_biUnion_right]
    intro b hb
    exact h a (Finset.mem_insert_self _ _) b (Finset.mem_insert_of_mem hb) fun e => ha (e ▸ hb)

theorem wb_halve : (wb ℓ I q f g W : sProp 𝕄) ⊢ iprop(wb ℓ I q.left f g W ∗ wb ℓ I q.right f g W) :=
  (BI.Region.held_share (PosShare.mem_left_op_right q) fun i _ => by
    simpa only [Bool.or_self] using RA.Region.WB.mem_mk_op_mk (f i) (g i) (decide (i ∈ W)) (decide (i ∈ W))).1

theorem wb_join {W₁ W₂ : Finset (Idx ℓ)} : iprop(wb ℓ I q.left f g W₁ ∗ wb ℓ I q.right f g W₂) ⊢ (wb ℓ I q f g (W₁ ∪ W₂) : sProp 𝕄) := by
  iintro ⟨H1, H2⟩
  icombine H1 H2 as H
  iexact H

end Wb

/-! ## A family over four numbers in a row, by remainder -/

section Four

/-- The number from `k` on whose remainder by four is `s`. -/
def at4 (k s : ℕ) : ℕ := k + (s + 4 - k % 4) % 4

theorem at4_mod {k s : ℕ} (h : s < 4) : at4 k s % 4 = s := by unfold at4; omega
theorem at4_range {k s : ℕ} : k ≤ at4 k s ∧ at4 k s < k + 4 := by unfold at4; omega
theorem at4_self {g k : ℕ} (h : k ≤ g) (h' : g < k + 4) : at4 k (g % 4) = g := by unfold at4; omega

theorem bigSep_Ico_four {M : Type} [URA M] (Φ : ℕ → sProp M) (k : ℕ) :
    bigSep (Finset.Ico k (k + 4)) Φ = iprop(Φ (at4 k 0) ∗ Φ (at4 k 1) ∗ Φ (at4 k 2) ∗ Φ (at4 k 3)) := by
  have e : Finset.Ico k (k + 4) = {at4 k 0, at4 k 1, at4 k 2, at4 k 3} := by
    ext g
    simp only [Finset.mem_Ico, Finset.mem_insert, Finset.mem_singleton]
    unfold at4; omega
  rw [e, SparseCore.bigSep_insert', SparseCore.bigSep_insert', SparseCore.bigSep_insert', bigSep_singleton]
  all_goals
    simp only [Finset.mem_insert, Finset.mem_singleton]
    unfold at4; omega

theorem bigSep_Ico_head {M : Type} [URA M] (Φ : ℕ → sProp M) {k n : ℕ} (h : k < n) :
    bigSep (Finset.Ico k n) Φ = iprop(Φ k ∗ bigSep (Finset.Ico (k + 1) n) Φ) := by
  rw [show Finset.Ico k n = insert k (Finset.Ico (k + 1) n) from by ext; simp only [Finset.mem_Ico, Finset.mem_insert]; omega,
    SparseCore.bigSep_insert' (by simp)]

theorem bigSep_Ico_last {M : Type} [URA M] (Φ : ℕ → sProp M) {k n : ℕ} (h : k ≤ n) :
    bigSep (Finset.Ico k (n + 1)) Φ = iprop(Φ n ∗ bigSep (Finset.Ico k n) Φ) := by
  rw [show Finset.Ico k (n + 1) = insert n (Finset.Ico k n) from by ext; simp only [Finset.mem_Ico, Finset.mem_insert]; omega,
    SparseCore.bigSep_insert' (by simp)]

theorem bigSep_range_last {M : Type} [URA M] (Φ : ℕ → sProp M) {n : ℕ} :
    bigSep (Finset.range (n + 1)) Φ = iprop(Φ n ∗ bigSep (Finset.range n) Φ) := by
  rw [Finset.range_add_one, SparseCore.bigSep_insert' (by simp)]

/-- A family over a range of numbers as one over `Fin`. -/
theorem bigSep_range_fin {M : Type} [URA M] (Φ : ℕ → sProp M) (n : ℕ) :
    bigSep (Finset.range n) Φ = bigSep Finset.univ fun j : Fin n => Φ j.val := by
  rw [show Finset.range n = Finset.univ.map (Fin.valEmbedding (n := n)) from by
    ext x; simp only [Finset.mem_range, Finset.mem_map, Finset.mem_univ, _root_.true_and, Fin.valEmbedding_apply]
    exact ⟨fun h => ⟨⟨x, h⟩, rfl⟩, by rintro ⟨y, rfl⟩; exact y.isLt⟩, BI.bigSep_map]
  rfl

end Four

end Cert.Proof
-- ==== Proof.Vector.lean ====
/-
  One node's columns, sixteen at a time: what a gather out of the row buffer in write mode reads, and what a vector step
  leaves in the two result buffers.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "aR" => (Memref.whole Cert.KernelIdeal.cc0_scratch1 : Memref Cert.KernelIdeal.sig Kind.scVector Space.vmem Cert.KernelIdeal.S448x128 EltTy.f32)
local notation "aV" => (Memref.whole Cert.KernelIdeal.cc0_scratch2 : Memref Cert.KernelIdeal.sig Kind.scVector Space.vmem Cert.KernelIdeal.S64x128 EltTy.f32)
local notation "aI" => (Memref.whole Cert.KernelIdeal.cc0_scratch3 : Memref Cert.KernelIdeal.sig Kind.scVector Space.vmem Cert.KernelIdeal.S64x128 EltTy.i32)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)
abbrev rLoc (d : Dev nD) (L : grid0.Coords) : Loc nD τ sig := (thr d L).loc cc0_scratch1
abbrev vLoc (d : Dev nD) (L : grid0.Coords) : Loc nD τ sig := (thr d L).loc cc0_scratch2
abbrev iLoc (d : Dev nD) (L : grid0.Coords) : Loc nD τ sig := (thr d L).loc cc0_scratch3

/-- The word at row `r`, column `c` of the row buffer. -/
def cell (val : S448x128.Idx → F .f32) (r c : ℕ) : F .f32 :=
  val (ix2 ⟨r % 448, Nat.mod_lt _ (by decide)⟩ ⟨c % 128, Nat.mod_lt _ (by decide)⟩)

/-- Word `j` of column `f` of the node whose seven rows begin at row `r`. -/
def seg (val : S448x128.Idx → F .f32) (r f j : ℕ) : F .f32 := cell val (r + (7 * f + j) / 128) ((7 * f + j) % 128)

/-- Sixteen columns of one row replaced. -/
def upd {α : Type} (f : S64x128.Idx → α) (r v : ℕ) (w : ℕ → α) : S64x128.Idx → α :=
  fun i => if (i 0).val = r ∧ 16 * v ≤ (i 1).val ∧ (i 1).val < 16 * v + 16 then w (i 1).val else f i

variable (d : Dev nD) (L : grid0.Coords)

local notation "WP " p ", " Q => wp frame (wpE (defs₀ (F := F)) 𝒱₀ (thr d L) none) Set.univ p Q

/-- What the row buffer, in write mode, is known to hold in rows `112·s …`, whatever of it is being written. -/
def Knows (val : S448x128.Idx → F .f32) (s : ℕ) (f : Buf (Elt F) (rLoc d L)) (g : Tgt (Elt F) (rLoc d L)) : Prop :=
  ∀ i : S448x128.Idx, 112 * s ≤ (i 0).val → (i 0).val < 112 * s + 112 → f i = val i ∧ g i = some (val i)

theorem gathOne_bind {α : Type} (i : grid0.Coords) (b : IVec S16 32) (base : BitVec 32) (j : ℕ)
    (k : Vec F S16 .f32 → Prog (TpuEff nD τ sig (Elt F) Λ₀ (.scVector ((i 0).castLE hcore0) ((i 1).castLE hsub0))) α) :
    gathOne i aR b base j >>= k
      = .op (TpuEff.assume (k0_chk1 (rowOf b base j) (colOf b j)) (k0_chk1.dec (rowOf b base j) (colOf b j))) fun hw =>
        .op (.load aR (.whole S448x128) (View.loadsAt_whole (View.loads_vmem h_S448x128))) fun f =>
          k (loadIdx f ![rowOf b base j, colOf b j] (k0_idx1_inb (rowOf b base j) (colOf b j) hw.down)) := rfl

theorem wp_gathOne {α : Type} {Q : α → sProp 𝕄} {κ : ℕ} {q : PosShare TreeShare} {f : Buf (Elt F) (rLoc d L)} {g : Tgt (Elt F) (rLoc d L)}
    {W : Finset (Idx (rLoc d L))} {val : S448x128.Idx → F .f32} {s t v j : ℕ} (hs : s < 4) (ht : t < 16) (hv : v < 8) (hj : j < 7)
    {base : BitVec 32} (hb : base.toNat = 112 * s + 7 * t) (hK : Knows d L val s f g)
    {k : Vec F S16 .f32 → Prog (TpuEff nD τ sig (Elt F) Λ₀ (.scVector (cV L) (jV L))) α} :
    iprop(wmI (F := F) κ ∗ wb (rLoc d L) Finset.univ q f g W)
      ⊢ iprop((wb (rLoc d L) Finset.univ q f g W -∗ WP (k fun l => seg val (112 * s + 7 * t) (16 * v + (l 0).val) j), Q)
          -∗ WP (gathOne L aR (basev v) base j >>= k), Q) := by
  have hc : ∀ l : S16.Idx, (rowOf (basev v) base j l).toNat = 112 * s + 7 * t + (7 * (16 * v + (l 0).val) + j) / 128
      ∧ (colOf (basev v) j l).toNat = (7 * (16 * v + (l 0).val) + j) % 128 := fun l => by
    obtain ⟨l, rfl⟩ : ∃ a : Fin 16, l = ix1 a := ⟨l 0, eq_ix1 l⟩
    exact ⟨row_word_of hv hj l hs ht hb, col_word ⟨v, hv⟩ ⟨j, hj⟩ l⟩
  have hl16 : ∀ l : S16.Idx, (l 0).val < 16 := fun l => (l 0).isLt
  have hchk : k0_chk1 (rowOf (basev v) base j) (colOf (basev v) j) := by
    intro a l
    have h1 := hl16 l
    match a with
    | ⟨0, _⟩ => show (rowOf (basev v) base j l).toNat < 448; rw [(hc l).1]; omega
    | ⟨1, _⟩ => show (colOf (basev v) j l).toNat < 128; rw [(hc l).2]; omega
  rw [gathOne_bind]
  iintro H Hk
  iapply (wp_assume 𝒱₀ (thr d L) none Set.univ hchk)
  iapply (wp_load_willBeTo (m := aR) 𝒱₀ (thr d L) none Set.univ (S := Finset.univ) (Finset.subset_univ _)) $$ H
  iintro %cur %W' %hW H
  have e : (loadIdx (t := S16) (F := F) (e := .f32) ((aR).view.readAt (Elt F) (LoadRect.whole S448x128) cur) ![rowOf (basev v) base j, colOf (basev v) j]
      (k0_idx1_inb _ _ hchk)) = fun l => seg val (112 * s + 7 * t) (16 * v + (l 0).val) j := by
    rw [show (aR).view.readAt (Elt F) (LoadRect.whole S448x128) cur = cur from Memref.readAt_whole _ _ _]
    funext l
    obtain ⟨h1, h2⟩ := hc l
    have h3 := hl16 l
    let i : S448x128.Idx := ix2 (n0 := 448) (n1 := 128) ⟨112 * s + 7 * t + (7 * (16 * v + (l 0).val) + j) / 128, by omega⟩ ⟨(7 * (16 * v + (l 0).val) + j) % 128, by omega⟩
    have ei : (idxAt ![rowOf (basev v) base j, colOf (basev v) j] (k0_idx1_inb _ _ hchk) l) = i := by
      funext a
      match a with
      | ⟨0, _⟩ => exact Fin.ext h1
      | ⟨1, _⟩ => exact Fin.ext h2
    have ev : cur i = val i := by
      obtain ⟨hf, hg⟩ := hK i (show 112 * s ≤ 112 * s + 7 * t + (7 * (16 * v + (l 0).val) + j) / 128 by omega)
        (show 112 * s + 7 * t + (7 * (16 * v + (l 0).val) + j) / 128 < 112 * s + 112 by omega)
      by_cases hi : i ∈ W'
      · exact (hW.2 i (Finset.mem_univ _)).2 hi _ hg
      · exact ((hW.2 i (Finset.mem_univ _)).1 hi).trans hf
    show cur (idxAt ![rowOf (basev v) base j, colOf (basev v) j] (k0_idx1_inb _ _ hchk) l) = _
    rw [ei, ev]
    unfold seg cell
    congr 1
    funext a
    match a with
    | ⟨0, _⟩ => exact Fin.ext (show 112 * s + 7 * t + (7 * (16 * v + (l 0).val) + j) / 128 = (112 * s + 7 * t + (7 * (16 * v + (l 0).val) + j) / 128) % 448 by omega)
    | ⟨1, _⟩ => exact Fin.ext (show (7 * (16 * v + (l 0).val) + j) % 128 = ((7 * (16 * v + (l 0).val) + j) % 128) % 128 by omega)
  rw [e]
  iapply Hk $$ H

/-- Sixteen columns of row `r` as the kernel addresses them. -/
theorem mem_row16 {r v : ℕ} {off : Fin 2 → ℕ} (ho : off = ![r, 16 * v]) (h : ∀ a, off a + S1x16.size a ≤ S64x128.size a) {i : S64x128.Idx} :
    i ∈ (Rect.unit (s := S64x128) off S1x16.size h).set ↔ (i 0).val = r ∧ 16 * v ≤ (i 1).val ∧ (i 1).val < 16 * v + 16 := by
  subst ho
  rw [Rect.mem_set_unit]
  constructor
  · intro H
    have h0 : r ≤ (i 0).val ∧ (i 0).val < r + 1 := H 0
    exact ⟨by omega, H 1⟩
  · intro H a
    match a with
    | ⟨0, _⟩ => show r ≤ (i 0).val ∧ (i 0).val < r + 1; omega
    | ⟨1, _⟩ => exact H.2

/-- The vector's lane of a place in the row piece. -/
abbrev lane (x : S1x16.Idx) : S16.Idx := ix1 (n0 := 16) (x 1)

/-- Storing a vector there, in a buffer of either element type, replaces those columns. -/
theorem write_row16 {e : EltTy} (m : Memref sig .scVector .vmem S64x128 e) {r v : ℕ} {off : Fin 2 → ℕ} (ho : off = ![r, 16 * v])
    (h : ∀ a, off a + S1x16.size a ≤ S64x128.size a) (f f' : m.view.ty.Contents (Elt F)) (w : Vec F S16 e)
    (hin : ∀ x : S1x16.Idx, f' (m.view.emb ((Rect.unit (s := S64x128) off S1x16.size h).emb x)) = _root_.cast (congrArg (Elt F) m.view.elt_eq.symm) (w (lane x)))
    (hout : ∀ i, i ∉ (m.access (Rect.unit (s := S64x128) off S1x16.size h)).set → f' i = f i) :
    (m.access (Rect.unit (s := S64x128) off S1x16.size h)).write (Elt F) f (shapeCast S1x16 w shapeCasts_S16_S1x16) Finset.univ = f' := by
  funext i
  by_cases hi : i ∈ (m.access (Rect.unit (s := S64x128) off S1x16.size h)).set
  · obtain ⟨x, -, rfl⟩ := Finset.mem_map.mp hi
    rw [View.write_emb_of_mem _ _ (Finset.mem_univ _)]
    refine Eq.trans ?_ (hin x).symm
    congr 1
    unfold shapeCast
    refine congrArg w (Shape.reshapeEquiv_eq_of_rowMajor _ ?_)
    rw [Shape.rowMajor_val_one, Shape.rowMajor_val_two]
    have h0 : (x 0).val < 1 := (x 0).isLt
    show (x 1).val = (x 0).val * 16 + (x 1).val
    omega
  · rw [View.write_of_not_mem _ _ _ (by rwa [View.setOn_univ]), hout i hi]

theorem vecStep_bind {α : Type} (i : grid0.Coords) (cst : ℕ → FVec F S16 .f32) (b : IVec S16 32) (base : BitVec 32) (off : Fin 2 → ℕ)
    (hoff : ∀ a, off a + S1x16.size a ≤ S64x128.size a)
    (k : PUnit → Prog (TpuEff nD τ sig (Elt F) Λ₀ (.scVector ((i 0).castLE hcore0) ((i 1).castLE hsub0))) α) :
    vecStep i aR aV aI cst b base off hoff >>= k
      = gathOne i aR b base 0 >>= fun g0 => gathOne i aR b base 1 >>= fun g1 => gathOne i aR b base 2 >>= fun g2 =>
        gathOne i aR b base 3 >>= fun g3 => gathOne i aR b base 4 >>= fun g4 => gathOne i aR b base 5 >>= fun g5 =>
        gathOne i aR b base 6 >>= fun g6 =>
        .op (.load aV (Rect.unit (s := S64x128) off S1x16.size hoff).toLoadRect (View.loadsAt_vmem h_S1x16)) fun _ =>
        .op (.store aV (Rect.unit (s := S64x128) off S1x16.size hoff) (shapeCast S1x16 (maxUpto (seven g0 g1 g2 g3 g4 g5 g6) 6) shapeCasts_S16_S1x16) Finset.univ (View.stores_vmem_bits_univ h_S1x16 rfl) (.inl rfl)) fun _ =>
        .op (.load aI (Rect.unit (s := S64x128) off S1x16.size hoff).toLoadRect (View.loadsAt_vmem h_S1x16)) fun _ =>
        .op (.store aI (Rect.unit (s := S64x128) off S1x16.size hoff) (shapeCast S1x16 (fptosi 32 (argUpto (seven g0 g1 g2 g3 g4 g5 g6) cst 6)) shapeCasts_S16_S1x16) Finset.univ (View.stores_vmem_bits_univ h_S1x16 rfl) (.inl rfl)) k := rfl

/-- The seven gathers' vectors, read at a lane, are the words. -/
theorem seven_lane (w : ℕ → ℕ → F .f32) (v j : ℕ) (hj : j < 7) (l : S16.Idx) :
    seven (fun l : S16.Idx => w (16 * v + (l 0).val) 0) (fun l => w (16 * v + (l 0).val) 1) (fun l => w (16 * v + (l 0).val) 2) (fun l => w (16 * v + (l 0).val) 3)
      (fun l => w (16 * v + (l 0).val) 4) (fun l => w (16 * v + (l 0).val) 5) (fun l => w (16 * v + (l 0).val) 6) j l = w (16 * v + (l 0).val) j := by
  match j, hj with
  | 0, _ | 1, _ | 2, _ | 3, _ | 4, _ | 5, _ | 6, _ => rfl

theorem maxS_congr {w w' : ℕ → F .f32} {n : ℕ} (h : ∀ j ≤ n, w j = w' j) : maxS w n = maxS w' n := by
  induction n with
  | zero => exact h 0 le_rfl
  | succ n ih => rw [maxS, maxS, ih fun j hj => h j (Nat.le_succ_of_le hj), h _ le_rfl]

theorem argS_congr {w w' : ℕ → F .f32} {n : ℕ} (h : ∀ j ≤ n, w j = w' j) : argS w n = argS w' n := by
  induction n with
  | zero => rfl
  | succ n ih => rw [argS, argS, ih fun j hj => h j (Nat.le_succ_of_le hj), h _ le_rfl, maxS_congr fun j hj => h j (Nat.le_succ_of_le hj)]

set_option maxHeartbeats 1000000 in
theorem wp_vecStep {α : Type} {Q : α → sProp 𝕄} {κ : ℕ} {q : PosShare TreeShare} {f : Buf (Elt F) (rLoc d L)} {g : Tgt (Elt F) (rLoc d L)}
    {W : Finset (Idx (rLoc d L))} {val : S448x128.Idx → F .f32} {s t v : ℕ} (hs : s < 4) (ht : t < 16) (hv : v < 8)
    {base : BitVec 32} (hb : base.toNat = 112 * s + 7 * t) (hK : Knows d L val s f g)
    {off : Fin 2 → ℕ} (ho : off = ![16 * s + t, 16 * v]) (hoff : ∀ a, off a + S1x16.size a ≤ S64x128.size a)
    {A : Finset S64x128.Idx} (hA : ∀ i : S64x128.Idx, (i 0).val = 16 * s + t → i ∈ A)
    {f8 : Buf (Elt F) (vLoc d L)} {f9 : Buf (Elt F) (iLoc d L)} {basis : IVec S16 32} (hbasis : basis = basev v)
    {k : PUnit → Prog (TpuEff nD τ sig (Elt F) Λ₀ (.scVector (cV L) (jV L))) α} :
    iprop(wmI (F := F) κ ∗ wb (rLoc d L) Finset.univ q f g W ∗ (vLoc d L ↦[A]{fullShare} f8) ∗ (iLoc d L ↦[A]{fullShare} f9))
      ⊢ iprop((wb (rLoc d L) Finset.univ q f g W
            ∗ (vLoc d L ↦[A]{fullShare} (upd f8 (16 * s + t) v fun f => maxS (seg val (112 * s + 7 * t) f) 6 : S64x128.Idx → Elt F .f32))
            ∗ (iLoc d L ↦[A]{fullShare} (upd f9 (16 * s + t) v fun f => FloatOps.fptosi 32 (argS (seg val (112 * s + 7 * t) f) 6) : S64x128.Idx → Elt F .i32))
            -∗ WP (k ⟨⟩), Q)
          -∗ WP (vecStep L aR aV aI cstv basis base off hoff >>= k), Q) := by
  subst hbasis
  rw [vecStep_bind]
  iintro ⟨#Hwm, HR, H8, H9⟩ Hk
  iapply (wp_gathOne d L (q := q) (W := W) hs ht hv (show 0 < 7 by omega) hb hK) $$ [HR]
  · isplitr; · iexact Hwm
    iexact HR
  iintro HR
  iapply (wp_gathOne d L (q := q) (W := W) hs ht hv (show 1 < 7 by omega) hb hK) $$ [HR]
  · isplitr; · iexact Hwm
    iexact HR
  iintro HR
  iapply (wp_gathOne d L (q := q) (W := W) hs ht hv (show 2 < 7 by omega) hb hK) $$ [HR]
  · isplitr; · iexact Hwm
    iexact HR
  iintro HR
  iapply (wp_gathOne d L (q := q) (W := W) hs ht hv (show 3 < 7 by omega) hb hK) $$ [HR]
  · isplitr; · iexact Hwm
    iexact HR
  iintro HR
  iapply (wp_gathOne d L (q := q) (W := W) hs ht hv (show 4 < 7 by omega) hb hK) $$ [HR]
  · isplitr; · iexact Hwm
    iexact HR
  iintro HR
  iapply (wp_gathOne d L (q := q) (W := W) hs ht hv (show 5 < 7 by omega) hb hK) $$ [HR]
  · isplitr; · iexact Hwm
    iexact HR
  iintro HR
  iapply (wp_gathOne d L (q := q) (W := W) hs ht hv (show 6 < 7 by omega) hb hK) $$ [HR]
  · isplitr; · iexact Hwm
    iexact HR
  iintro HR
  have hset : (Rect.unit (s := S64x128) off S1x16.size hoff).set ⊆ A := fun i hi => hA i ((mem_row16 ho hoff).mp hi).1
  have hsV : ((aV).access (Rect.unit (s := S64x128) off S1x16.size hoff)).set = (Rect.unit (s := S64x128) off S1x16.size hoff).set := View.set_slice_whole _ _
  have hsI : ((aI).access (Rect.unit (s := S64x128) off S1x16.size hoff)).set = (Rect.unit (s := S64x128) off S1x16.size hoff).set := View.set_slice_whole _ _
  have hemb : ∀ x : S1x16.Idx, ((Rect.unit (s := S64x128) off S1x16.size hoff).emb x 0).val = 16 * s + t
      ∧ ((Rect.unit (s := S64x128) off S1x16.size hoff).emb x 1).val = 16 * v + (x 1).val := fun x => by
    subst ho
    have h0 : (x 0).val < 1 := (x 0).isLt
    constructor
    · show 16 * s + t + 1 * (x 0).val = _; omega
    · show 16 * v + 1 * (x 1).val = _; omega
  have h16 : ∀ x : S1x16.Idx, (x 1).val < 16 := fun x => (x 1).isLt
  iapply (wp_load_rect (m := aV) (r := Rect.unit (s := S64x128) off S1x16.size hoff) (S := A) (q := fullShare) (f := f8) 𝒱₀ (thr d L) none Set.univ (hsV ▸ hset)) $$ H8
  iintro H8
  iapply (wp_store (m := aV) (r := Rect.unit (s := S64x128) off S1x16.size hoff) (S := A) (f := f8) 𝒱₀ (thr d L) none Set.univ (by rw [View.setOn_univ, hsV]; exact hset)) $$ H8
  iintro H8
  rw [write_row16 aV ho hoff f8 (upd f8 (16 * s + t) v fun f => maxS (seg val (112 * s + 7 * t) f) 6 : S64x128.Idx → Elt F .f32) _
    (fun x => by
      obtain ⟨e0, e1⟩ := hemb x
      have := h16 x
      show upd f8 _ _ _ ((Rect.unit (s := S64x128) off S1x16.size hoff).emb x) = maxUpto _ 6 (lane x)
      unfold upd
      rw [if_pos ⟨e0, by omega, by omega⟩, maxUpto_apply, e1]
      exact maxS_congr fun j hj => (seven_lane (fun f j => seg val (112 * s + 7 * t) f j) v j (by omega) (lane x)).symm)
    (fun i hi => by
      rw [hsV, mem_row16 ho hoff] at hi
      exact if_neg hi)]
  iapply (wp_load_rect (m := aI) (r := Rect.unit (s := S64x128) off S1x16.size hoff) (S := A) (q := fullShare) (f := f9) 𝒱₀ (thr d L) none Set.univ (hsI ▸ hset)) $$ H9
  iintro H9
  iapply (wp_store (m := aI) (r := Rect.unit (s := S64x128) off S1x16.size hoff) (S := A) (f := f9) 𝒱₀ (thr d L) none Set.univ (by rw [View.setOn_univ, hsI]; exact hset)) $$ H9
  iintro H9
  rw [write_row16 aI ho hoff f9 (upd f9 (16 * s + t) v fun f => FloatOps.fptosi 32 (argS (seg val (112 * s + 7 * t) f) 6) : S64x128.Idx → Elt F .i32) _
    (fun x => by
      obtain ⟨e0, e1⟩ := hemb x
      have := h16 x
      show upd f9 _ _ _ ((Rect.unit (s := S64x128) off S1x16.size hoff).emb x) = FloatOps.fptosi 32 (argUpto _ cstv 6 (lane x))
      unfold upd
      rw [if_pos ⟨e0, by omega, by omega⟩, argUpto_apply, e1]
      exact congrArg _ (argS_congr fun j hj => (seven_lane (fun f j => seg val (112 * s + 7 * t) f j) v j (by omega) (lane x)).symm))
    (fun i hi => by
      rw [hsI, mem_row16 ho hoff] at hi
      exact if_neg hi)]
  iapply Hk
  isplitl [HR]; · iexact HR
  isplitl [H8]; · iexact H8
  iexact H9

end Cert.Proof
-- ==== Proof.Node.lean ====
/-
  A chunk's sixteen nodes: the inner loop, by an invariant counted in words of the two result buffers.
-/
module

public import proofs.«01_k».proof.Proof.Vector

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ (UU F) ℕ
local notation "aX" => (Memref.whole Cert.KernelIdeal.main_arg0_scv : Memref Cert.KernelIdeal.sig Kind.scVector Space.hbm Cert.KernelIdeal.S700000x128 EltTy.f32)
local notation "aL" => (Memref.whole Cert.KernelIdeal.main_v1_scv : Memref Cert.KernelIdeal.sig Kind.scVector Space.hbm Cert.KernelIdeal.S700672 EltTy.i32)
local notation "aO" => (Memref.whole Cert.KernelIdeal.main_v2_0_scv : Memref Cert.KernelIdeal.sig Kind.scVector Space.hbm Cert.KernelIdeal.S100000x128 EltTy.f32)
local notation "aP" => (Memref.whole Cert.KernelIdeal.main_v2_1_scv : Memref Cert.KernelIdeal.sig Kind.scVector Space.hbm Cert.KernelIdeal.S100000x128 EltTy.i32)
local notation "aJ" => (Memref.whole Cert.KernelIdeal.cc0_scratch0 : Memref Cert.KernelIdeal.sig Kind.scVector Space.vmem Cert.KernelIdeal.S22400 EltTy.i32)
local notation "aR" => (Memref.whole Cert.KernelIdeal.cc0_scratch1 : Memref Cert.KernelIdeal.sig Kind.scVector Space.vmem Cert.KernelIdeal.S448x128 EltTy.f32)
local notation "aV" => (Memref.whole Cert.KernelIdeal.cc0_scratch2 : Memref Cert.KernelIdeal.sig Kind.scVector Space.vmem Cert.KernelIdeal.S64x128 EltTy.f32)
local notation "aI" => (Memref.whole Cert.KernelIdeal.cc0_scratch3 : Memref Cert.KernelIdeal.sig Kind.scVector Space.vmem Cert.KernelIdeal.S64x128 EltTy.i32)

variable (d : Dev nD) (L : grid0.Coords)

local notation "WP " p ", " Q => wp frame (wpE (defs₀ (F := F)) 𝒱₀ (thr d L) none) Set.univ p Q

/-- The first `q` words of slot `s`'s sixteen rows are done. -/
def Done {α : Type} (VV : ℕ → ℕ → α) (s q : ℕ) (f : S64x128.Idx → α) : Prop :=
  ∀ i : S64x128.Idx, 16 * s ≤ (i 0).val → 128 * ((i 0).val - 16 * s) + (i 1).val < q → f i = VV ((i 0).val - 16 * s) (i 1).val

theorem Done.upd {α : Type} {VV : ℕ → ℕ → α} {s t v : ℕ} {f : S64x128.Idx → α} (hv : v < 8) (h : Done VV s (128 * t + 16 * v) f) :
    Done VV s (128 * t + 16 * (v + 1)) (upd f (16 * s + t) v (VV t)) := by
  intro i h1 h2
  have h3 : (i 1).val < 128 := (i 1).isLt
  unfold Cert.Proof.upd
  split
  next hc =>
    obtain ⟨e, -, -⟩ := hc
    rw [show (i 0).val - 16 * s = t by omega]
  next hc => exact h i h1 (by omega)

/-- What a chunk's slot leaves as maxima, node by node and column by column; -/
def MV (val : S448x128.Idx → F .f32) (s t f : ℕ) : Elt F .f32 := maxS (seg val (112 * s + 7 * t) f) 6
/-- and as places. -/
def MI (val : S448x128.Idx → F .f32) (s t f : ℕ) : Elt F .i32 := FloatOps.fptosi 32 (argS (seg val (112 * s + 7 * t) f) 6)

/-- The inner loop's state after the first `n` words of the slot's rows. -/
def nodeInv (κ : ℕ) (q : PosShare TreeShare) (f : Buf (Elt F) (rLoc d L)) (g : Tgt (Elt F) (rLoc d L)) (W : Finset (Idx (rLoc d L)))
    (A : Finset S64x128.Idx) (val : S448x128.Idx → F .f32) (s n : ℕ) : sProp 𝕄 :=
  iprop(wmI (F := F) κ ∗ wb (rLoc d L) Finset.univ q f g W
    ∗ ∃ f8 : Buf (Elt F) (vLoc d L), ∃ f9 : Buf (Elt F) (iLoc d L), ⌜Done (α := Elt F .f32) (MV val s) s n f8 ∧ Done (α := Elt F .i32) (MI val s) s n f9⌝
      ∗ (vLoc d L ↦[A]{fullShare} f8) ∗ (iLoc d L ↦[A]{fullShare} f9))

variable {κ : ℕ} {q : PosShare TreeShare} {f : Buf (Elt F) (rLoc d L)} {g : Tgt (Elt F) (rLoc d L)}
    {W : Finset (Idx (rLoc d L))} {val : S448x128.Idx → F .f32} {s : ℕ} {A : Finset S64x128.Idx}

theorem wp_vecStep_inv {α : Type} {Q : α → sProp 𝕄} {t v : ℕ} (hs : s < 4) (ht : t < 16) (hv : v < 8)
    {base : BitVec 32} (hb : base.toNat = 112 * s + 7 * t) (hK : Knows d L val s f g)
    {off : Fin 2 → ℕ} (ho : off = ![16 * s + t, 16 * v]) (hoff : ∀ a, off a + S1x16.size a ≤ S64x128.size a)
    (hA : ∀ i : S64x128.Idx, (i 0).val = 16 * s + t → i ∈ A) {basis : IVec S16 32} (hbasis : basis = basev v)
    {k : PUnit → Prog (TpuEff nD τ sig (Elt F) Λ₀ (.scVector (cV L) (jV L))) α} :
    nodeInv d L κ q f g W A val s (128 * t + 16 * v)
      ⊢ iprop((nodeInv d L κ q f g W A val s (128 * t + 16 * (v + 1)) -∗ WP (k ⟨⟩), Q)
          -∗ WP (vecStep L aR aV aI cstv basis base off hoff >>= k), Q) := by
  unfold nodeInv
  iintro ⟨#Hwm, HR, %f8, %f9, %hD, H8, H9⟩ Hk
  iapply (wp_vecStep d L (κ := κ) (q := q) (W := W) hs ht hv hb hK ho hoff hA (f8 := f8) (f9 := f9) hbasis) $$ [HR H8 H9]
  · isplitr; · iexact Hwm
    isplitl [HR]; · iexact HR
    isplitl [H8]; · iexact H8
    iexact H9
  iintro ⟨HR, H8, H9⟩
  iapply Hk
  isplitr; · iexact Hwm
  isplitl [HR]; · iexact HR
  iexists _, _
  isplitr
  swap
  · isplitl [H8]; · iexact H8
    iexact H9
  · ipureintro
    exact ⟨hD.1.upd (VV := MV val s) hv, hD.2.upd (VV := MI val s) hv⟩

/-- One node. -/
theorem wp_node {t1 : Fin (k0_t1_loop L).trips} {t2 : Fin k0_t2_loop.trips} (hs : s = t1.val % 4) (hK : Knows d L val s f g)
    (hA : ∀ i : S64x128.Idx, 16 * s ≤ (i 0).val → (i 0).val < 16 * s + 16 → i ∈ A) (v5 v183 a15 : BitVec 32) :
    nodeInv d L κ q f g W A val s (128 * t2.val)
      ⊢ WP (k0_t2_body L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0
          v5 k0_pay459 k0_pay460 k0_pay461 k0_pay462 k0_pay463 k0_pay464 k0_pay465 k0_pay466
          k0_pay467 k0_pay468 k0_pay469 k0_pay470 k0_pay471 k0_pay472 k0_pay473 0#32 1#32 t1
          (Scalar.muli (Scalar.andi (Scf.iv 0#32 1#32 t1) 3#32) 112#32) v183 t2 a15),
        fun _ => nodeInv d L κ q f g W A val s (128 * (t2.val + 1)) := by
  have hs4 : s < 4 := by omega
  have ht := t2_lt t2
  have hb := base_word' (t1_lt t1) ht
  rw [← hs] at hb
  have hA' : ∀ i : S64x128.Idx, (i 0).val = 16 * s + t2.val → i ∈ A := fun i hi => hA i (by omega) (by omega)
  rw [t2_body_eq]
  iintro H
  iapply (wp_vecStep_inv d L hs4 ht (v := 0) (by omega) hb hK (by rw [off4_eq, hs]) _ hA' rfl) $$ H; iintro H
  iapply (wp_vecStep_inv d L hs4 ht (v := 1) (by omega) hb hK (by rw [off5_eq, hs]) _ hA' rfl) $$ H; iintro H
  iapply (wp_vecStep_inv d L hs4 ht (v := 2) (by omega) hb hK (by rw [off6_eq, hs]) _ hA' rfl) $$ H; iintro H
  iapply (wp_vecStep_inv d L hs4 ht (v := 3) (by omega) hb hK (by rw [off7_eq, hs]) _ hA' rfl) $$ H; iintro H
  iapply (wp_vecStep_inv d L hs4 ht (v := 4) (by omega) hb hK (by rw [off8_eq, hs]) _ hA' rfl) $$ H; iintro H
  iapply (wp_vecStep_inv d L hs4 ht (v := 5) (by omega) hb hK (by rw [off9_eq, hs]) _ hA' rfl) $$ H; iintro H
  iapply (wp_vecStep_inv d L hs4 ht (v := 6) (by omega) hb hK (by rw [off10_eq, hs]) _ hA' rfl) $$ H; iintro H
  iapply (wp_vecStep_inv d L hs4 ht (v := 7) (by omega) hb hK (by rw [off11_eq, hs]) _ hA' rfl) $$ H; iintro H
  rw [wp_pure]
  imodintro
  iexact H

theorem wp_nodes {α : Type} {Q : α → sProp 𝕄} {t1 : Fin (k0_t1_loop L).trips} (hs : s = t1.val % 4) (hK : Knows d L val s f g)
    (hA : ∀ i : S64x128.Idx, 16 * s ≤ (i 0).val → (i 0).val < 16 * s + 16 → i ∈ A) (v5 v183 : BitVec 32)
    {k : BitVec 32 → Prog (TpuEff nD τ sig (Elt F) Λ₀ (.scVector (cV L) (jV L))) α} :
    nodeInv d L κ q f g W A val s 0
      ⊢ iprop((∀ w, nodeInv d L κ q f g W A val s 2048 -∗ WP (k w), Q) -∗ WP (Scf.Loop.for k0_t2_loop k0_t2_ok 0#32 (k0_t2_body L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0
          v5 k0_pay459 k0_pay460 k0_pay461 k0_pay462 k0_pay463 k0_pay464 k0_pay465 k0_pay466
          k0_pay467 k0_pay468 k0_pay469 k0_pay470 k0_pay471 k0_pay472 k0_pay473 0#32 1#32 t1
          (Scalar.muli (Scalar.andi (Scf.iv 0#32 1#32 t1) 3#32) 112#32) v183) >>= k), Q) := by
  have h := Scf.wp_for_bind frame (wpE (defs₀ (F := F)) 𝒱₀ (thr d L) none) Set.univ k0_t2_loop.lb k0_t2_loop.ub k0_t2_loop.st k0_t2_ok 0#32
    (k0_t2_body L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0
          v5 k0_pay459 k0_pay460 k0_pay461 k0_pay462 k0_pay463 k0_pay464 k0_pay465 k0_pay466
          k0_pay467 k0_pay468 k0_pay469 k0_pay470 k0_pay471 k0_pay472 k0_pay473 0#32 1#32 t1
          (Scalar.muli (Scalar.andi (Scf.iv 0#32 1#32 t1) 3#32) 112#32) v183)
    (fun n _ => nodeInv d L κ q f g W A val s (128 * n)) (fun t2 acc => wp_node d L hs hK hA v5 v183 acc) (kk := k) (Q := Q)
  have e : Scf.trips k0_t2_loop.lb k0_t2_loop.ub k0_t2_loop.st = 16 := trips_two
  rw [e] at h
  exact h

end Cert.Proof
-- ==== Proof.Slots.lean ====
/-
  A chunk's two gathers: which rows of the row buffer they write, what a row's transfer takes and delivers, and the issue of
  one gather of fifty-six rows as fifty-six transfers of its slot's batch.
-/
module

public import proofs.«01_k».proof.Proof.Node

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch)
open Idealize.ShloMosaic.Tactic

variable {F : FTy → Type} [FloatOps F]

local notation "𝕄" => MT nD τ sig (HIx 1) (Elt F) ℕ (UU F) ℕ
local notation "aX" => (Memref.whole Cert.KernelIdeal.main_arg0_scv : Memref Cert.KernelIdeal.sig Kind.scVector Space.hbm Cert.KernelIdeal.S700000x128 EltTy.f32)
local notation "aJ" => (Memref.whole Cert.KernelIdeal.cc0_scratch0 : Memref Cert.KernelIdeal.sig Kind.scVector Space.vmem Cert.KernelIdeal.S22400 EltTy.i32)
local notation "aR" => (Memref.whole Cert.KernelIdeal.cc0_scratch1 : Memref Cert.KernelIdeal.sig Kind.scVector Space.vmem Cert.KernelIdeal.S448x128 EltTy.f32)

abbrev xLoc (d : Dev nD) : Loc nD τ sig := (SparseCore.T d).loc main_arg0
abbrev lLoc (d : Dev nD) : Loc nD τ sig := (SparseCore.T d).loc main_v1
abbrev oLoc (d : Dev nD) : Loc nD τ sig := (SparseCore.T d).loc main_v2_0
abbrev pLoc (d : Dev nD) : Loc nD τ sig := (SparseCore.T d).loc main_v2_1
abbrev jLoc (d : Dev nD) (L : grid0.Coords) : Loc nD τ sig := (thr d L).loc cc0_scratch0

/-! ## Runs of the list, the semaphores -/

/-- The list's entries from `lo`, `n` of them. -/
def run {R : ℕ} (lo n : ℕ) : Finset (⟨1, ![R]⟩ : Shape).Idx := Finset.univ.filter fun i => lo ≤ (i 0).val ∧ (i 0).val < lo + n

theorem mem_run {R lo n : ℕ} {i : (⟨1, ![R]⟩ : Shape).Idx} : i ∈ run lo n ↔ lo ≤ (i 0).val ∧ (i 0).val < lo + n := by
  simp [run]

theorem run_disjoint {R lo n lo' n' : ℕ} (h : lo + n ≤ lo' ∨ lo' + n' ≤ lo) : Disjoint (run (R := R) lo n) (run lo' n') := by
  rw [Finset.disjoint_left]; intro i hi hi'
  rw [mem_run] at hi hi'; omega

theorem run_cut {R lo m k : ℕ} : (Finset.range k).biUnion (fun j => run (R := R) (lo + m * j) m) = run lo (m * k) := by
  induction k with
  | zero => ext i; simp [mem_run]
  | succ k ih =>
    rw [Finset.range_add_one, Finset.biUnion_insert, ih]
    ext i
    rw [Finset.mem_union, mem_run, mem_run, mem_run, Nat.mul_succ]
    omega

theorem run_all {R : ℕ} : run (R := R) 0 R = Finset.univ := by
  ext i; rw [mem_run]; have : (i 0).val < R := (i 0).isLt; simp [this]

theorem run_one {R n : ℕ} (h : n < R) : run (R := R) n 1 = {ix1 ⟨n, h⟩} := by
  ext i
  rw [mem_run, Finset.mem_singleton]
  constructor
  · intro H
    rw [eq_ix1 i]; congr 1; exact Fin.ext (by show (i 0).val = n; omega)
  · rintro rfl; exact ⟨le_refl _, Nat.lt_succ_self _⟩

/-- A semaphore of an array of four, at an offset. -/
def semAt (A : DmaSems sig S4) (off : Fin 1 → ℕ) (h : ∀ a, off a + S1.size a ≤ S4.size a) : DmaSem sig :=
  ((A.slice (Rect.unit (s := S4) off S1.size h)).squeeze S_ squeezes_S1_S_).sem

theorem inb_sem (g : ℕ) : ∀ a, (![g % 4] : Fin 1 → ℕ) a + S1.size a ≤ S4.size a := by
  intro a
  match a with
  | ⟨0, _⟩ => show g % 4 + 1 ≤ 4; omega

/-- The semaphore of chunk `g`'s gathers; -/
abbrev gsem (g : ℕ) : DmaSem sig := semAt cc0_scratch4 ![g % 4] (inb_sem g)
/-- of its results' copies. -/
abbrev osem (g : ℕ) : DmaSem sig := semAt cc0_scratch5 ![g % 4] (inb_sem g)

theorem semAt_eq (A : DmaSems sig S4) {off : Fin 1 → ℕ} {h : ∀ a, off a + S1.size a ≤ S4.size a} {g : ℕ} (ho : off = ![g % 4]) :
    semAt A off h = semAt A ![g % 4] (inb_sem g) := by subst ho; rfl

theorem semAt_mod (A : DmaSems sig S4) {g g' : ℕ} (h : g % 4 = g' % 4) : semAt A ![g % 4] (inb_sem g) = semAt A ![g' % 4] (inb_sem g') :=
  semAt_eq A (by rw [h])

/-! ## Shapes -/

theorem set_xAll (h : ∀ a, (![0, 0] : Fin 2 → ℕ) a + S700000x128.size a ≤ S700000x128.size a) :
    ((aX).slice (Rect.unit (s := S700000x128) ![0, 0] S700000x128.size h) (fun _ => rfl)).view.set = Finset.univ := by
  rw [show ((aX).slice (Rect.unit (s := S700000x128) ![0, 0] S700000x128.size h) (fun _ => rfl)).view.set
      = (Rect.unit (s := S700000x128) ![0, 0] S700000x128.size h).set from View.set_slice_whole _ _]
  exact (set_unit_band rfl h).trans band_all

abbrev gat : S700000x128.Gathers 0 S56x128 := gathers_S700000x128_S56x128

theorem gat_axis' : gat.axis' = (0 : Fin 2) := rfl

/-- The `j`th row of a gather's destination. -/
theorem set_gatRow {lo : ℕ} {off : Fin 2 → ℕ} (hoff : off = ![lo, 0]) (h : ∀ a, off a + S56x128.size a ≤ S448x128.size a) (j : Fin 56) :
    (((aR).slice (Rect.unit (s := S448x128) off S56x128.size h) (fun _ => rfl)).view.slice (S56x128.rowRect gat.axis' j)).set = band (lo + j.val) 1 := by
  subst hoff
  ext i
  rw [mem_band]
  constructor
  · intro hi
    obtain ⟨y, -, rfl⟩ := Finset.mem_map.mp hi
    show lo + j.val ≤ lo + 1 * ((S56x128.rowRect gat.axis' j).emb y 0).val ∧ lo + 1 * ((S56x128.rowRect gat.axis' j).emb y 0).val < lo + j.val + 1
    rw [show ((S56x128.rowRect gat.axis' j).emb y 0).val = j.val from congrArg Fin.val (Shape.rowRect_emb_axis (s := S56x128) gat.axis' j y)]
    omega
  · intro hi
    have hlt : (i 0).val < 448 := (i 0).isLt
    let z : S56x128.Idx := ix2 (n0 := 56) (n1 := 128) j ⟨(i 1).val, (i 1).isLt⟩
    refine Finset.mem_map.mpr ⟨S56x128.rowProj gat.axis' z, Finset.mem_univ _, ?_⟩
    show (Rect.unit (s := S448x128) ![lo, 0] S56x128.size h).emb ((S56x128.rowRect gat.axis' (z gat.axis')).emb (S56x128.rowProj gat.axis' z)) = i
    rw [Shape.rowRect_emb_rowProj]
    funext a
    apply Fin.ext
    match a with
    | ⟨0, _⟩ => show lo + 1 * j.val = (i 0).val; omega
    | ⟨1, _⟩ => show 0 + 1 * (i 1).val = (i 1).val; omega

/-! ## A chunk's rows -/

section Rows

variable (d : Dev nD) (L : grid0.Coords)

local notation "WP " p ", " Q => wp frame (wpE (defs₀ (F := F)) 𝒱₀ (thr d L) none) Set.univ p Q

abbrev hL : PosShare TreeShare := fullShare.left
abbrev hR : PosShare TreeShare := fullShare.right

variable (x : Buf (Elt F) (xLoc d)) (l : ℕ → BitVec 32) (f₀ : Buf (Elt F) (rLoc d L)) (qx : PosShare TreeShare)

/-- What chunk `g`'s slot is to hold, -/
abbrev gt (g : ℕ) : Buf (Elt F) (rLoc d L) := GT (F := F) x l (n0 L) g
/-- as write mode's target, -/
abbrev tg (g : ℕ) : Tgt (Elt F) (rLoc d L) := fun i => some (gt d L x l g i)
/-- and what it held before. -/
def ft (g : ℕ) : Buf (Elt F) (rLoc d L) := if g < 4 then f₀ else gt d L x l (g - 4)

/-- The tile's part of the list. -/
def fj : Buf (Elt F) (jLoc d L) := fun i => l (7 * n0 L + (i 0).val)

/-- The share of `x` that row `t` of slot `s` takes. -/
def xq (s t : ℕ) : PosShare TreeShare :=
  pieceOf (pieceOf qx 4 (by omega) ⟨s % 4, by omega⟩) 112 (by omega) ⟨t % 112, by omega⟩

/-- Row `t` of chunk `g`, with the marks `W`, and what its transfer reads. -/
def rowAt (W : Finset (Idx (rLoc d L))) (g t : ℕ) : sProp 𝕄 :=
  iprop((wb (rLoc d L) (band (112 * (g % 4) + t) 1) hR (ft d L x l f₀ g) (tg d L x l g) W
      ∗ (jLoc d L ↦[run (112 * g + t) 1]{fullShare} fj d L l))
    ∗ (xLoc d ↦{xq qx g t} x))

/-- What a row's transfer delivers. -/
abbrev DG (g : ℕ) (t : Fin 112) : sProp 𝕄 := rowAt d L x l f₀ qx Finset.univ g t.val

instance DG_storable (g : ℕ) (t : Fin 112) : BI.Storable (upEmb : UEmb _ 𝕄) (DG d L x l f₀ qx g t) := by
  unfold DG rowAt; infer_instance

/-- A row transfer's units. -/
def NR : ℕ := ((aR).slice (Rect.unit (s := S448x128) ![0, 0] (![1, 128] : Fin 2 → ℕ) (by decide)) (fun _ => rfl)).view.dmaCredit

theorem NR_pos : 0 < NR := by decide +kernel

theorem NR_half (off : Fin 2 → ℕ) (h : ∀ a, off a + S56x128.size a ≤ S448x128.size a) :
    ((aR).slice (Rect.unit (s := S448x128) off S56x128.size h) (fun _ => rfl)).view.dmaCredit = 56 * NR := by
  exact (show sig.dmaCredit .scVector (Kind.scVector.table .vmem) (cc0_scratch1 : Ref sig .scVector).idx S56x128 .f32 = 56 * NR from by decide +kernel)

theorem NR_row (off : Fin 2 → ℕ) (h : ∀ a, off a + S56x128.size a ≤ S448x128.size a) (j : Fin 56) :
    (((aR).slice (Rect.unit (s := S448x128) off S56x128.size h) (fun _ => rfl)).slice (S56x128.rowRect gat.axis' j) (S56x128.stride_rowRect gat.axis' j)).view.dmaCredit = NR := by
  exact (show sig.dmaCredit .scVector (Kind.scVector.table .vmem) (cc0_scratch1 : Ref sig .scVector).idx (S56x128.rowShape gat.axis') .f32 = NR from by decide +kernel)

abbrev srcX (hx : ∀ a, (![0, 0] : Fin 2 → ℕ) a + S700000x128.size a ≤ S700000x128.size a) : Memref sig .scVector .hbm S700000x128 .f32 :=
  (aX).slice (Rect.unit (s := S700000x128) ![0, 0] S700000x128.size hx) (fun _ => rfl)
abbrev dstR (off : Fin 2 → ℕ) (h : ∀ a, off a + S56x128.size a ≤ S448x128.size a) : Memref sig .scVector .vmem S56x128 .f32 :=
  (aR).slice (Rect.unit (s := S448x128) off S56x128.size h) (fun _ => rfl)
abbrev offJ (off : Fin 1 → ℕ) (h : ∀ a, off a + S56.size a ≤ S22400.size a) : Memref sig .scVector .vmem S56 .i32 :=
  (aJ).slice (Rect.unit (s := S22400) off S56.size h) (fun _ => rfl)

variable {d L x l f₀ qx}

theorem entry_pos (j : Fin 56) : ((S56.rowMajor.symm j) 0).val = j.val := by
  have h := Shape.rowMajor_val_one (d := ![56]) (S56.rowMajor.symm j)
  rw [← h]
  exact congrArg Fin.val (S56.rowMajor.apply_symm_apply j)

theorem entry_emb {n : ℕ} {off : Fin 1 → ℕ} (hoff : off = ![n]) (h : ∀ a, off a + S56.size a ≤ S22400.size a) (j : Fin 56) :
    (({(offJ off h).view.emb (S56.rowMajor.symm j)} : Finset S22400.Idx)) = run (n + j.val) 1 := by
  subst hoff
  have hlt : n + 56 ≤ 22400 := h 0
  rw [run_one (show n + j.val < 22400 by omega)]
  congr 1
  refine (eq_ix1 _).trans ?_
  congr 1
  apply Fin.ext
  show n + 1 * ((S56.rowMajor.symm j) 0).val = n + j.val
  rw [entry_pos, Nat.one_mul]

theorem offs_read {n : ℕ} {off : Fin 1 → ℕ} (hoff : off = ![n]) (h : ∀ a, off a + S56.size a ≤ S22400.size a) (y : S56.Idx) :
    (offJ off h).view.read (Elt F) (fj d L l) y = l (7 * n0 L + (n + (y 0).val)) := by
  subst hoff
  show l (7 * n0 L + (n + 1 * (y 0).val)) = _
  rw [Nat.one_mul]

/-- What a row's transfer writes is what the row is to hold. -/
theorem row_writes {g r : ℕ} (hr : r < 2) (hl : ∀ j, (l j).toNat < 700000) (hx : ∀ a, (![0, 0] : Fin 2 → ℕ) a + S700000x128.size a ≤ S700000x128.size a)
    {o14 : Fin 2 → ℕ} (h14 : o14 = ![112 * (g % 4) + 56 * r, 0]) (i14 : ∀ a, o14 a + S56x128.size a ≤ S448x128.size a)
    {o15 : Fin 1 → ℕ} (h15 : o15 = ![112 * g + 56 * r]) (i15 : ∀ a, o15 a + S56.size a ≤ S22400.size a)
    (hn : S56.numel = S56x128.size gat.axis') (hin : ∀ y, ((offJ o15 i15).view.read (Elt F) (fj d L l) y).toNat < S700000x128.size gat.axis) (j : Fin 56)
    (y : (S56x128.rowShape gat.axis').Idx) :
    rowVal (thr d L) (srcX hx) gat x (SparseCore.rows ((offJ o15 i15).view.read (Elt F) (fj d L l)) hn hin) j y
      = gt d L x l g (((dstR o14 i14).view.slice (S56x128.rowRect gat.axis' j)).emb y) := by
  have e15 := offs_read (F := F) (d := d) (L := L) (l := l) h15 i15
  have e0 : (((dstR o14 i14).view.slice (S56x128.rowRect gat.axis' j)).emb y 0).val = 112 * (g % 4) + 56 * r + j.val := by
    subst h14
    show 112 * (g % 4) + 56 * r + 1 * ((S56x128.rowRect gat.axis' j).emb y 0).val = _
    rw [show ((S56x128.rowRect gat.axis' j).emb y 0).val = j.val from congrArg Fin.val (Shape.rowRect_emb_axis (s := S56x128) gat.axis' j y), Nat.one_mul]
  have e1 : (((dstR o14 i14).view.slice (S56x128.rowRect gat.axis' j)).emb y 1).val = (y (1 : Fin 2)).val := by
    subst h14
    show 0 + 1 * ((S56x128.rowRect gat.axis' j).emb y 1).val = _
    rw [show ((S56x128.rowRect gat.axis' j).emb y 1).val = (y (1 : Fin 2)).val from Shape.rowRect_emb_of_ne (s := S56x128) gat.axis' j y (by decide), Nat.zero_add, Nat.one_mul]
  show x ((srcX hx).view.emb (gat.rowIdx (SparseCore.rows ((offJ o15 i15).view.read (Elt F) (fj d L l)) hn hin j) y)) = _
  unfold gt GT xAt
  congr 1
  have hj := j.isLt
  have hy : (y (1 : Fin 2)).val < 128 := (y (1 : Fin 2)).isLt
  funext a
  apply Fin.ext
  match a with
  | ⟨0, _⟩ =>
    show 0 + 1 * (gat.rowIdx (SparseCore.rows ((offJ o15 i15).view.read (Elt F) (fj d L l)) hn hin j) y gat.axis).val
      = (l (7 * n0 L + 112 * g + (((dstR o14 i14).view.slice (S56x128.rowRect gat.axis' j)).emb y 0).val % 112)).toNat % 700000
    rw [Shape.Gathers.rowIdx_axis, e0, Nat.mod_eq_of_lt (hl _)]
    show 0 + 1 * ((offJ o15 i15).view.read (Elt F) (fj d L l) (S56.rowMajor.symm j)).toNat = _
    rw [e15, entry_pos, Nat.zero_add, Nat.one_mul]
    congr 2
    omega
  | ⟨1, _⟩ =>
    show 0 + 1 * (gat.rowIdx (SparseCore.rows ((offJ o15 i15).view.read (Elt F) (fj d L l)) hn hin j) y (1 : Fin 2)).val
      = (((dstR o14 i14).view.slice (S56x128.rowRect gat.axis' j)).emb y 1).val % 128
    rw [e1, Nat.mod_eq_of_lt hy, Nat.zero_add, Nat.one_mul]
    exact Shape.Gathers.rowIdx_of_ne gat _ y (1 : Fin 2) (by decide)

theorem row_update {κ g r : ℕ} (hr : r < 2) (hl : ∀ j, (l j).toNat < 700000) (hx : ∀ a, (![0, 0] : Fin 2 → ℕ) a + S700000x128.size a ≤ S700000x128.size a)
    {o14 : Fin 2 → ℕ} (h14 : o14 = ![112 * (g % 4) + 56 * r, 0]) (i14 : ∀ a, o14 a + S56x128.size a ≤ S448x128.size a)
    {o15 : Fin 1 → ℕ} (h15 : o15 = ![112 * g + 56 * r]) (i15 : ∀ a, o15 a + S56.size a ≤ S22400.size a)
    (hn : S56.numel = S56x128.size gat.axis') (hin : ∀ y, ((offJ o15 i15).view.read (Elt F) (fj d L l) y).toNat < S700000x128.size gat.axis) (j : Fin 56) :
    iprop(wmI (F := F) κ ∗ wb (rLoc d L) (band (112 * (g % 4) + (56 * r + j.val)) 1) hR (ft d L x l f₀ g) (tg d L x l g) ∅)
      ⊢ writeUpdate (thr d L) ((dstR o14 i14).view.slice (S56x128.rowRect gat.axis' j))
        (rowVal (thr d L) (srcX hx) gat x (SparseCore.rows ((offJ o15 i15).view.read (Elt F) (fj d L l)) hn hin) j)
        (wb (rLoc d L) (band (112 * (g % 4) + (56 * r + j.val)) 1) hR (ft d L x l f₀ g) (tg d L x l g) Finset.univ) := by
  have hset := (set_gatRow h14 i14 j).trans (by rw [Nat.add_assoc])
  have e : (wb (rLoc d L) (band (112 * (g % 4) + (56 * r + j.val)) 1) hR (ft d L x l f₀ g) (tg d L x l g) Finset.univ : sProp 𝕄)
      = wb (rLoc d L) (band (112 * (g % 4) + (56 * r + j.val)) 1) hR (ft d L x l f₀ g) (tg d L x l g)
          (∅ ∪ ((dstR o14 i14).view.slice (S56x128.rowRect gat.axis' j)).set) :=
    wb_congr (fun _ _ => rfl) (fun _ _ => rfl) fun i hi => ⟨fun _ => Finset.mem_union_right _ (hset ▸ hi), fun _ => Finset.mem_univ _⟩
  rw [e]
  refine willBeTo_writeUpdate (thr d L) (v := (dstR o14 i14).view.slice (S56x128.rowRect gat.axis' j)) (le_of_eq hset) ?_
  intro y _ u hu
  have hw := row_writes (F := F) (d := d) (L := L) (x := x) hr hl hx h14 i14 h15 i15 hn hin j y
  rw [hw]
  exact Option.some.inj hu

theorem wp_gath {α : Type} {Q : α → sProp 𝕄} {κ g r : ℕ} (hr : r < 2) (hl : ∀ j, (l j).toNat < 700000)
    {hx : ∀ a, (![0, 0] : Fin 2 → ℕ) a + S700000x128.size a ≤ S700000x128.size a}
    {o14 : Fin 2 → ℕ} (h14 : o14 = ![112 * (g % 4) + 56 * r, 0]) {i14 : ∀ a, o14 a + S56x128.size a ≤ S448x128.size a}
    {o15 : Fin 1 → ℕ} (h15 : o15 = ![112 * g + 56 * r]) {i15 : ∀ a, o15 a + S56.size a ≤ S22400.size a}
    {oS : Fin 1 → ℕ} (hS : oS = ![g % 4]) {iS : ∀ a, oS a + S1.size a ≤ S4.size a}
    {hp : (thr d L).2.kind = .scVector} {hn : S56.numel = S56x128.size gat.axis'} {hsrc : (srcX hx).view.WordExact} {he : EltTy.f32.bits = 32}
    {hsp : Space.hbm = .hbm ∨ Space.hbm = .shared} {hrr : S700000x128.StreamRows 0}
    {k : PUnit → Prog (TpuEff nD τ sig (Elt F) Λ₀ (.scVector (cV L) (jV L))) α} :
    iprop(wmI (F := F) κ ∗ bigSep Finset.univ (fun j : Fin 56 => rowAt d L x l f₀ qx ∅ g (56 * r + j.val))
        ∗ Batch EC (thr d L) (.dma (gsem g)) none NR (DG d L x l f₀ qx g) (56 * r) 0)
      ⊢ iprop((Batch EC (thr d L) (.dma (gsem g)) none NR (DG d L x l f₀ qx g) (56 * r + 56) 0 -∗ WP (k ⟨⟩), Q)
          -∗ WP (SparseCore.enqueueIndirectGather hp (srcX hx) (dstR o14 i14) gat (offJ o15 i15) hn (semAt cc0_scratch4 oS iS) hsrc he hsp hrr >>= k), Q) := by
  rw [semAt_eq cc0_scratch4 hS]
  have hin : ∀ y, ((offJ o15 i15).view.read (Elt F) (fj d L l) y).toNat < S700000x128.size gat.axis := fun y => by
    rw [offs_read h15 i15]; exact hl _
  have key := wp_indirectGatherBatch (F := F) (defs := defs₀ (F := F)) EC 𝒱₀ (thr d L) none (src := srcX hx) (dst := dstR o14 i14) (hg := gat) (offs := offJ o15 i15)
    (hn := hn) (sem := gsem g) (hp := hp) (hsrc := hsrc) (he := he) (hsp := hsp) (hr := hrr) (k := k) (Q := Q) (D := DG d L x l f₀ qx g)
    (qk := fun j => xq qx g (56 * r + j.val)) (qo := fullShare) (fs := x) (fo := fj d L l)
    (fun j => iprop(wmI (F := F) κ ∗ wb (rLoc d L) (band (112 * (g % 4) + (56 * r + j.val)) 1) hR (ft d L x l f₀ g) (tg d L x l g) ∅))
    (fun j => wb (rLoc d L) (band (112 * (g % 4) + (56 * r + j.val)) 1) hR (ft d L x l f₀ g) (tg d L x l g) Finset.univ)
    none NR (NR_row o14 i14) hin (56 * r) 0 (show 56 * r + 56 ≤ 112 by omega) (Nat.zero_le _)
    (row_update hr hl hx h14 i14 h15 i15 hn hin) (fun j => by
      unfold DG rowAt
      refine sep_mono (sep_mono .rfl (Entails.of_eq ?_)) (Entails.of_eq ?_)
      · rw [show ({(offJ o15 i15).view.emb (S56.rowMajor.symm (j.cast hn.symm))} : Finset S22400.Idx) = run (112 * g + 56 * r + j.val) 1
          from entry_emb h15 i15 j, Nat.add_assoc]
      · rw [set_xAll hx])
  refine .trans ?_ key
  iintro ⟨#Hwm, HR, HB⟩
  isplitl [HR]
  · iapply (Transfers.bigSep_mono_pers Finset.univ (wmI (F := F) κ) _ _ fun j _ => ?_)
    rotate_left
    · isplitr; · iexact Hwm
      iexact HR
    · unfold rowAt
      iintro ⟨#Hwm, ⟨H1, H2⟩, H3⟩
      isplitl [H1 H2]
      · isplitl [H1]
        · isplitr; · iexact Hwm
          iexact H1
        · iapply (Entails.of_eq ?_) $$ H2
          rw [show ({(offJ o15 i15).view.emb (S56.rowMajor.symm (j.cast hn.symm))} : Finset S22400.Idx) = run (112 * g + 56 * r + j.val) 1
            from entry_emb h15 i15 j, Nat.add_assoc]
      · iapply (Entails.of_eq ?_) $$ H3
        rw [set_xAll hx]
  · iexact HB

end Rows

end Cert.Proof
-- ==== Proof.Chunk.lean ====
/-
  A chunk's slot of the row buffer: handed to write mode and to the two gathers, collected by the two waits.
-/
module

public import proofs.«01_k».proof.Proof.Slots

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch)
open Idealize.ShloMosaic.Tactic

variable {F : FTy → Type} [FloatOps F]

local notation "𝕄" => MT nD τ sig (HIx 1) (Elt F) ℕ (UU F) ℕ
local notation "aX" => (Memref.whole Cert.KernelIdeal.main_arg0_scv : Memref Cert.KernelIdeal.sig Kind.scVector Space.hbm Cert.KernelIdeal.S700000x128 EltTy.f32)
local notation "aJ" => (Memref.whole Cert.KernelIdeal.cc0_scratch0 : Memref Cert.KernelIdeal.sig Kind.scVector Space.vmem Cert.KernelIdeal.S22400 EltTy.i32)
local notation "aR" => (Memref.whole Cert.KernelIdeal.cc0_scratch1 : Memref Cert.KernelIdeal.sig Kind.scVector Space.vmem Cert.KernelIdeal.S448x128 EltTy.f32)

section Chunk

variable (d : Dev nD) (L : grid0.Coords)

local notation "WP " p ", " Q => wp frame (wpE (defs₀ (F := F)) 𝒱₀ (thr d L) none) Set.univ p Q

variable (x : Buf (Elt F) (xLoc d)) (l : ℕ → BitVec 32) (f₀ : Buf (Elt F) (rLoc d L)) (qx : PosShare TreeShare)

/-- The rows of chunk `g`'s slot. -/
abbrev slotR (g : ℕ) : Finset S448x128.Idx := band (112 * (g % 4)) 112

/-- The list's entries of chunk `g`. -/
def ent (g : ℕ) : sProp 𝕄 := iprop(jLoc d L ↦[run (112 * g) 112]{fullShare} fj d L l)
/-- The share of `x` of chunk `g`'s slot. -/
def xsh (g : ℕ) : sProp 𝕄 := iprop(xLoc d ↦{pieceOf qx 4 (by omega) ⟨g % 4, by omega⟩} x)

/-- Chunk `g` on its way: its batch, and the half of its slot kept for reading. -/
def flying (g : ℕ) : sProp 𝕄 :=
  iprop(Batch EC (thr d L) (.dma (gsem g)) none NR (DG d L x l f₀ qx g) 112 0
    ∗ wb (rLoc d L) (slotR g) hL (ft d L x l f₀ g) (tg d L x l g) ∅)

variable {d L x l f₀ qx}

theorem bigSep_fin_add {M : Type} [URA M] (a b : ℕ) (Φ : ℕ → sProp M) :
    bigSep Finset.univ (fun t : Fin (a + b) => Φ t.val) = iprop(bigSep Finset.univ (fun t : Fin a => Φ t.val) ∗ bigSep Finset.univ (fun t : Fin b => Φ (a + t.val))) := by
  rw [bigSep_univ_equiv finSumFinEquiv, bigSep_univ_sum]
  congr 1

theorem rows_eq (W : Finset (Idx (rLoc d L))) (g : ℕ) :
    iprop((wb (rLoc d L) (slotR g) hR (ft d L x l f₀ g) (tg d L x l g) W ∗ ent d L l g) ∗ xsh d x qx g)
      = (bigSep Finset.univ fun t : Fin 112 => rowAt d L x l f₀ qx W g t.val : sProp 𝕄) := by
  have e1 : (wb (rLoc d L) (slotR g) hR (ft d L x l f₀ g) (tg d L x l g) W : sProp 𝕄)
      = bigSep Finset.univ fun t : Fin 112 => wb (rLoc d L) (band (112 * (g % 4) + t.val) 1) hR (ft d L x l f₀ g) (tg d L x l g) W := by
    rw [← bigSep_range_fin (fun t => (wb (rLoc d L) (band (112 * (g % 4) + t) 1) hR (ft d L x l f₀ g) (tg d L x l g) W : sProp 𝕄)) 112,
      show slotR g = (Finset.range 112).biUnion fun t => band (112 * (g % 4) + t) 1 from by
        rw [show (slotR g) = band (112 * (g % 4)) (1 * 112) from rfl, ← band_cut]; simp only [Nat.one_mul]]
    exact wb_biUnion _ ⟨0, by simp⟩ _ fun a _ b _ h => band_disjoint (by omega)
  have e2 : (ent d L l g : sProp 𝕄) = bigSep Finset.univ fun t : Fin 112 => (jLoc d L ↦[run (112 * g + t.val) 1]{fullShare} fj d L l) := by
    unfold ent
    rw [← bigSep_range_fin (fun t => (jLoc d L ↦[run (112 * g + t) 1]{fullShare} fj d L l : sProp 𝕄)) 112,
      show run (R := 22400) (112 * g) 112 = (Finset.range 112).biUnion fun t => run (112 * g + t) 1 from by
        rw [show run (R := 22400) (112 * g) 112 = run (112 * g) (1 * 112) from rfl, ← run_cut]; simp only [Nat.one_mul]]
    exact pointsTo_biUnion _ _ fun a _ b _ h => run_disjoint (by omega)
  have e3 : (xsh d x qx g : sProp 𝕄) = bigSep Finset.univ fun t : Fin 112 => (xLoc d ↦{xq qx g t.val} x) := by
    unfold xsh
    rw [pointsTo_piecesOf (o := 112) Finset.univ x (by omega)]
    refine bigSep_congr fun t _ => ?_
    unfold xq
    rw [show (⟨t.val % 112, Nat.mod_lt _ (by omega)⟩ : Fin 112) = t from Fin.ext (Nat.mod_eq_of_lt t.isLt)]
  rw [e1, e2, e3]
  exact ((BI.bigSep_sep _ _ _).trans (congrArg (fun Z => iprop(Z ∗ bigSep Finset.univ fun t : Fin 112 => (xLoc d ↦{xq qx g t.val} x))) (BI.bigSep_sep _ _ _))).symm

/-- A slot whose rows are held whole, with the list's entries and `x`'s share, is ready for its gathers. -/
theorem prep {κ : ℕ} (g : ℕ) :
    iprop(wmI (F := F) κ ∗ (rLoc d L ↦[slotR g]{fullShare} ft d L x l f₀ g) ∗ ent d L l g ∗ xsh d x qx g ∗ semVal ((thr d L), SemLoc.dma (gsem g)) 0)
      ⊢ |={Set.univ}=> (iprop(Batch EC (thr d L) (.dma (gsem g)) none NR (DG d L x l f₀ qx g) 0 0
          ∗ bigSep Finset.univ (fun j : Fin 56 => rowAt d L x l f₀ qx ∅ g (56 * 0 + j.val))
          ∗ bigSep Finset.univ (fun j : Fin 56 => rowAt d L x l f₀ qx ∅ g (56 * 1 + j.val))
          ∗ wb (rLoc d L) (slotR g) hL (ft d L x l f₀ g) (tg d L x l g) ∅) : sProp 𝕄) := by
  iintro ⟨#Hwm, HR, HE, HX, Hv⟩
  imod (Transfers.batch_alloc' EC (thr d L) (sm := .dma (gsem g)) none NR (DG d L x l f₀ qx g) (E := Set.univ)) $$ Hv with HB
  imod (pointsTo_castIn (emb := EW (F := F)) (ιwm := κ) (E := Set.univ) (tg d L x l g)) $$ [HR] with HR
  · isplitr; · iexact Hwm
    iexact HR
  ihave HR2 := wb_halve $$ HR
  icases HR2 with ⟨Hl, Hr⟩
  ihave H := (Entails.of_eq (rows_eq (d := d) (L := L) (x := x) (l := l) (f₀ := f₀) (qx := qx) ∅ g)) $$ [Hr HE HX]
  · isplitr [HX]
    · isplitl [Hr]; · iexact Hr
      iexact HE
    · iexact HX
  ihave H2 := (Entails.of_eq (bigSep_fin_add 56 56 (fun t => rowAt d L x l f₀ qx ∅ g t))) $$ H
  icases H2 with ⟨Ha, Hb⟩
  imodintro
  isplitl [HB]; · iexact HB
  isplitl [Ha]
  · simp only [Nat.mul_zero, Nat.zero_add]; iexact Ha
  isplitl [Hb]; · iexact Hb
  iexact Hl

/-- What a slot's gathers delivered, with the half kept, is the slot whole again, holding its chunk. -/
theorem collect {κ : ℕ} (g : ℕ) :
    iprop(wmI (F := F) κ ∗ bigSep Finset.univ (DG d L x l f₀ qx g) ∗ wb (rLoc d L) (slotR g) hL (ft d L x l f₀ g) (tg d L x l g) ∅)
      ⊢ |={Set.univ}=> (iprop((rLoc d L ↦[slotR g]{fullShare} gt d L x l g) ∗ ent d L l g ∗ xsh d x qx g) : sProp 𝕄) := by
  iintro ⟨#Hwm, HD, Hl⟩
  ihave H := (Entails.of_eq (rows_eq (d := d) (L := L) (x := x) (l := l) (f₀ := f₀) (qx := qx) Finset.univ g).symm) $$ HD
  icases H with ⟨⟨Hr, HE⟩, HX⟩
  ihave HR := wb_join (F := F) $$ [Hl Hr]
  · isplitl [Hl]; · iexact Hl
    iexact Hr
  imod (willBeTo_castOut_some (emb := EW (F := F)) (ιwm := κ) (E := Set.univ)) $$ [HR] with HR
  · isplitr; · iexact Hwm
    iexact HR
  imodintro
  isplitl [HR]
  · iapply (Entails.of_eq (pointsTo_congr fun i _ => ?_)) $$ HR
    rw [Finset.piecewise_eq_of_mem _ _ _ (Finset.mem_union_right _ (Finset.mem_univ _))]
  isplitl [HE]; · iexact HE
  iexact HX

/-- What the thread owes, waits at no place of the schedule recorded. -/
def Ow (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

theorem Ow_insert {O : CellTallies nD τ sig (HIx 1)} {W W' : Waits sig (HIx 1)} (h : ∀ p ∈ W', p ∈ W ∨ p.2 = none) (sm : SemLoc sig) :
    owes (thr d L) O (insert (sm, none) W') ⊢ (Ow (F := F) d L O W : sProp 𝕄) := by
  unfold Ow
  iintro H
  iexists _
  isplitr
  swap; · iexact H
  ipureintro
  intro p hp
  rcases Finset.mem_insert.mp hp with hp | hp; · exact .inr (hp ▸ rfl)
  exact h p hp

/-- The two waits of a slot. -/
theorem wp_gathWaits {α : Type} {Q : α → sProp 𝕄} {κ g : ℕ} {O : CellTallies nD τ sig (HIx 1)} {W : Waits sig (HIx 1)}
    {hx : ∀ a, (![0, 0] : Fin 2 → ℕ) a + S700000x128.size a ≤ S700000x128.size a}
    {oA oB : Fin 2 → ℕ} {iA : ∀ a, oA a + S56x128.size a ≤ S448x128.size a} {iB : ∀ a, oB a + S56x128.size a ≤ S448x128.size a}
    {oS : Fin 1 → ℕ} (hS : oS = ![g % 4]) {iS iS' : ∀ a, oS a + S1.size a ≤ S4.size a}
    {h1 h1' : (srcX hx).view.WordExact} {h2 : (dstR oA iA).view.WordExact} {h2' : (dstR oB iB).view.WordExact}
    {k : PUnit → Prog (TpuEff nD τ sig (Elt F) Λ₀ (.scVector (cV L) (jV L))) α} :
    iprop(wmI (F := F) κ ∗ Transfers.MayWaits (thr d L) none O ∗ flying d L x l f₀ qx g ∗ Ow (F := F) d L O W)
      ⊢ iprop((iprop((rLoc d L ↦[slotR g]{fullShare} gt d L x l g) ∗ ent d L l g ∗ xsh d x qx g ∗ semVal ((thr d L), SemLoc.dma (gsem g)) 0
              ∗ Ow (F := F) d L O W) -∗ WP (k ⟨⟩), Q)
          -∗ WP (SparseCore.waitIndirectGather (semAt cc0_scratch4 oS iS) (srcX hx) (dstR oA iA) h1 h2 >>= fun _ =>
            SparseCore.waitIndirectGather (semAt cc0_scratch4 oS iS') (srcX hx) (dstR oB iB) h1' h2' >>= k), Q) := by
  rw [semAt_eq cc0_scratch4 hS, SparseCore.waitIndirectGather_bind (c := thr d L)]
  unfold flying Ow
  iintro ⟨#Hwm, #Hmw, ⟨HB, Hl⟩, ⟨%W', %hW', HO⟩⟩ Hk
  iapply (Transfers.wp_waitBatchMulO EC 𝒱₀ (thr d L) none none 56 (NR_half oA iA) (by show 0 + 56 * NR ≤ NR * 112; omega)) $$ [HB HO]
  · isplitl [HB]; · iexact HB
    isplitl [HO]; · iexact HO
    iapply (Transfers.MayWaits.elim (SemLoc.dma (gsem g))) $$ Hmw
  iintro ⟨HB, HO⟩
  rw [SparseCore.waitIndirectGather_bind (c := thr d L)]
  iapply (Transfers.wp_waitBatchAllO EC 𝒱₀ (thr d L) none none (NR_half oB iB) NR_pos (by show 0 + 56 * NR + 56 * NR = NR * 112; omega)) $$ [HB HO]
  · isplitl [HB]; · iexact HB
    isplitl [HO]; · iexact HO
    iapply (Transfers.MayWaits.elim (SemLoc.dma (gsem g))) $$ Hmw
  iintro ⟨HD, Hv, HO⟩
  iapply (fupd_wp frame (wpE (defs₀ (F := F)) 𝒱₀ (thr d L) none) Set.univ _ _)
  imod (collect (d := d) (L := L) (x := x) (l := l) (f₀ := f₀) (qx := qx) (κ := κ) g) $$ [HD Hl] with ⟨HR, HE, HX⟩
  · isplitr; · iexact Hwm
    isplitl [HD]; · iexact HD
    iexact Hl
  imodintro
  iapply Hk
  isplitl [HR]; · iexact HR
  isplitl [HE]; · iexact HE
  isplitl [HX]; · iexact HX
  isplitl [Hv]; · iexact Hv
  iexists _
  isplitr
  swap; · iexact HO
  ipureintro
  intro p hp
  rcases Finset.mem_insert.mp hp with hp | hp; · exact .inr (hp ▸ rfl)
  rcases Finset.mem_insert.mp hp with hp | hp; · exact .inr (hp ▸ rfl)
  exact hW' p hp

/-- The issue of both gathers of a slot. -/
theorem wp_gathers {α : Type} {Q : α → sProp 𝕄} {κ g : ℕ} (hl : ∀ j, (l j).toNat < 700000)
    {hx hx' : ∀ a, (![0, 0] : Fin 2 → ℕ) a + S700000x128.size a ≤ S700000x128.size a}
    {oA oB : Fin 2 → ℕ} (hA : oA = ![112 * (g % 4), 0]) (hB : oB = ![112 * (g % 4) + 56, 0])
    {iA : ∀ a, oA a + S56x128.size a ≤ S448x128.size a} {iB : ∀ a, oB a + S56x128.size a ≤ S448x128.size a}
    {pA pB : Fin 1 → ℕ} (hpA : pA = ![112 * g]) (hpB : pB = ![112 * g + 56])
    {jA : ∀ a, pA a + S56.size a ≤ S22400.size a} {jB : ∀ a, pB a + S56.size a ≤ S22400.size a}
    {oS : Fin 1 → ℕ} (hS : oS = ![g % 4]) {iS iS' : ∀ a, oS a + S1.size a ≤ S4.size a}
    {hp hp' : (thr d L).2.kind = .scVector} {hn hn' : S56.numel = S56x128.size gat.axis'} {hsrc hsrc' : (srcX hx).view.WordExact} {he he' : EltTy.f32.bits = 32}
    {hsp hsp' : Space.hbm = .hbm ∨ Space.hbm = .shared} {hrr hrr' : S700000x128.StreamRows 0}
    {k : PUnit → Prog (TpuEff nD τ sig (Elt F) Λ₀ (.scVector (cV L) (jV L))) α} :
    iprop(wmI (F := F) κ ∗ (rLoc d L ↦[slotR g]{fullShare} ft d L x l f₀ g) ∗ ent d L l g ∗ xsh d x qx g ∗ semVal ((thr d L), SemLoc.dma (gsem g)) 0)
      ⊢ iprop((flying d L x l f₀ qx g -∗ WP (k ⟨⟩), Q)
          -∗ WP (SparseCore.enqueueIndirectGather hp (srcX hx) (dstR oA iA) gat (offJ pA jA) hn (semAt cc0_scratch4 oS iS) hsrc he hsp hrr >>= fun _ =>
            SparseCore.enqueueIndirectGather hp' (srcX hx') (dstR oB iB) gat (offJ pB jB) hn' (semAt cc0_scratch4 oS iS') hsrc' he' hsp' hrr' >>= k), Q) := by
  iintro ⟨#Hwm, HR, HE, HX, Hv⟩ Hk
  iapply (fupd_wp frame (wpE (defs₀ (F := F)) 𝒱₀ (thr d L) none) Set.univ _ _)
  imod (prep (d := d) (L := L) (x := x) (l := l) (f₀ := f₀) (qx := qx) (κ := κ) g) $$ [HR HE HX Hv] with ⟨HB, Ha, Hb, Hl⟩
  · isplitr; · iexact Hwm
    isplitl [HR]; · iexact HR
    isplitl [HE]; · iexact HE
    isplitl [HX]; · iexact HX
    iexact Hv
  imodintro
  iapply (wp_gath (r := 0) (by omega) hl (by rw [hA]; rfl) (by rw [hpA]; rfl) hS) $$ [HB Ha]
  · isplitr; · iexact Hwm
    isplitl [Ha]; · iexact Ha
    iexact HB
  iintro HB
  iapply (wp_gath (r := 1) (by omega) hl (by rw [hB]) (by rw [hpB]) hS) $$ [HB Hb]
  · isplitr; · iexact Hwm
    isplitl [Hb]; · iexact Hb
    iexact HB
  iintro HB
  iapply Hk
  unfold flying
  isplitl [HB]; · iexact HB
  iexact Hl

end Chunk

end Cert.Proof
-- ==== Proof.Out.lean ====
/-
  A chunk's results: the two copies out of its slot's sixteen rows, their waits, and the fetch of the tile's list.
-/
module

public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch)
open Idealize.ShloMosaic.Tactic

variable {F : FTy → Type} [FloatOps F]

local notation "𝕄" => MT nD τ sig (HIx 1) (Elt F) ℕ (UU F) ℕ
local notation "aX" => (Memref.whole Cert.KernelIdeal.main_arg0_scv : Memref Cert.KernelIdeal.sig Kind.scVector Space.hbm Cert.KernelIdeal.S700000x128 EltTy.f32)
local notation "aJ" => (Memref.whole Cert.KernelIdeal.cc0_scratch0 : Memref Cert.KernelIdeal.sig Kind.scVector Space.vmem Cert.KernelIdeal.S22400 EltTy.i32)
local notation "aR" => (Memref.whole Cert.KernelIdeal.cc0_scratch1 : Memref Cert.KernelIdeal.sig Kind.scVector Space.vmem Cert.KernelIdeal.S448x128 EltTy.f32)
local notation "aL" => (Memref.whole Cert.KernelIdeal.main_v1_scv : Memref Cert.KernelIdeal.sig Kind.scVector Space.hbm Cert.KernelIdeal.S700672 EltTy.i32)
local notation "aO" => (Memref.whole Cert.KernelIdeal.main_v2_0_scv : Memref Cert.KernelIdeal.sig Kind.scVector Space.hbm Cert.KernelIdeal.S100000x128 EltTy.f32)
local notation "aP" => (Memref.whole Cert.KernelIdeal.main_v2_1_scv : Memref Cert.KernelIdeal.sig Kind.scVector Space.hbm Cert.KernelIdeal.S100000x128 EltTy.i32)
local notation "aV" => (Memref.whole Cert.KernelIdeal.cc0_scratch2 : Memref Cert.KernelIdeal.sig Kind.scVector Space.vmem Cert.KernelIdeal.S64x128 EltTy.f32)
local notation "aI" => (Memref.whole Cert.KernelIdeal.cc0_scratch3 : Memref Cert.KernelIdeal.sig Kind.scVector Space.vmem Cert.KernelIdeal.S64x128 EltTy.i32)

section Out

variable (d : Dev nD) (L : grid0.Coords)

local notation "WP " p ", " Q => wp frame (wpE (defs₀ (F := F)) 𝒱₀ (thr d L) none) Set.univ p Q

variable (x : S700000x128.Idx → Elt F .f32) (l : ℕ → BitVec 32)

/-- The kernel's two results over all the nodes. -/
def ovA : Buf (Elt F) (oLoc d) := fun i => OV x l (i 0).val (i 1).val
def oiA : Buf (Elt F) (pLoc d) := fun i => OI x l (i 0).val (i 1).val

/-- The rows of chunk `g`'s slot in the result buffers; -/
abbrev slotV (g : ℕ) : Finset S64x128.Idx := band (16 * (g % 4)) 16
/-- and of its nodes. -/
abbrev nodesOf (g : ℕ) : Finset S100000x128.Idx := band (n0 L + 16 * g) 16

def DO (g : ℕ) (t : Fin 2) : sProp 𝕄 :=
  if t.val = 0 then iprop((oLoc d ↦[nodesOf L g]{fullShare} ovA d x l) ∗ ∃ f, vLoc d L ↦[slotV g]{fullShare} f)
  else iprop((pLoc d ↦[nodesOf L g]{fullShare} oiA d x l) ∗ ∃ f, iLoc d L ↦[slotV g]{fullShare} f)

instance DO_storable (g : ℕ) (t : Fin 2) : BI.Storable (upEmb : UEmb _ 𝕄) (DO d L x l g t) := by
  unfold DO; split <;> infer_instance

/-- A result copy's units. -/
def NO : ℕ := sig.dmaCredit .scVector (Kind.scVector.table .hbm) (main_v2_0_scv : Ref sig .scVector).idx S16x128 .f32

theorem NO_pos : 0 < NO := by decide +kernel
theorem NO_val (off : Fin 2 → ℕ) (h : ∀ a, off a + S16x128.size a ≤ S100000x128.size a) :
    ((aO).slice (Rect.unit (s := S100000x128) off S16x128.size h) (fun _ => rfl)).view.dmaCredit = NO := rfl
theorem NO_idx (off : Fin 2 → ℕ) (h : ∀ a, off a + S16x128.size a ≤ S100000x128.size a) :
    ((aP).slice (Rect.unit (s := S100000x128) off S16x128.size h) (fun _ => rfl)).view.dmaCredit = NO :=
  show sig.dmaCredit .scVector (Kind.scVector.table .hbm) (main_v2_1_scv : Ref sig .scVector).idx S16x128 .i32 = NO by decide +kernel

/-- Chunk `g`'s result rows, written; -/
def outDone (g : ℕ) : sProp 𝕄 := iprop((oLoc d ↦[nodesOf L g]{fullShare} ovA d x l) ∗ (pLoc d ↦[nodesOf L g]{fullShare} oiA d x l))
/-- its slot of the result buffers with nothing on its way; -/
def idle (g : ℕ) : sProp 𝕄 :=
  iprop(semVal ((thr d L), SemLoc.dma (osem g)) 0 ∗ (∃ f : Buf (Elt F) (vLoc d L), vLoc d L ↦[slotV g]{fullShare} f)
    ∗ (∃ f : Buf (Elt F) (iLoc d L), iLoc d L ↦[slotV g]{fullShare} f))
/-- its copies on their way. -/
def leaving (g : ℕ) : sProp 𝕄 := Batch EC (thr d L) (.dma (osem g)) none NO (DO d L x l g) 2 0

abbrev srcV (off : Fin 2 → ℕ) (h : ∀ a, off a + S16x128.size a ≤ S64x128.size a) : Memref sig .scVector .vmem S16x128 .f32 :=
  (aV).slice (Rect.unit (s := S64x128) off S16x128.size h) (fun _ => rfl)
abbrev srcI (off : Fin 2 → ℕ) (h : ∀ a, off a + S16x128.size a ≤ S64x128.size a) : Memref sig .scVector .vmem S16x128 .i32 :=
  (aI).slice (Rect.unit (s := S64x128) off S16x128.size h) (fun _ => rfl)
abbrev dstO (off : Fin 2 → ℕ) (h : ∀ a, off a + S16x128.size a ≤ S100000x128.size a) : Memref sig .scVector .hbm S16x128 .f32 :=
  (aO).slice (Rect.unit (s := S100000x128) off S16x128.size h) (fun _ => rfl)
abbrev dstP (off : Fin 2 → ℕ) (h : ∀ a, off a + S16x128.size a ≤ S100000x128.size a) : Memref sig .scVector .hbm S16x128 .i32 :=
  (aP).slice (Rect.unit (s := S100000x128) off S16x128.size h) (fun _ => rfl)

variable {d L x l}

theorem set_srcV {lo : ℕ} {off : Fin 2 → ℕ} (ho : off = ![lo, 0]) (h : ∀ a, off a + S16x128.size a ≤ S64x128.size a) : (srcV off h).view.set = band lo 16 :=
  (View.set_slice_whole _ _).trans (set_unit_band ho h)
theorem set_srcI {lo : ℕ} {off : Fin 2 → ℕ} (ho : off = ![lo, 0]) (h : ∀ a, off a + S16x128.size a ≤ S64x128.size a) : (srcI off h).view.set = band lo 16 :=
  (View.set_slice_whole _ _).trans (set_unit_band ho h)
theorem set_dstO {lo : ℕ} {off : Fin 2 → ℕ} (ho : off = ![lo, 0]) (h : ∀ a, off a + S16x128.size a ≤ S100000x128.size a) : (dstO off h).view.set = band lo 16 :=
  (View.set_slice_whole _ _).trans (set_unit_band ho h)
theorem set_dstP {lo : ℕ} {off : Fin 2 → ℕ} (ho : off = ![lo, 0]) (h : ∀ a, off a + S16x128.size a ≤ S100000x128.size a) : (dstP off h).view.set = band lo 16 :=
  (View.set_slice_whole _ _).trans (set_unit_band ho h)

/-- A node's words in its chunk's slot are the list's. -/
theorem seg_XV {g t f j : ℕ} (ht : t < 16) (hf : f < 128) (hj : j ≤ 6) :
    seg (GT x l (n0 L) g) (112 * (g % 4) + 7 * t) f j = XV x l (n0 L + 16 * g + t) f j := by
  have h6 : (7 * f + j) / 128 ≤ 6 := by omega
  have hg : g % 4 < 4 := Nat.mod_lt _ (by decide)
  unfold seg cell GT XV
  show xAt x (l (7 * n0 L + 112 * g + (112 * (g % 4) + 7 * t + (7 * f + j) / 128) % 448 % 112)) (((7 * f + j) % 128) % 128) = _
  rw [Nat.mod_mod]
  congr 2
  omega

theorem MV_eq {g t f : ℕ} (ht : t < 16) (hf : f < 128) : MV (GT x l (n0 L) g) (g % 4) t f = OV x l (n0 L + 16 * g + t) f :=
  maxS_congr fun j hj => seg_XV ht hf hj
theorem MI_eq {g t f : ℕ} (ht : t < 16) (hf : f < 128) : MI (GT x l (n0 L) g) (g % 4) t f = OI x l (n0 L + 16 * g + t) f :=
  congrArg (FloatOps.fptosi 32) (argS_congr fun j hj => seg_XV ht hf hj)

theorem copyV_eq {g : ℕ} {f8 : Buf (Elt F) (vLoc d L)} (hD : Done (α := Elt F .f32) (MV (GT x l (n0 L) g) (g % 4)) (g % 4) 2048 f8) {fd : Buf (Elt F) (oLoc d)}
    {o12 o13 : Fin 2 → ℕ} (h12 : o12 = ![16 * (g % 4), 0]) (h13 : o13 = ![n0 L + 16 * g, 0])
    (i12 : ∀ a, o12 a + S16x128.size a ≤ S64x128.size a) (i13 : ∀ a, o13 a + S16x128.size a ≤ S100000x128.size a) :
    ∀ i ∈ nodesOf L g, (dstO o13 i13).view.write (Elt F) fd ((ReadAs.same (Val := Elt F)).apply ((srcV o12 i12).view.read (Elt F) f8)) Finset.univ i = ovA d x l i := by
  intro i hi
  replace hi : i ∈ (dstO o13 i13).view.set := (set_dstO h13 i13).symm ▸ hi
  obtain ⟨y, -, rfl⟩ := Finset.mem_map.mp hi
  rw [View.write_emb_of_mem _ _ (Finset.mem_univ y)]
  have h0 : (y 0).val < 16 := (y 0).isLt
  have h1 : (y 1).val < 128 := (y 1).isLt
  subst h12; subst h13
  show f8 ((srcV _ i12).view.emb y) = OV x l (n0 L + 16 * g + 1 * (y 0).val) (0 + 1 * (y 1).val)
  have e0 : ((srcV _ i12).view.emb y 0).val = 16 * (g % 4) + 1 * (y 0).val := rfl
  have e1 : ((srcV _ i12).view.emb y 1).val = 0 + 1 * (y 1).val := rfl
  rw [hD _ (by rw [e0]; omega) (by rw [e0, e1]; omega), e0, e1, ← MV_eq (by omega) (by omega)]
  congr 1
  omega

theorem copyI_eq {g : ℕ} {f9 : Buf (Elt F) (iLoc d L)} (hD : Done (α := Elt F .i32) (MI (GT x l (n0 L) g) (g % 4)) (g % 4) 2048 f9) {fd : Buf (Elt F) (pLoc d)}
    {o12 o13 : Fin 2 → ℕ} (h12 : o12 = ![16 * (g % 4), 0]) (h13 : o13 = ![n0 L + 16 * g, 0])
    (i12 : ∀ a, o12 a + S16x128.size a ≤ S64x128.size a) (i13 : ∀ a, o13 a + S16x128.size a ≤ S100000x128.size a) :
    ∀ i ∈ nodesOf L g, (dstP o13 i13).view.write (Elt F) fd ((ReadAs.same (Val := Elt F)).apply ((srcI o12 i12).view.read (Elt F) f9)) Finset.univ i = oiA d x l i := by
  intro i hi
  replace hi : i ∈ (dstP o13 i13).view.set := (set_dstP h13 i13).symm ▸ hi
  obtain ⟨y, -, rfl⟩ := Finset.mem_map.mp hi
  rw [View.write_emb_of_mem _ _ (Finset.mem_univ y)]
  have h0 : (y 0).val < 16 := (y 0).isLt
  have h1 : (y 1).val < 128 := (y 1).isLt
  subst h12; subst h13
  show f9 ((srcI _ i12).view.emb y) = OI x l (n0 L + 16 * g + 1 * (y 0).val) (0 + 1 * (y 1).val)
  have e0 : ((srcI _ i12).view.emb y 0).val = 16 * (g % 4) + 1 * (y 0).val := rfl
  have e1 : ((srcI _ i12).view.emb y 1).val = 0 + 1 * (y 1).val := rfl
  rw [hD _ (by rw [e0]; omega) (by rw [e0, e1]; omega), e0, e1, ← MI_eq (by omega) (by omega)]
  congr 1
  omega

/-- The first copy. -/
theorem wp_copyV {α : Type} {Q : α → sProp 𝕄} {g : ℕ} {f8 : Buf (Elt F) (vLoc d L)} (hD : Done (α := Elt F .f32) (MV (GT x l (n0 L) g) (g % 4)) (g % 4) 2048 f8)
    {fd : Buf (Elt F) (oLoc d)}
    {o12 o13 : Fin 2 → ℕ} (h12 : o12 = ![16 * (g % 4), 0]) (h13 : o13 = ![n0 L + 16 * g, 0])
    {i12 : ∀ a, o12 a + S16x128.size a ≤ S64x128.size a} {i13 : ∀ a, o13 a + S16x128.size a ≤ S100000x128.size a}
    {oS : Fin 1 → ℕ} (hS : oS = ![g % 4]) {iS : ∀ a, oS a + S1.size a ≤ S4.size a}
    {w1 : (srcV o12 i12).view.WordExact} {w2 : (dstO o13 i13).view.WordExact} {w3 : DmaTarget.Typed (nD := nD) (τ := τ) (p := .scVector (cV L) (jV L)) Space.vmem (.dma (semAt cc0_scratch5 oS iS)) (.here (dstO o13 i13))}
    {k : PUnit → Prog (TpuEff nD τ sig (Elt F) Λ₀ (.scVector (cV L) (jV L))) α} :
    iprop((vLoc d L ↦[slotV g]{fullShare} f8) ∗ (oLoc d ↦[nodesOf L g]{fullShare} fd) ∗ semVal ((thr d L), SemLoc.dma (osem g)) 0)
      ⊢ iprop((Batch EC (thr d L) (.dma (osem g)) none NO (DO d L x l g) 1 0 -∗ WP (k ⟨⟩), Q)
          -∗ WP (Prog.lift (.enqueueDma (srcV o12 i12) (.here (dstO o13 i13)) (.dma (semAt cc0_scratch5 oS iS)) w1 w2 w3) >>= k), Q) := by
  subst hS
  iintro ⟨H8, Ho, Hv⟩ Hk
  iapply (fupd_wp frame (wpE (defs₀ (F := F)) 𝒱₀ (thr d L) none) Set.univ _ _)
  imod (Transfers.batch_alloc' EC (thr d L) (sm := .dma (osem g)) none NO (DO d L x l g) (E := Set.univ)) $$ Hv with HB
  imodintro
  iapply (Transfers.wp_dmaBatch EC 𝒱₀ (thr d L) none (src := srcV o12 i12) (dst := dstO o13 i13) (q := fullShare) (fs := f8) (Sd := nodesOf L g) (fd := fd)
    (D := DO d L x l g) (j := 0) (u := 0) none NO (show (dstO o13 i13).view.amount (.dma (osem g)) = NO from NO_val o13 i13) (le_of_eq (set_dstO h13 i13)) (by omega) (Nat.zero_le _) (by
      unfold DO
      rw [if_pos rfl]
      refine BIClass.sep_mono (Entails.of_eq (pointsTo_congr (copyV_eq hD h12 h13 i12 i13))) ?_
      rw [set_srcV h12 i12]
      iintro H; iexists _; iexact H)) $$ [H8 Ho HB]
  · isplitl [H8]
    · iapply (Entails.of_eq ?_) $$ H8
      rw [set_srcV h12 i12]
    isplitl [Ho]; · iexact Ho
    iexact HB
  iexact Hk

/-- The second. -/
theorem wp_copyI {α : Type} {Q : α → sProp 𝕄} {g : ℕ} {f9 : Buf (Elt F) (iLoc d L)} (hD : Done (α := Elt F .i32) (MI (GT x l (n0 L) g) (g % 4)) (g % 4) 2048 f9)
    {fd : Buf (Elt F) (pLoc d)}
    {o12 o13 : Fin 2 → ℕ} (h12 : o12 = ![16 * (g % 4), 0]) (h13 : o13 = ![n0 L + 16 * g, 0])
    {i12 : ∀ a, o12 a + S16x128.size a ≤ S64x128.size a} {i13 : ∀ a, o13 a + S16x128.size a ≤ S100000x128.size a}
    {oS : Fin 1 → ℕ} (hS : oS = ![g % 4]) {iS : ∀ a, oS a + S1.size a ≤ S4.size a}
    {w1 : (srcI o12 i12).view.WordExact} {w2 : (dstP o13 i13).view.WordExact} {w3 : DmaTarget.Typed (nD := nD) (τ := τ) (p := .scVector (cV L) (jV L)) Space.vmem (.dma (semAt cc0_scratch5 oS iS)) (.here (dstP o13 i13))}
    {k : PUnit → Prog (TpuEff nD τ sig (Elt F) Λ₀ (.scVector (cV L) (jV L))) α} :
    iprop((iLoc d L ↦[slotV g]{fullShare} f9) ∗ (pLoc d ↦[nodesOf L g]{fullShare} fd) ∗ Batch EC (thr d L) (.dma (osem g)) none NO (DO d L x l g) 1 0)
      ⊢ iprop((leaving d L x l g -∗ WP (k ⟨⟩), Q)
          -∗ WP (Prog.lift (.enqueueDma (srcI o12 i12) (.here (dstP o13 i13)) (.dma (semAt cc0_scratch5 oS iS)) w1 w2 w3) >>= k), Q) := by
  subst hS
  iintro ⟨H9, Hp, HB⟩ Hk
  iapply (Transfers.wp_dmaBatch EC 𝒱₀ (thr d L) none (src := srcI o12 i12) (dst := dstP o13 i13) (q := fullShare) (fs := f9) (Sd := nodesOf L g) (fd := fd)
    (D := DO d L x l g) (j := 1) (u := 0) none NO (show (dstP o13 i13).view.amount (.dma (osem g)) = NO from NO_idx o13 i13) (le_of_eq (set_dstP h13 i13)) (by omega) (Nat.zero_le _) (by
      unfold DO
      rw [if_neg (by decide)]
      refine BIClass.sep_mono (Entails.of_eq (pointsTo_congr (copyI_eq hD h12 h13 i12 i13))) ?_
      rw [set_srcI h12 i12]
      iintro H; iexists _; iexact H)) $$ [H9 Hp HB]
  · isplitl [H9]
    · iapply (Entails.of_eq ?_) $$ H9
      rw [set_srcI h12 i12]
    isplitl [Hp]; · iexact Hp
    iexact HB
  iexact Hk

/-- Their waits. -/
theorem wp_copyWaits {α : Type} {Q : α → sProp 𝕄} {g : ℕ} {O : CellTallies nD τ sig (HIx 1)} {W : Waits sig (HIx 1)}
    {oA oA' oB oB' : Fin 2 → ℕ} {iA : ∀ a, oA a + S16x128.size a ≤ S64x128.size a} {iA' : ∀ a, oA' a + S16x128.size a ≤ S64x128.size a}
    {iB : ∀ a, oB a + S16x128.size a ≤ S100000x128.size a} {iB' : ∀ a, oB' a + S16x128.size a ≤ S100000x128.size a}
    {oS : Fin 1 → ℕ} (hS : oS = ![g % 4]) {iS iS' : ∀ a, oS a + S1.size a ≤ S4.size a}
    {h1 : (srcV oA iA).view.WordExact} {h2 : (dstO oB iB).view.WordExact} {h1' : (srcI oA' iA').view.WordExact} {h2' : (dstP oB' iB').view.WordExact}
    {k : PUnit → Prog (TpuEff nD τ sig (Elt F) Λ₀ (.scVector (cV L) (jV L))) α} :
    iprop(Transfers.MayWaits (thr d L) none O ∗ leaving d L x l g ∗ Ow (F := F) d L O W)
      ⊢ iprop((iprop(idle (F := F) d L g ∗ outDone d L x l g ∗ Ow (F := F) d L O W) -∗ WP (k ⟨⟩), Q)
          -∗ WP (Prog.lift (.waitDma2 (semAt cc0_scratch5 oS iS) (srcV oA iA) (dstO oB iB) h1 h2) >>= fun _ =>
            Prog.lift (.waitDma2 (semAt cc0_scratch5 oS iS') (srcI oA' iA') (dstP oB' iB') h1' h2') >>= k), Q) := by
  subst hS
  unfold leaving Ow
  iintro ⟨#Hmw, HB, ⟨%W', %hW', HO⟩⟩ Hk
  iapply (Transfers.wp_waitBatchMulO EC 𝒱₀ (thr d L) none none 1 ((NO_val oB iB).trans (Nat.one_mul _).symm) (by show 0 + 1 * NO ≤ NO * 2; omega)) $$ [HB HO]
  · isplitl [HB]; · iexact HB
    isplitl [HO]; · iexact HO
    iapply (Transfers.MayWaits.elim (SemLoc.dma (osem g))) $$ Hmw
  iintro ⟨HB, HO⟩
  iapply (Transfers.wp_waitBatchAllO EC 𝒱₀ (thr d L) none none (NO_idx oB' iB') NO_pos (by show 0 + 1 * NO + NO = NO * 2; omega)) $$ [HB HO]
  · isplitl [HB]; · iexact HB
    isplitl [HO]; · iexact HO
    iapply (Transfers.MayWaits.elim (SemLoc.dma (osem g))) $$ Hmw
  iintro ⟨HD, Hv, HO⟩
  ihave HD2 := (show bigSep Finset.univ (DO d L x l g) ⊢ iprop(DO d L x l g 0 ∗ DO d L x l g 1) from
    Entails.of_eq (by
      rw [show (Finset.univ : Finset (Fin 2)) = {0, 1} from rfl, SparseCore.bigSep_insert' (by decide), bigSep_singleton])) $$ HD
  ihave HD3 := (show iprop(DO d L x l g 0 ∗ DO d L x l g 1)
      ⊢ iprop(((oLoc d ↦[nodesOf L g]{fullShare} ovA d x l) ∗ ∃ f, vLoc d L ↦[slotV g]{fullShare} f)
        ∗ ((pLoc d ↦[nodesOf L g]{fullShare} oiA d x l) ∗ ∃ f, iLoc d L ↦[slotV g]{fullShare} f)) from .rfl) $$ HD2
  icases HD3 with ⟨⟨Ho, H8⟩, ⟨Hp, H9⟩⟩
  iapply Hk
  isplitl [Hv H8 H9]
  · unfold idle
    isplitl [Hv]; · iexact Hv
    isplitl [H8]; · iexact H8
    iexact H9
  isplitl [Ho Hp]
  · unfold outDone
    isplitl [Ho]; · iexact Ho
    iexact Hp
  iexists _
  isplitr
  swap; · iexact HO
  ipureintro
  intro p hp
  rcases Finset.mem_insert.mp hp with hp | hp; · exact .inr (hp ▸ rfl)
  rcases Finset.mem_insert.mp hp with hp | hp; · exact .inr (hp ▸ rfl)
  exact hW' p hp

end Out

end Cert.Proof
-- ==== Proof.Loop.lean ====
/-
  One chunk of the outer loop: its waits, the copies it waits for, its sixteen nodes, its copies out, the gathers of the
  fourth chunk after it.
-/
module

public import proofs.«01_k».proof.Proof.Out

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch)
open Idealize.ShloMosaic.Tactic

variable {F : FTy → Type} [FloatOps F]

local notation "𝕄" => MT nD τ sig (HIx 1) (Elt F) ℕ (UU F) ℕ
local notation "aX" => (Memref.whole Cert.KernelIdeal.main_arg0_scv : Memref Cert.KernelIdeal.sig Kind.scVector Space.hbm Cert.KernelIdeal.S700000x128 EltTy.f32)
local notation "aJ" => (Memref.whole Cert.KernelIdeal.cc0_scratch0 : Memref Cert.KernelIdeal.sig Kind.scVector Space.vmem Cert.KernelIdeal.S22400 EltTy.i32)
local notation "aR" => (Memref.whole Cert.KernelIdeal.cc0_scratch1 : Memref Cert.KernelIdeal.sig Kind.scVector Space.vmem Cert.KernelIdeal.S448x128 EltTy.f32)
local notation "aL" => (Memref.whole Cert.KernelIdeal.main_v1_scv : Memref Cert.KernelIdeal.sig Kind.scVector Space.hbm Cert.KernelIdeal.S700672 EltTy.i32)
local notation "aO" => (Memref.whole Cert.KernelIdeal.main_v2_0_scv : Memref Cert.KernelIdeal.sig Kind.scVector Space.hbm Cert.KernelIdeal.S100000x128 EltTy.f32)
local notation "aP" => (Memref.whole Cert.KernelIdeal.main_v2_1_scv : Memref Cert.KernelIdeal.sig Kind.scVector Space.hbm Cert.KernelIdeal.S100000x128 EltTy.i32)
local notation "aV" => (Memref.whole Cert.KernelIdeal.cc0_scratch2 : Memref Cert.KernelIdeal.sig Kind.scVector Space.vmem Cert.KernelIdeal.S64x128 EltTy.f32)
local notation "aI" => (Memref.whole Cert.KernelIdeal.cc0_scratch3 : Memref Cert.KernelIdeal.sig Kind.scVector Space.vmem Cert.KernelIdeal.S64x128 EltTy.i32)

section Loop

variable (d : Dev nD) (L : grid0.Coords)

local notation "WP " p ", " Q => wp frame (wpE (defs₀ (F := F)) 𝒱₀ (thr d L) none) Set.univ p Q

variable (x : Buf (Elt F) (xLoc d)) (l : ℕ → BitVec 32) (f₀ : Buf (Elt F) (rLoc d L)) (qx : PosShare TreeShare)

/-! ## The four slots as one buffer -/

/-- A family over the four numbers from `k`, as one function of the row buffer's places. -/
def J {β : Type} (k : ℕ) (fam : ℕ → S448x128.Idx → β) : S448x128.Idx → β := fun i => fam (at4 k ((i 0).val / 112)) i

theorem slots_join (k : ℕ) (q : PosShare TreeShare) (fam : ℕ → Buf (Elt F) (rLoc d L)) (tgt : ℕ → Tgt (Elt F) (rLoc d L)) :
    (bigSep (Finset.Ico k (k + 4)) (fun g => wb (rLoc d L) (slotR g) q (fam g) (tgt g) ∅) : sProp 𝕄)
      = wb (rLoc d L) Finset.univ q (J k fam) (J k tgt) ∅ := by
  rw [show (Finset.univ : Finset S448x128.Idx) = (Finset.Ico k (k + 4)).biUnion slotR from by
    symm; ext i
    have hi : (i 0).val < 448 := (i 0).isLt
    have hm : at4 k ((i 0).val / 112) % 4 = (i 0).val / 112 := at4_mod (by omega)
    simp only [Finset.mem_biUnion, Finset.mem_Ico, Finset.mem_univ, iff_true]
    exact ⟨at4 k ((i 0).val / 112), at4_range, mem_band.mpr (by rw [hm]; omega)⟩,
    wb_biUnion (ℓ := rLoc d L) (Finset.Ico k (k + 4)) ⟨k, by simp⟩ slotR fun a ha b hb h => band_disjoint (by
      rw [Finset.mem_Ico] at ha hb; omega)]
  refine bigSep_congr fun g hg => ?_
  have hg := Finset.mem_Ico.mp hg
  have key : ∀ i ∈ slotR g, at4 k ((i 0).val / 112) = g := fun i hi => by
    have h := mem_band.mp hi
    rw [show (i 0).val / 112 = g % 4 by omega]; exact at4_self hg.1 hg.2
  exact wb_congr (fun i hi => by unfold J; rw [key i hi]) (fun i hi => by unfold J; rw [key i hi]) fun _ _ => Iff.rfl

/-- Chunk `g`'s batch, without the half of its slot. -/
def flyB (g : ℕ) : sProp 𝕄 := Batch EC (thr d L) (.dma (gsem g)) none NR (DG d L x l f₀ qx g) 112 0

/-- The slots' contents while chunk `k` is computed. -/
def fam (k g : ℕ) : Buf (Elt F) (rLoc d L) := if g = k then gt d L x l k else ft d L x l f₀ g

variable {d L x l f₀ qx}

theorem knows (k : ℕ) : Knows d L (gt d L x l k) (k % 4) (J k (fam d L x l f₀ k)) (J k (tg d L x l)) := by
  intro i h h'
  have e : at4 k ((i 0).val / 112) = k := by
    rw [show (i 0).val / 112 = k % 4 by omega]; exact at4_self (le_refl _) (by omega)
  unfold J
  rw [e]
  exact ⟨by unfold fam; rw [if_pos rfl], rfl⟩

theorem rest_eq (k : ℕ) (q : PosShare TreeShare) :
    (bigSep (Finset.Ico (k + 1) (k + 4)) (fun g => wb (rLoc d L) (slotR g) q (fam d L x l f₀ k g) (tg d L x l g) ∅) : sProp 𝕄)
      = bigSep (Finset.Ico (k + 1) (k + 4)) (fun g => wb (rLoc d L) (slotR g) q (ft d L x l f₀ g) (tg d L x l g) ∅) :=
  bigSep_congr fun g hg => by
    rw [Finset.mem_Ico] at hg
    unfold fam; rw [if_neg (by omega)]

theorem flying_eq (S : Finset ℕ) : (bigSep S (flying d L x l f₀ qx) : sProp 𝕄)
    = iprop(bigSep S (flyB d L x l f₀ qx) ∗ bigSep S (fun g => wb (rLoc d L) (slotR g) hL (ft d L x l f₀ g) (tg d L x l g) ∅)) :=
  BI.bigSep_sep _ _ _

theorem open_slots {κ : ℕ} (k : ℕ) :
    iprop(wmI (F := F) κ ∗ (rLoc d L ↦[slotR k]{fullShare} gt d L x l k) ∗ bigSep (Finset.Ico (k + 1) (k + 4)) (flying d L x l f₀ qx))
      ⊢ |={Set.univ}=> (iprop(wb (rLoc d L) Finset.univ hL (J k (fam d L x l f₀ k)) (J k (tg d L x l)) ∅
          ∗ wb (rLoc d L) (slotR k) hR (gt d L x l k) (tg d L x l k) ∅
          ∗ bigSep (Finset.Ico (k + 1) (k + 4)) (flyB d L x l f₀ qx)) : sProp 𝕄) := by
  rw [flying_eq, ← slots_join, bigSep_Ico_head _ (show k < k + 4 by omega), rest_eq, show fam d L x l f₀ k k = gt d L x l k from if_pos rfl]
  iintro ⟨#Hwm, HR, HB, Hl⟩
  imod (pointsTo_castIn (emb := EW (F := F)) (ιwm := κ) (E := Set.univ) (tg d L x l k)) $$ [HR] with HR
  · isplitr; · iexact Hwm
    iexact HR
  ihave HR2 := wb_halve $$ HR
  icases HR2 with ⟨H1, H2⟩
  imodintro
  isplitl [H1 Hl]
  · isplitl [H1]; · iexact H1
    iexact Hl
  isplitl [H2]; · iexact H2
  iexact HB

theorem close_slots {κ : ℕ} (k : ℕ) :
    iprop(wmI (F := F) κ ∗ wb (rLoc d L) Finset.univ hL (J k (fam d L x l f₀ k)) (J k (tg d L x l)) ∅
          ∗ wb (rLoc d L) (slotR k) hR (gt d L x l k) (tg d L x l k) ∅
          ∗ bigSep (Finset.Ico (k + 1) (k + 4)) (flyB d L x l f₀ qx))
      ⊢ |={Set.univ}=> (iprop((rLoc d L ↦[slotR k]{fullShare} ft d L x l f₀ (k + 4)) ∗ bigSep (Finset.Ico (k + 1) (k + 4)) (flying d L x l f₀ qx)) : sProp 𝕄) := by
  rw [flying_eq, ← slots_join, bigSep_Ico_head _ (show k < k + 4 by omega), rest_eq, show fam d L x l f₀ k k = gt d L x l k from if_pos rfl,
    show ft d L x l f₀ (k + 4) = gt d L x l k from by unfold ft; rw [if_neg (by omega), Nat.add_sub_cancel]]
  iintro ⟨#Hwm, ⟨H1, Hl⟩, H2, HB⟩
  ihave HR := wb_join (F := F) $$ [H1 H2]
  · isplitl [H1]; · iexact H1
    iexact H2
  imod (willBeTo_castOut_some (emb := EW (F := F)) (ιwm := κ) (E := Set.univ)) $$ [HR] with HR
  · isplitr; · iexact Hwm
    iexact HR
  imodintro
  isplitl [HR]
  · iapply (Entails.of_eq (pointsTo_congr fun i _ => ?_)) $$ HR
    unfold Finset.piecewise; split <;> rfl
  isplitl [HB]; · iexact HB
  iexact Hl

/-! ## The step -/

variable (d L x l)

/-- The results' slot that chunk `g` is to take. -/
def OS (g : ℕ) : sProp 𝕄 := if g < 4 then idle (F := F) d L g else leaving d L x l (g - 4)

variable {d L x l}

theorem idle_mod {g g' : ℕ} (h : g % 4 = g' % 4) : (idle (F := F) d L g : sProp 𝕄) = idle (F := F) d L g' := by
  unfold idle
  rw [show osem g = osem g' from semAt_mod cc0_scratch5 h, show slotV g = slotV g' from by unfold slotV; rw [h]]

/-- A chunk's nodes and the first copy out. -/
theorem nodes_copy {α : Type} {Q : α → sProp 𝕄} {κ : ℕ} (t : Fin (k0_t1_loop L).trips) (v5 v183 : BitVec 32) {fd : Buf (Elt F) (oLoc d)}
    {i12 : ∀ a, k0_off12 L t a + S16x128.size a ≤ S64x128.size a} {i13 : ∀ a, k0_off13 L t a + S16x128.size a ≤ S100000x128.size a}
    {iS : ∀ a, k0_off2 L t a + S1.size a ≤ S4.size a}
    {w1 : (srcV (k0_off12 L t) i12).view.WordExact} {w2 : (dstO (k0_off13 L t) i13).view.WordExact}
    {w3 : DmaTarget.Typed (nD := nD) (τ := τ) (p := .scVector (cV L) (jV L)) Space.vmem (.dma (semAt cc0_scratch5 (k0_off2 L t) iS)) (.here (dstO (k0_off13 L t) i13))}
    {k : PUnit → Prog (TpuEff nD τ sig (Elt F) Λ₀ (.scVector (cV L) (jV L))) α} :
    iprop(wmI (F := F) κ ∗ (rLoc d L ↦[slotR t.val]{fullShare} gt d L x l t.val) ∗ bigSep (Finset.Ico (t.val + 1) (t.val + 4)) (flying d L x l f₀ qx)
        ∗ idle (F := F) d L t.val ∗ (oLoc d ↦[nodesOf L t.val]{fullShare} fd))
      ⊢ iprop((iprop((rLoc d L ↦[slotR t.val]{fullShare} ft d L x l f₀ (t.val + 4)) ∗ bigSep (Finset.Ico (t.val + 1) (t.val + 4)) (flying d L x l f₀ qx)
              ∗ Batch EC (thr d L) (.dma (osem t.val)) none NO (DO d L x l t.val) 1 0
              ∗ (∃ f9 : Buf (Elt F) (iLoc d L), ⌜Done (α := Elt F .i32) (MI (GT x l (n0 L) t.val) (t.val % 4)) (t.val % 4) 2048 f9⌝ ∗ (iLoc d L ↦[slotV t.val]{fullShare} f9)))
              -∗ WP (k ⟨⟩), Q)
          -∗ WP (Scf.Loop.for k0_t2_loop k0_t2_ok 0#32 (k0_t2_body L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0
          v5 k0_pay459 k0_pay460 k0_pay461 k0_pay462 k0_pay463 k0_pay464 k0_pay465 k0_pay466
          k0_pay467 k0_pay468 k0_pay469 k0_pay470 k0_pay471 k0_pay472 k0_pay473 0#32 1#32 t
          (Scalar.muli (Scalar.andi (Scf.iv 0#32 1#32 t) 3#32) 112#32) v183) >>= fun _ =>
            Prog.lift (.enqueueDma (srcV (k0_off12 L t) i12) (.here (dstO (k0_off13 L t) i13)) (.dma (semAt cc0_scratch5 (k0_off2 L t) iS)) w1 w2 w3) >>= k), Q) := by
  iintro ⟨#Hwm, HR, Hfs, HI, Ho⟩ Hk
  unfold idle
  icases HI with ⟨Hv, ⟨%f8, H8⟩, ⟨%f9, H9⟩⟩
  iapply (fupd_wp frame (wpE (defs₀ (F := F)) 𝒱₀ (thr d L) none) Set.univ _ _)
  imod (open_slots (κ := κ) t.val) $$ [HR Hfs] with ⟨HF, Hr, HB⟩
  · isplitr; · iexact Hwm
    isplitl [HR]; · iexact HR
    iexact Hfs
  imodintro
  iapply (wp_nodes d L (κ := κ) (q := hL) (A := slotV t.val) (t1 := t) rfl (knows t.val) (fun i h h' => mem_band.mpr ⟨h, h'⟩) v5 v183) $$ [HF H8 H9]
  · unfold nodeInv
    isplitr; · iexact Hwm
    isplitl [HF]; · iexact HF
    iexists f8; iexists f9
    isplitr
    · ipureintro
      exact ⟨fun i _ h => absurd h (Nat.not_lt_zero _), fun i _ h => absurd h (Nat.not_lt_zero _)⟩
    isplitl [H8]; · iexact H8
    iexact H9
  unfold nodeInv
  iintro %w ⟨-, HF, ⟨%g8, %g9, %hD, H8, H9⟩⟩
  iapply (fupd_wp frame (wpE (defs₀ (F := F)) 𝒱₀ (thr d L) none) Set.univ _ _)
  imod (close_slots (κ := κ) t.val) $$ [HF Hr HB] with ⟨HR, Hfs⟩
  · isplitr; · iexact Hwm
    isplitl [HF]; · iexact HF
    isplitl [Hr]; · iexact Hr
    iexact HB
  imodintro
  iapply (wp_copyV (g := t.val) hD.1 (off12_eq t) (off13_eq t) (off2_eq t)) $$ [H8 Ho Hv]
  · isplitl [H8]; · iexact H8
    isplitl [Ho]; · iexact Ho
    iexact Hv
  iintro HB
  iapply Hk
  isplitl [HR]; · iexact HR
  isplitl [Hfs]; · iexact Hfs
  isplitl [HB]; · iexact HB
  iexists g9
  isplitr
  · ipureintro; exact hD.2
  iexact H9

theorem part16 {α : Type} {Q : α → sProp 𝕄} {κ : ℕ} {O : CellTallies nD τ sig (HIx 1)} {W : Waits sig (HIx 1)} (t : Fin (k0_t1_loop L).trips) (v5 : BitVec 32)
    {fd : Buf (Elt F) (oLoc d)}
    {k : (Σ' (_ : BitVec 32), BitVec 32) → Prog (TpuEff nD τ sig (Elt F) Λ₀ (.scVector (cV L) (jV L))) α} :
    iprop(wmI (F := F) κ ∗ Transfers.MayWaits (thr d L) none O ∗ flying d L x l f₀ qx t.val ∗ bigSep (Finset.Ico (t.val + 1) (t.val + 4)) (flying d L x l f₀ qx)
        ∗ OS d L x l t.val ∗ bigSep (Finset.range (t.val - 4)) (outDone d L x l) ∗ (oLoc d ↦[nodesOf L t.val]{fullShare} fd) ∗ Ow (F := F) d L O W)
      ⊢ iprop((∀ r, iprop((rLoc d L ↦[slotR t.val]{fullShare} ft d L x l f₀ (t.val + 4)) ∗ ent d L l t.val ∗ xsh d x qx t.val
              ∗ semVal ((thr d L), SemLoc.dma (gsem t.val)) 0 ∗ bigSep (Finset.Ico (t.val + 1) (t.val + 4)) (flying d L x l f₀ qx)
              ∗ bigSep (Finset.range (t.val + 1 - 4)) (outDone d L x l) ∗ Batch EC (thr d L) (.dma (osem t.val)) none NO (DO d L x l t.val) 1 0
              ∗ (∃ f9 : Buf (Elt F) (iLoc d L), ⌜Done (α := Elt F .i32) (MI (GT x l (n0 L) t.val) (t.val % 4)) (t.val % 4) 2048 f9⌝ ∗ (iLoc d L ↦[slotV t.val]{fullShare} f9))
              ∗ Ow (F := F) d L O W) -∗ WP (k r), Q)
          -∗ WP (k0_part16 L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0
          v5 k0_pay459 k0_pay460 k0_pay461 k0_pay462 k0_pay463 k0_pay464 k0_pay465 k0_pay466
          k0_pay467 k0_pay468 k0_pay469 k0_pay470 k0_pay471 k0_pay472 k0_pay473 0#32 1#32 t >>= k), Q) := by
  rw [k0_part16_eq_skeleton]
  unfold k0_part16_skel
  simp only [bind_assoc]
  iintro ⟨#Hwm, #Hmw, Hf, Hfs, HS, HD, Ho, HO⟩ Hk
  iapply (wp_gathWaits (g := t.val) (off2_eq t)) $$ [Hf HO]
  · isplitr; · iexact Hwm
    isplitr; · iexact Hmw
    isplitl [Hf]; · iexact Hf
    iexact HO
  iintro ⟨HR, HE, HX, Hv, HO⟩
  by_cases h4 : 4 ≤ t.val
  · rw [dif_pos ((cond1_eq t).mpr h4)]
    simp only [bind_assoc, pure_bind]
    ihave HS := (Entails.of_eq (show (OS d L x l t.val : sProp 𝕄) = leaving d L x l (t.val - 4) from if_neg (by omega))) $$ HS
    have hm : (t.val - 4) % 4 = t.val % 4 := by omega
    iapply (wp_copyWaits (g := t.val - 4) ((off3_eq t).trans (by rw [hm]))) $$ [HS HO]
    · isplitr; · iexact Hmw
      isplitl [HS]; · iexact HS
      iexact HO
    iintro ⟨HI, Hd, HO⟩
    ihave HI := (Entails.of_eq (idle_mod (F := F) (d := d) (L := L) hm)) $$ HI
    iapply (nodes_copy (κ := κ) (f₀ := f₀) (qx := qx) t v5 _) $$ [HR Hfs HI Ho]
    · isplitr; · iexact Hwm
      isplitl [HR]; · iexact HR
      isplitl [Hfs]; · iexact Hfs
      isplitl [HI]; · iexact HI
      iexact Ho
    iintro ⟨HR, Hfs, HB, H9⟩
    iapply Hk
    isplitl [HR]; · iexact HR
    isplitl [HE]; · iexact HE
    isplitl [HX]; · iexact HX
    isplitl [Hv]; · iexact Hv
    isplitl [Hfs]; · iexact Hfs
    isplitl [Hd HD]
    · rw [show t.val + 1 - 4 = (t.val - 4) + 1 by omega, bigSep_range_last]
      isplitl [Hd]; · iexact Hd
      iexact HD
    isplitl [HB]; · iexact HB
    isplitl [H9]; · iexact H9
    iexact HO
  · rw [dif_neg fun h => h4 ((cond1_eq t).mp h)]
    simp only [bind_assoc, pure_bind]
    ihave HI := (Entails.of_eq (show (OS d L x l t.val : sProp 𝕄) = idle d L t.val from if_pos (by omega))) $$ HS
    iapply (nodes_copy (κ := κ) (f₀ := f₀) (qx := qx) t v5 _) $$ [HR Hfs HI Ho]
    · isplitr; · iexact Hwm
      isplitl [HR]; · iexact HR
      isplitl [Hfs]; · iexact Hfs
      isplitl [HI]; · iexact HI
      iexact Ho
    iintro ⟨HR, Hfs, HB, H9⟩
    iapply Hk
    isplitl [HR]; · iexact HR
    isplitl [HE]; · iexact HE
    isplitl [HX]; · iexact HX
    isplitl [Hv]; · iexact Hv
    isplitl [Hfs]; · iexact Hfs
    isplitl [HD]
    · rw [show t.val + 1 - 4 = t.val - 4 by omega]
      iexact HD
    isplitl [HB]; · iexact HB
    isplitl [H9]; · iexact H9
    iexact HO

variable (d L x l f₀ qx)

/-- A chunk's result rows before it. -/
def todo (g : ℕ) : sProp 𝕄 :=
  iprop((∃ f : Buf (Elt F) (oLoc d), oLoc d ↦[nodesOf L g]{fullShare} f) ∗ (∃ f : Buf (Elt F) (pLoc d), pLoc d ↦[nodesOf L g]{fullShare} f))

/-- The outer loop's state after `k` chunks. -/
def loopInv (κ : ℕ) (O : CellTallies nD τ sig (HIx 1)) (W : Waits sig (HIx 1)) (k : ℕ) : sProp 𝕄 :=
  iprop(wmI (F := F) κ ∗ Transfers.MayWaits (thr d L) none O ∗ bigSep (Finset.Ico k (k + 4)) (flying d L x l f₀ qx)
    ∗ bigSep (Finset.Ico k (k + 4)) (OS d L x l) ∗ bigSep (Finset.range (k - 4)) (outDone d L x l) ∗ bigSep (Finset.Ico k (nch L)) (todo (F := F) d L)
    ∗ bigSep (Finset.range k) (ent (F := F) d L l) ∗ bigSep (Finset.Ico (k + 4) 200) (ent (F := F) d L l) ∗ Ow (F := F) d L O W)

variable {d L x l f₀ qx}

theorem xsh_mod {g g' : ℕ} (h : g % 4 = g' % 4) : (xsh d x qx g : sProp 𝕄) = xsh d x qx g' := by
  unfold xsh
  rw [show (⟨g % 4, Nat.mod_lt _ (by omega)⟩ : Fin 4) = ⟨g' % 4, Nat.mod_lt _ (by omega)⟩ from Fin.ext h]

theorem slotR_mod {g g' : ℕ} (h : g % 4 = g' % 4) : slotR g = slotR g' := by unfold slotR; rw [h]

theorem wp_chunk {κ : ℕ} {O : CellTallies nD τ sig (HIx 1)} {W : Waits sig (HIx 1)} (hl : ∀ j, (l j).toNat < 700000)
    (t : Fin (k0_t1_loop L).trips) (v5 v7 acc : BitVec 32) :
    loopInv d L x l f₀ qx κ O W t.val
      ⊢ WP (k0_t1_body L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0
          v5 v7 k0_pay459 k0_pay460 k0_pay461 k0_pay462 k0_pay463 k0_pay464 k0_pay465 k0_pay466
          k0_pay467 k0_pay468 k0_pay469 k0_pay470 k0_pay471 k0_pay472 k0_pay473 t acc), fun _ => loopInv d L x l f₀ qx κ O W (t.val + 1) := by
  have ht := t1_lt t
  have htn : t.val < nch L := trips_one' L ▸ t.isLt
  unfold k0_t1_body loopInv
  rw [bigSep_Ico_head _ (show t.val < t.val + 4 by omega), bigSep_Ico_head (OS d L x l) (show t.val < t.val + 4 by omega), bigSep_Ico_head (todo d L) htn,
    bigSep_Ico_head _ (show t.val + 4 < 200 by omega)]
  iintro ⟨#Hwm, #Hmw, ⟨Hf, Hfs⟩, ⟨HS, HSs⟩, HD, ⟨HT, HTs⟩, HEs, ⟨HE4, HEr⟩, HO⟩
  unfold todo
  icases HT with ⟨⟨%fo, Ho⟩, ⟨%fp, Hp⟩⟩
  iapply (part16 (κ := κ) t v5) $$ [Hf Hfs HS HD Ho HO]
  · isplitr; · iexact Hwm
    isplitr; · iexact Hmw
    isplitl [Hf]; · iexact Hf
    isplitl [Hfs]; · iexact Hfs
    isplitl [HS]; · iexact HS
    isplitl [HD]; · iexact HD
    isplitl [Ho]; · iexact Ho
    iexact HO
  iintro %r ⟨HR, HE, HX, Hv, Hfs, HD, HB, ⟨%f9, %hD9, H9⟩, HO⟩
  iapply (wp_copyI (g := t.val) hD9 (off12_eq t) (off13_eq t) (off2_eq t)) $$ [H9 Hp HB]
  · isplitl [H9]; · iexact H9
    isplitl [Hp]; · iexact Hp
    iexact HB
  iintro HLv
  have hm : t.val % 4 = (t.val + 4) % 4 := by omega
  ihave HX := (Entails.of_eq (xsh_mod (F := F) (d := d) (x := x) (qx := qx) hm)) $$ HX
  iapply (wp_gathers (κ := κ) (g := t.val + 4) (f₀ := f₀) (qx := qx) hl ((off14_eq t 0).trans (by rw [← hm]; rfl)) ((off14_eq t 1).trans (by rw [← hm]; rfl))
    (off15_eq t 0) (off15_eq t 1) ((off2_eq t).trans (by rw [hm]))) $$ [HR HE4 HX Hv]
  · isplitr; · iexact Hwm
    isplitl [HR]
    · rw [← slotR_mod hm]; iexact HR
    isplitl [HE4]; · iexact HE4
    isplitl [HX]; · iexact HX
    rw [show gsem (t.val + 4) = gsem t.val from (semAt_mod cc0_scratch4 hm).symm]
    iexact Hv
  iintro HF
  ihave HS4 := (Entails.of_eq (show (leaving d L x l t.val : sProp 𝕄) = OS d L x l (t.val + 4) from by
    unfold OS; rw [if_neg (by omega), Nat.add_sub_cancel])) $$ HLv
  rw [wp_pure]
  imodintro
  rw [show t.val + 1 + 4 = t.val + 4 + 1 by omega, bigSep_Ico_last _ (show t.val + 1 ≤ t.val + 4 by omega), bigSep_Ico_last (OS d L x l) (show t.val + 1 ≤ t.val + 4 by omega),
    bigSep_range_last (ent d L l)]
  isplitr; · iexact Hwm
  isplitr; · iexact Hmw
  isplitl [HF Hfs]
  · isplitl [HF]; · iexact HF
    iexact Hfs
  isplitl [HS4 HSs]
  · isplitl [HS4]; · iexact HS4
    iexact HSs
  isplitl [HD]; · iexact HD
  isplitl [HTs]; · iexact HTs
  isplitl [HE HEs]
  · isplitl [HE]; · iexact HE
    iexact HEs
  isplitl [HEr]; · iexact HEr
  iexact HO

end Loop

end Cert.Proof
-- ==== Proof.Tile.lean ====
/-
  A tile's task whole: the list fetched, the first four chunks' gathers, the outer loop, the last waits.
-/
module

public import proofs.«01_k».proof.Proof.Loop

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch)
open Idealize.ShloMosaic.Tactic

variable {F : FTy → Type} [FloatOps F]

local notation "𝕄" => MT nD τ sig (HIx 1) (Elt F) ℕ (UU F) ℕ
local notation "aX" => (Memref.whole Cert.KernelIdeal.main_arg0_scv : Memref Cert.KernelIdeal.sig Kind.scVector Space.hbm Cert.KernelIdeal.S700000x128 EltTy.f32)
local notation "aJ" => (Memref.whole Cert.KernelIdeal.cc0_scratch0 : Memref Cert.KernelIdeal.sig Kind.scVector Space.vmem Cert.KernelIdeal.S22400 EltTy.i32)
local notation "aR" => (Memref.whole Cert.KernelIdeal.cc0_scratch1 : Memref Cert.KernelIdeal.sig Kind.scVector Space.vmem Cert.KernelIdeal.S448x128 EltTy.f32)
local notation "aL" => (Memref.whole Cert.KernelIdeal.main_v1_scv : Memref Cert.KernelIdeal.sig Kind.scVector Space.hbm Cert.KernelIdeal.S700672 EltTy.i32)
local notation "aO" => (Memref.whole Cert.KernelIdeal.main_v2_0_scv : Memref Cert.KernelIdeal.sig Kind.scVector Space.hbm Cert.KernelIdeal.S100000x128 EltTy.f32)
local notation "aP" => (Memref.whole Cert.KernelIdeal.main_v2_1_scv : Memref Cert.KernelIdeal.sig Kind.scVector Space.hbm Cert.KernelIdeal.S100000x128 EltTy.i32)
local notation "aV" => (Memref.whole Cert.KernelIdeal.cc0_scratch2 : Memref Cert.KernelIdeal.sig Kind.scVector Space.vmem Cert.KernelIdeal.S64x128 EltTy.f32)
local notation "aI" => (Memref.whole Cert.KernelIdeal.cc0_scratch3 : Memref Cert.KernelIdeal.sig Kind.scVector Space.vmem Cert.KernelIdeal.S64x128 EltTy.i32)

section Tile

/-! ## Cutting and joining -/

theorem bigSep_Ico_cut {M : Type} [URA M] (Φ : ℕ → sProp M) {a b c : ℕ} (h : a ≤ b) (h' : b ≤ c) :
    bigSep (Finset.Ico a c) Φ = iprop(bigSep (Finset.Ico a b) Φ ∗ bigSep (Finset.Ico b c) Φ) := by
  rw [← SparseCore.bigSep_union' (Finset.Ico_disjoint_Ico_consecutive a b c), Finset.Ico_union_Ico_eq_Ico h h']

theorem slots_univ {R m : ℕ} (hR : R = 4 * m) (k : ℕ) : (Finset.Ico k (k + 4)).biUnion (fun g => band (R := R) (m * (g % 4)) m) = Finset.univ := by
  ext i
  have hi : (i 0).val < R := (i 0).isLt
  have hq : (i 0).val / m < 4 := Nat.div_lt_of_lt_mul (by rw [Nat.mul_comm]; omega)
  have hm : at4 k ((i 0).val / m) % 4 = (i 0).val / m := at4_mod hq
  simp only [Finset.mem_biUnion, Finset.mem_Ico, Finset.mem_univ, iff_true]
  refine ⟨at4 k ((i 0).val / m), at4_range, mem_band.mpr ?_⟩
  rw [hm]
  have hm0 : 0 < m := by omega
  exact ⟨Nat.mul_div_le _ _, by rw [← Nat.mul_succ]; exact Nat.lt_mul_div_succ _ hm0⟩

theorem slots_disjoint {R m k : ℕ} : ∀ a ∈ Finset.Ico k (k + 4), ∀ b ∈ Finset.Ico k (k + 4), a ≠ b → Disjoint (band (R := R) (m * (a % 4)) m) (band (R := R) (m * (b % 4)) m) := by
  intro a ha b hb h
  rw [Finset.mem_Ico] at ha hb
  have hne : a % 4 ≠ b % 4 := by omega
  refine band_disjoint ?_
  rcases Nat.lt_or_gt_of_ne hne with hlt | hlt
  · left; rw [← Nat.mul_succ]; exact Nat.mul_le_mul_left _ hlt
  · right; rw [← Nat.mul_succ]; exact Nat.mul_le_mul_left _ hlt

variable (d : Dev nD) (L : grid0.Coords)

local notation "WP " p ", " Q => wp frame (wpE (defs₀ (F := F)) 𝒱₀ (thr d L) none) Set.univ p Q

variable (x : Buf (Elt F) (xLoc d)) (v1 : Buf (Elt F) (lLoc d)) (qx ql : PosShare TreeShare)

/-- The padded list at numbers. -/
abbrev lw : ℕ → BitVec 32 := lst (F := F) v1

/-- The tile's nodes. -/
abbrev tileRows : Finset S100000x128.Idx := band (n0 L) (16 * nch L)

theorem tileRows_cut : tileRows L = (Finset.range (nch L)).biUnion (fun g => nodesOf L g) := band_cut.symm

theorem nodes_disjoint {S : Finset ℕ} : ∀ a ∈ S, ∀ b ∈ S, a ≠ b → Disjoint (nodesOf L a) (nodesOf L b) := fun a _ b _ h => band_disjoint (by omega)

theorem ents_eq (l : ℕ → BitVec 32) : (jLoc d L ↦{fullShare} fj d L l : sProp 𝕄) = bigSep (Finset.Ico 0 200) (ent (F := F) d L l) := by
  rw [show (Finset.univ : Finset S22400.Idx) = (Finset.Ico 0 200).biUnion (fun g => run (112 * g) 112) from by
    rw [← run_all, show run (R := 22400) 0 22400 = run 0 (112 * 200) from rfl, ← run_cut, Finset.range_eq_Ico]; simp only [Nat.zero_add]]
  exact pointsTo_biUnion _ _ fun a _ b _ h => run_disjoint (by omega)

theorem xs_eq : (xLoc d ↦{qx} x : sProp 𝕄) = iprop(xsh d x qx 0 ∗ xsh d x qx 1 ∗ xsh d x qx 2 ∗ xsh d x qx 3) := by
  rw [pointsTo_piecesOf (o := 4) Finset.univ x (by omega),
    show (bigSep Finset.univ fun j : Fin 4 => (xLoc d ↦[Finset.univ]{pieceOf qx 4 (by omega) j} x : sProp 𝕄)) = bigSep Finset.univ fun j : Fin 4 => xsh d x qx j.val from
      bigSep_congr fun j _ => by unfold xsh; rw [show (⟨j.val % 4, Nat.mod_lt _ (by omega)⟩ : Fin 4) = j from Fin.ext (Nat.mod_eq_of_lt j.isLt)],
    ← bigSep_range_fin (xsh d x qx) 4, Finset.range_eq_Ico]
  exact bigSep_Ico_four (xsh d x qx) 0

/-- What the task takes and gives back, but for the results' rows; -/
def bufs : sProp 𝕄 :=
  iprop((∃ f : Buf (Elt F) (jLoc d L), jLoc d L ↦{fullShare} f) ∗ (∃ f : Buf (Elt F) (rLoc d L), rLoc d L ↦{fullShare} f)
    ∗ (∃ f : Buf (Elt F) (vLoc d L), vLoc d L ↦{fullShare} f) ∗ (∃ f : Buf (Elt F) (iLoc d L), iLoc d L ↦{fullShare} f))
def gsems : sProp 𝕄 :=
  iprop(semVal ((thr d L), SemLoc.dma (gsem 0)) 0 ∗ semVal ((thr d L), SemLoc.dma (gsem 1)) 0 ∗ semVal ((thr d L), SemLoc.dma (gsem 2)) 0 ∗ semVal ((thr d L), SemLoc.dma (gsem 3)) 0)
def osems : sProp 𝕄 :=
  iprop(semVal ((thr d L), SemLoc.dma (osem 0)) 0 ∗ semVal ((thr d L), SemLoc.dma (osem 1)) 0 ∗ semVal ((thr d L), SemLoc.dma (osem 2)) 0 ∗ semVal ((thr d L), SemLoc.dma (osem 3)) 0)

variable {d L x v1 qx ql}

/-! ## The list -/

theorem fetched {fd : Buf (Elt F) (jLoc d L)} :
    ((aJ).view.write (Elt F) fd ((ReadAs.same (Val := Elt F)).apply (((aL).slice (Rect.unit (s := S700672) (k0_off1 L) S22400.size (k0_off1_inb L)) (fun _ => rfl)).view.read (Elt F) v1)) Finset.univ)
      = fj d L (lw d v1) := by
  rw [View.write_whole_univ]
  funext i
  have hi : (i 0).val < 22400 := (i 0).isLt
  have hb := n0_list_le L
  show v1 _ = v1 _
  congr 1
  refine (eq_ix1 _).trans ?_
  congr 1
  apply Fin.ext
  show k0_off1 L 0 + 1 * (i 0).val = (7 * n0 L + (i 0).val) % 700672
  rw [off1_eq]
  show 7 * n0 L + 1 * (i 0).val = (7 * n0 L + (i 0).val) % 700672
  omega

theorem wp_fetch {α : Type} {Q : α → sProp 𝕄} {O : CellTallies nD τ sig (HIx 1)} {W : Waits sig (HIx 1)} {fd : Buf (Elt F) (jLoc d L)}
    {w1 : ((aL).slice (Rect.unit (s := S700672) (k0_off1 L) S22400.size (k0_off1_inb L)) (fun _ => rfl)).view.WordExact} {w2 : (aJ).view.WordExact}
    {w3 : DmaTarget.Typed (nD := nD) (τ := τ) (p := .scVector (cV L) (jV L)) Space.hbm (.dma cc0_scoped0.sem) (.here aJ)}
    {k : PUnit → Prog (TpuEff nD τ sig (Elt F) Λ₀ (.scVector (cV L) (jV L))) α} :
    iprop(Transfers.MayWaits (thr d L) none O ∗ (lLoc d ↦{ql} v1) ∗ (jLoc d L ↦{fullShare} fd) ∗ semVal ((thr d L), SemLoc.dma cc0_scoped0.sem) 0 ∗ Ow (F := F) d L O W)
      ⊢ iprop((iprop((lLoc d ↦{ql} v1) ∗ (jLoc d L ↦{fullShare} fj d L (lw d v1)) ∗ semVal ((thr d L), SemLoc.dma cc0_scoped0.sem) 0 ∗ Ow (F := F) d L O W) -∗ WP (k ⟨⟩), Q)
          -∗ WP (Prog.lift (.enqueueDma ((aL).slice (Rect.unit (s := S700672) (k0_off1 L) S22400.size (k0_off1_inb L)) (fun _ => rfl)) (.here aJ) (.dma cc0_scoped0.sem) w1 w2 w3) >>= fun _ =>
            Prog.lift (.waitDma2 cc0_scoped0.sem ((aL).slice (Rect.unit (s := S700672) (k0_off1 L) S22400.size (k0_off1_inb L)) (fun _ => rfl)) aJ w1 w2) >>= k), Q) := by
  unfold Ow
  iintro ⟨#Hmw, Hl, Hj, Hv, ⟨%W', %hW', HO⟩⟩ Hk
  ihave Hl2 := (pointsTo_split_subset (q := ql) (f := v1) (S := Finset.univ)
    (Finset.subset_univ ((aL).slice (Rect.unit (s := S700672) (k0_off1 L) S22400.size (k0_off1_inb L)) (fun _ => rfl)).view.set)).1 $$ Hl
  icases Hl2 with ⟨Hl, Hlr⟩
  iapply (Transfers.wp_dmaLocal EC 𝒱₀ (thr d L) none (src := (aL).slice (Rect.unit (s := S700672) (k0_off1 L) S22400.size (k0_off1_inb L)) (fun _ => rfl)) (dst := aJ)
    (q := ql) (fs := v1) (Sd := Finset.univ) (fd := fd) none (aJ).view.dmaCredit rfl (by decide +kernel) (Finset.subset_univ _)) $$ [Hl Hj Hv]
  · isplitl [Hl]; · iexact Hl
    isplitl [Hj]; · iexact Hj
    iexact Hv
  iintro HF
  iapply (Transfers.wp_waitLocalO EC 𝒱₀ (thr d L) none none rfl) $$ [HF HO]
  · isplitl [HF]; · iexact HF
    isplitl [HO]; · iexact HO
    iapply (Transfers.MayWaits.elim (SemLoc.dma cc0_scoped0.sem)) $$ Hmw
  iintro ⟨⟨Hj, Hl⟩, Hv, HO⟩
  iapply Hk
  isplitl [Hl Hlr]
  · iapply (pointsTo_split_subset (q := ql) (f := v1) (S := Finset.univ)
      (Finset.subset_univ ((aL).slice (Rect.unit (s := S700672) (k0_off1 L) S22400.size (k0_off1_inb L)) (fun _ => rfl)).view.set)).2
    isplitl [Hl]; · iexact Hl
    iexact Hlr
  isplitl [Hj]
  · iapply (Entails.of_eq (congrArg (fun f => (jLoc d L ↦{fullShare} f : sProp 𝕄)) (fetched (v1 := v1) (fd := fd)))) $$ Hj
  isplitl [Hv]; · iexact Hv
  ihave HO := (Ow_insert (F := F) (d := d) (L := L) (O := O) hW' (SemLoc.dma cc0_scoped0.sem)) $$ HO
  unfold Ow
  iexact HO

/-! ## Before the loop and after it -/

theorem slots_cut {ℓ : Loc nD τ sig} {K : ℕ → Finset (Idx ℓ)} (k : ℕ) (hU : (Finset.Ico k (k + 4)).biUnion K = Finset.univ)
    (hK : ∀ a ∈ Finset.Ico k (k + 4), ∀ b ∈ Finset.Ico k (k + 4), a ≠ b → Disjoint (K a) (K b)) (f : Buf (Elt F) ℓ) :
    (ℓ ↦{fullShare} f : sProp 𝕄) = bigSep (Finset.Ico k (k + 4)) fun g => ℓ ↦[K g]{fullShare} f := by
  rw [← hU]; exact pointsTo_biUnion _ _ hK

theorem slots_back {ℓ : Loc nD τ sig} {K : ℕ → Finset (Idx ℓ)} (k : ℕ) (hU : (Finset.Ico k (k + 4)).biUnion K = Finset.univ)
    (hK : ∀ a ∈ Finset.Ico k (k + 4), ∀ b ∈ Finset.Ico k (k + 4), a ≠ b → Disjoint (K a) (K b)) (fs : ℕ → Buf (Elt F) ℓ) :
    bigSep (Finset.Ico k (k + 4)) (fun g => ℓ ↦[K g]{fullShare} fs g) ⊢ (iprop(∃ f : Buf (Elt F) ℓ, ℓ ↦{fullShare} f) : sProp 𝕄) := by
  refine (pointsTo_biUnion_join _ K fs (fs 0) hK).trans ?_
  rw [hU]
  iintro ⟨%g, -, H⟩
  iexists g; iexact H

theorem todo_of : iprop((∃ f : Buf (Elt F) (oLoc d), oLoc d ↦[tileRows L]{fullShare} f) ∗ (∃ f : Buf (Elt F) (pLoc d), pLoc d ↦[tileRows L]{fullShare} f))
    ⊢ (bigSep (Finset.Ico 0 (nch L)) (todo (F := F) d L) : sProp 𝕄) := by
  rw [tileRows_cut, ← Finset.range_eq_Ico]
  iintro ⟨⟨%f, Ho⟩, ⟨%f', Hp⟩⟩
  ihave H := (Entails.of_eq (show (iprop((oLoc d ↦[(Finset.range (nch L)).biUnion (fun g => nodesOf L g)]{fullShare} f) ∗ (pLoc d ↦[(Finset.range (nch L)).biUnion (fun g => nodesOf L g)]{fullShare} f')) : sProp 𝕄)
      = bigSep (Finset.range (nch L)) fun g => iprop((oLoc d ↦[nodesOf L g]{fullShare} f) ∗ (pLoc d ↦[nodesOf L g]{fullShare} f')) from by
    rw [pointsTo_biUnion _ _ (nodes_disjoint L), pointsTo_biUnion _ _ (nodes_disjoint L)]; exact (BI.bigSep_sep _ _ _).symm)) $$ [Ho Hp]
  · isplitl [Ho]; · iexact Ho
    iexact Hp
  iapply (show (bigSep (Finset.range (nch L)) fun g => iprop((oLoc d ↦[nodesOf L g]{fullShare} f) ∗ (pLoc d ↦[nodesOf L g]{fullShare} f')) : sProp 𝕄)
    ⊢ bigSep (Finset.range (nch L)) (todo (F := F) d L) from bigSep_mono fun g _ => ?_) $$ H
  show (iprop((oLoc d ↦[nodesOf L g]{fullShare} f) ∗ (pLoc d ↦[nodesOf L g]{fullShare} f')) : sProp 𝕄) ⊢ todo (F := F) d L g
  unfold todo
  iintro ⟨H1, H2⟩
  isplitl [H1]; · iexists f; iexact H1
  iexists f'; iexact H2

theorem outs_back {l : ℕ → BitVec 32} : (bigSep (Finset.range (nch L)) (outDone d L x l) : sProp 𝕄)
    ⊢ iprop((oLoc d ↦[tileRows L]{fullShare} ovA d x l) ∗ (pLoc d ↦[tileRows L]{fullShare} oiA d x l)) := by
  rw [tileRows_cut, pointsTo_biUnion _ _ (nodes_disjoint L), pointsTo_biUnion _ _ (nodes_disjoint L)]
  exact Entails.of_eq (BI.bigSep_sep _ _ _)

theorem idles_of : iprop((∃ f : Buf (Elt F) (vLoc d L), vLoc d L ↦{fullShare} f) ∗ (∃ f : Buf (Elt F) (iLoc d L), iLoc d L ↦{fullShare} f) ∗ osems (F := F) d L)
    ⊢ (iprop(idle (F := F) d L 0 ∗ idle (F := F) d L 1 ∗ idle (F := F) d L 2 ∗ idle (F := F) d L 3) : sProp 𝕄) := by
  unfold osems
  iintro ⟨⟨%f, Hv⟩, ⟨%f', Hi⟩, H0, H1, H2, H3⟩
  ihave Hv := (Entails.of_eq ((slots_cut (F := F) (ℓ := vLoc d L) (K := slotV) 0 (slots_univ (R := 64) (m := 16) rfl 0) slots_disjoint f).trans (bigSep_Ico_four _ 0))) $$ Hv
  ihave Hi := (Entails.of_eq ((slots_cut (F := F) (ℓ := iLoc d L) (K := slotV) 0 (slots_univ (R := 64) (m := 16) rfl 0) slots_disjoint f').trans (bigSep_Ico_four _ 0))) $$ Hi
  icases Hv with ⟨V0, V1, V2, V3⟩
  icases Hi with ⟨I0, I1, I2, I3⟩
  unfold idle
  isplitl [H0 V0 I0]
  · isplitl [H0]; · iexact H0
    isplitl [V0]; · iexists f; iexact V0
    iexists f'; iexact I0
  isplitl [H1 V1 I1]
  · isplitl [H1]; · iexact H1
    isplitl [V1]; · iexists f; iexact V1
    iexists f'; iexact I1
  isplitl [H2 V2 I2]
  · isplitl [H2]; · iexact H2
    isplitl [V2]; · iexists f; iexact V2
    iexists f'; iexact I2
  · isplitl [H3]; · iexact H3
    isplitl [V3]; · iexists f; iexact V3
    iexists f'; iexact I3

/-- Four contents by number. -/
def pick {β : Type} (a b c e : β) : ℕ → β
  | 0 => a | 1 => b | 2 => c | _ => e

theorem idles_back : (iprop(idle (F := F) d L 0 ∗ idle (F := F) d L 1 ∗ idle (F := F) d L 2 ∗ idle (F := F) d L 3) : sProp 𝕄)
    ⊢ iprop((∃ f : Buf (Elt F) (vLoc d L), vLoc d L ↦{fullShare} f) ∗ (∃ f : Buf (Elt F) (iLoc d L), iLoc d L ↦{fullShare} f) ∗ osems (F := F) d L) := by
  unfold idle osems
  iintro ⟨⟨H0, ⟨%a0, V0⟩, ⟨%b0, I0⟩⟩, ⟨H1, ⟨%a1, V1⟩, ⟨%b1, I1⟩⟩, ⟨H2, ⟨%a2, V2⟩, ⟨%b2, I2⟩⟩, ⟨H3, ⟨%a3, V3⟩, ⟨%b3, I3⟩⟩⟩
  isplitl [V0 V1 V2 V3]
  · iapply (slots_back (F := F) (ℓ := vLoc d L) (K := slotV) 0 (slots_univ (R := 64) (m := 16) rfl 0) slots_disjoint (pick a0 a1 a2 a3))
    rw [bigSep_Ico_four]
    isplitl [V0]; · iexact V0
    isplitl [V1]; · iexact V1
    isplitl [V2]; · iexact V2
    iexact V3
  isplitl [I0 I1 I2 I3]
  · iapply (slots_back (F := F) (ℓ := iLoc d L) (K := slotV) 0 (slots_univ (R := 64) (m := 16) rfl 0) slots_disjoint (pick b0 b1 b2 b3))
    rw [bigSep_Ico_four]
    isplitl [I0]; · iexact I0
    isplitl [I1]; · iexact I1
    isplitl [I2]; · iexact I2
    iexact I3
  isplitl [H0]; · iexact H0
  isplitl [H1]; · iexact H1
  isplitl [H2]; · iexact H2
  iexact H3

end Tile

end Cert.Proof
-- ==== Proof.Task.lean ====
/-
  A tile's task, from its first statement to its last.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch)
open Idealize.ShloMosaic.Tactic

variable {F : FTy → Type} [FloatOps F]

local notation "𝕄" => MT nD τ sig (HIx 1) (Elt F) ℕ (UU F) ℕ
local notation "aX" => (Memref.whole Cert.KernelIdeal.main_arg0_scv : Memref Cert.KernelIdeal.sig Kind.scVector Space.hbm Cert.KernelIdeal.S700000x128 EltTy.f32)
local notation "aJ" => (Memref.whole Cert.KernelIdeal.cc0_scratch0 : Memref Cert.KernelIdeal.sig Kind.scVector Space.vmem Cert.KernelIdeal.S22400 EltTy.i32)
local notation "aR" => (Memref.whole Cert.KernelIdeal.cc0_scratch1 : Memref Cert.KernelIdeal.sig Kind.scVector Space.vmem Cert.KernelIdeal.S448x128 EltTy.f32)
local notation "aL" => (Memref.whole Cert.KernelIdeal.main_v1_scv : Memref Cert.KernelIdeal.sig Kind.scVector Space.hbm Cert.KernelIdeal.S700672 EltTy.i32)
local notation "aO" => (Memref.whole Cert.KernelIdeal.main_v2_0_scv : Memref Cert.KernelIdeal.sig Kind.scVector Space.hbm Cert.KernelIdeal.S100000x128 EltTy.f32)
local notation "aP" => (Memref.whole Cert.KernelIdeal.main_v2_1_scv : Memref Cert.KernelIdeal.sig Kind.scVector Space.hbm Cert.KernelIdeal.S100000x128 EltTy.i32)
local notation "aV" => (Memref.whole Cert.KernelIdeal.cc0_scratch2 : Memref Cert.KernelIdeal.sig Kind.scVector Space.vmem Cert.KernelIdeal.S64x128 EltTy.f32)
local notation "aI" => (Memref.whole Cert.KernelIdeal.cc0_scratch3 : Memref Cert.KernelIdeal.sig Kind.scVector Space.vmem Cert.KernelIdeal.S64x128 EltTy.i32)

section Task

variable (d : Dev nD) (L : grid0.Coords)

local notation "WP " p ", " Q => wp frame (wpE (defs₀ (F := F)) 𝒱₀ (thr d L) none) Set.univ p Q

variable (x : Buf (Elt F) (xLoc d)) (v1 : Buf (Elt F) (lLoc d)) (qx ql : PosShare TreeShare)

/-- The outer loop. -/
theorem wp_chunks {α : Type} {Q : α → sProp 𝕄} {κ : ℕ} {O : CellTallies nD τ sig (HIx 1)} {W : Waits sig (HIx 1)} {l : ℕ → BitVec 32} {f₀ : Buf (Elt F) (rLoc d L)}
    (hl : ∀ j, (l j).toNat < 700000) (v5 v7 : BitVec 32)
    {k : BitVec 32 → Prog (TpuEff nD τ sig (Elt F) Λ₀ (.scVector (cV L) (jV L))) α} :
    loopInv d L x l f₀ qx κ O W 0
      ⊢ iprop((∀ w, loopInv d L x l f₀ qx κ O W (nch L) -∗ WP (k w), Q) -∗ WP (Scf.Loop.for (k0_t1_loop L) (k0_t1_ok L) 0#32 (k0_t1_body L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0
          v5 v7 k0_pay459 k0_pay460 k0_pay461 k0_pay462 k0_pay463 k0_pay464 k0_pay465 k0_pay466
          k0_pay467 k0_pay468 k0_pay469 k0_pay470 k0_pay471 k0_pay472 k0_pay473) >>= k), Q) := by
  have h := Scf.wp_for_bind frame (wpE (defs₀ (F := F)) 𝒱₀ (thr d L) none) Set.univ (k0_t1_loop L).lb (k0_t1_loop L).ub (k0_t1_loop L).st (k0_t1_ok L) 0#32
    (k0_t1_body L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0
          v5 v7 k0_pay459 k0_pay460 k0_pay461 k0_pay462 k0_pay463 k0_pay464 k0_pay465 k0_pay466
          k0_pay467 k0_pay468 k0_pay469 k0_pay470 k0_pay471 k0_pay472 k0_pay473)
    (fun n _ => loopInv d L x l f₀ qx κ O W n) (fun t acc => wp_chunk hl t v5 v7 acc) (kk := k) (Q := Q)
  have e : Scf.trips (k0_t1_loop L).lb (k0_t1_loop L).ub (k0_t1_loop L).st = nch L := trips_one' L
  rw [e] at h
  exact h

/-- The second loop's no trips. -/
theorem wp_none {α : Type} {Q : α → sProp 𝕄} (R : sProp 𝕄) (a : BitVec 32) (body : Fin (k0_t3_loop L).trips → BitVec 32 → Prog (TpuEff nD τ sig (Elt F) Λ₀ (.scVector (cV L) (jV L))) (BitVec 32))
    {k : BitVec 32 → Prog (TpuEff nD τ sig (Elt F) Λ₀ (.scVector (cV L) (jV L))) α} :
    R ⊢ iprop((∀ w, R -∗ WP (k w), Q) -∗ WP (Scf.Loop.for (k0_t3_loop L) (k0_t3_ok L) a body >>= k), Q) := by
  exact Scf.wp_for_bind frame (wpE (defs₀ (F := F)) 𝒱₀ (thr d L) none) Set.univ (k0_t3_loop L).lb (k0_t3_loop L).ub (k0_t3_loop L).st (k0_t3_ok L) a
    body (fun _ _ => R) (fun t acc => absurd t.isLt (by
      have h := trips_three L
      show ¬ t.val < (k0_t3_loop L).trips
      omega)) (kk := k) (Q := Q)

theorem wp_task {κ : ℕ} {O : CellTallies nD τ sig (HIx 1)} {W : Waits sig (HIx 1)} (hl : ∀ j, (lw d v1 j).toNat < 700000) :
    iprop(wmI (F := F) κ ∗ Transfers.MayWaits (thr d L) none O ∗ (xLoc d ↦{qx} x) ∗ (lLoc d ↦{ql} v1)
        ∗ iprop((∃ f : Buf (Elt F) (oLoc d), oLoc d ↦[tileRows L]{fullShare} f) ∗ (∃ f : Buf (Elt F) (pLoc d), pLoc d ↦[tileRows L]{fullShare} f))
        ∗ bufs (F := F) d L ∗ semVal ((thr d L), SemLoc.dma cc0_scoped0.sem) 0 ∗ gsems (F := F) d L ∗ osems (F := F) d L ∗ Ow (F := F) d L O W)
      ⊢ WP (cc0__sc_pool L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0), fun _ => iprop((xLoc d ↦{qx} x) ∗ (lLoc d ↦{ql} v1)
        ∗ iprop((oLoc d ↦[tileRows L]{fullShare} ovA d x (lw d v1)) ∗ (pLoc d ↦[tileRows L]{fullShare} oiA d x (lw d v1)))
        ∗ bufs (F := F) d L ∗ semVal ((thr d L), SemLoc.dma cc0_scoped0.sem) 0 ∗ gsems (F := F) d L ∗ osems (F := F) d L ∗ Ow (F := F) d L O W) := by
  simp only [cc0__sc_pool_eq_skeleton]
  unfold cc0__sc_pool_skel
  simp only [k0_part33_eq_skeleton, k0_part34_eq_skeleton, k0_part35_eq_skeleton, k0_part36_eq_skeleton, k0_part37_eq_skeleton, k0_part38_eq_skeleton]
  unfold k0_part33_skel k0_part34_skel k0_part35_skel k0_part36_skel k0_part37_skel k0_part38_skel
  simp only [bind_assoc, pure_bind]
  unfold bufs gsems
  iintro ⟨#Hwm, #Hmw, Hx, Hl, HT, ⟨⟨%fj0, Hj⟩, ⟨%f₀, HR⟩, HV, HI⟩, Hs, ⟨G0, G1, G2, G3⟩, HOs, HO⟩
  iapply (wp_fetch (d := d) (L := L) (ql := ql)) $$ [Hl Hj Hs HO]
  · isplitr; · iexact Hmw
    isplitl [Hl]; · iexact Hl
    isplitl [Hj]; · iexact Hj
    isplitl [Hs]; · iexact Hs
    iexact HO
  iintro ⟨Hl, Hj, Hs, HO⟩
  ihave Hj := (Entails.of_eq ((ents_eq (F := F) d L (lw d v1)).trans (bigSep_Ico_cut _ (show 0 ≤ 4 by omega) (show 4 ≤ 200 by omega)))) $$ Hj
  icases Hj with ⟨Hj4, Hjr⟩
  ihave Hj4 := (Entails.of_eq (bigSep_Ico_four (ent (F := F) d L (lw d v1)) 0)) $$ Hj4
  icases Hj4 with ⟨J0, J1, J2, J3⟩
  ihave Hx := (Entails.of_eq (xs_eq (F := F) d x qx)) $$ Hx
  icases Hx with ⟨X0, X1, X2, X3⟩
  ihave HR := (Entails.of_eq ((slots_cut (F := F) (ℓ := rLoc d L) (K := slotR) 0 (slots_univ (R := 448) (m := 112) rfl 0) slots_disjoint f₀).trans (bigSep_Ico_four _ 0))) $$ HR
  icases HR with ⟨R0, R1, R2, R3⟩
  iapply (wp_gathers (κ := κ) (g := 0) (f₀ := f₀) (qx := qx) hl rfl rfl rfl rfl rfl) $$ [R0 J0 X0 G0]
  · isplitr; · iexact Hwm
    isplitl [R0]; · iexact R0
    isplitl [J0]; · iexact J0
    isplitl [X0]; · iexact X0
    iexact G0
  iintro F0
  iapply (wp_gathers (κ := κ) (g := 1) (f₀ := f₀) (qx := qx) hl rfl rfl rfl rfl rfl) $$ [R1 J1 X1 G1]
  · isplitr; · iexact Hwm
    isplitl [R1]; · iexact R1
    isplitl [J1]; · iexact J1
    isplitl [X1]; · iexact X1
    iexact G1
  iintro F1
  iapply (wp_gathers (κ := κ) (g := 2) (f₀ := f₀) (qx := qx) hl rfl rfl rfl rfl rfl) $$ [R2 J2 X2 G2]
  · isplitr; · iexact Hwm
    isplitl [R2]; · iexact R2
    isplitl [J2]; · iexact J2
    isplitl [X2]; · iexact X2
    iexact G2
  iintro F2
  iapply (wp_gathers (κ := κ) (g := 3) (f₀ := f₀) (qx := qx) hl rfl rfl rfl rfl rfl) $$ [R3 J3 X3 G3]
  · isplitr; · iexact Hwm
    isplitl [R3]; · iexact R3
    isplitl [J3]; · iexact J3
    isplitl [X3]; · iexact X3
    iexact G3
  iintro F3
  ihave HIs := (idles_of (F := F) (d := d) (L := L)) $$ [HV HI HOs]
  · isplitl [HV]; · iexact HV
    isplitl [HI]; · iexact HI
    iexact HOs
  icases HIs with ⟨I0, I1, I2, I3⟩
  ihave HT := (todo_of (F := F) (d := d) (L := L)) $$ HT
  have hO0 : ∀ s, s < 4 → OS d L x (lw d v1) (at4 0 s) = idle (F := F) d L s := fun s h => (if_pos (by
    have := at4_range (k := 0) (s := s)
    omega)).trans (idle_mod (by rw [at4_mod h]; omega))
  iapply (wp_chunks d L x qx (κ := κ) (O := O) (W := W) (f₀ := f₀) hl _ _) $$ [F0 F1 F2 F3 I0 I1 I2 I3 HT Hjr HO]
  · unfold loopInv
    rw [bigSep_Ico_four, bigSep_Ico_four (OS d L x (lw d v1)), hO0 0 (by omega), hO0 1 (by omega), hO0 2 (by omega), hO0 3 (by omega)]
    isplitr; · iexact Hwm
    isplitr; · iexact Hmw
    isplitl [F0 F1 F2 F3]
    · isplitl [F0]; · iexact F0
      isplitl [F1]; · iexact F1
      isplitl [F2]; · iexact F2
      iexact F3
    isplitl [I0 I1 I2 I3]
    · isplitl [I0]; · iexact I0
      isplitl [I1]; · iexact I1
      isplitl [I2]; · iexact I2
      iexact I3
    isplitr
    · rw [show Finset.range (0 - 4) = ∅ from rfl, bigSep_empty]
      iempintro
    isplitl [HT]; · iexact HT
    isplitr
    · rw [show Finset.range 0 = ∅ from rfl, bigSep_empty]
      iempintro
    isplitl [Hjr]; · iexact Hjr
    iexact HO
  iintro %w HL
  iapply (wp_none d L (loopInv d L x (lw d v1) f₀ qx κ O W (nch L)) _ _) $$ [HL]
  · iexact HL
  iintro %w' HL
  have hn : 194 ≤ nch L := nch_ge L
  have hn' : nch L ≤ 196 := nch_le L
  have hOS : ∀ s, OS d L x (lw d v1) (at4 (nch L) s) = leaving d L x (lw d v1) (at4 (nch L) s - 4) := fun s => if_neg (by
    have := at4_range (k := nch L) (s := s)
    omega)
  have hg : ∀ s, s < 4 → (at4 (nch L) s - 4) % 4 = s := fun s h => by
    have := at4_range (k := nch L) (s := s)
    have := at4_mod (k := nch L) h
    omega
  unfold loopInv
  ihave HL := (Entails.of_eq (congrArg₂ (fun A B : sProp 𝕄 => iprop(wmI (F := F) κ ∗ Transfers.MayWaits (thr d L) none O ∗ A ∗ B
      ∗ bigSep (Finset.range (nch L - 4)) (outDone d L x (lw d v1)) ∗ bigSep (Finset.Ico (nch L) (nch L)) (todo (F := F) d L)
      ∗ bigSep (Finset.range (nch L)) (ent (F := F) d L (lw d v1)) ∗ bigSep (Finset.Ico (nch L + 4) 200) (ent (F := F) d L (lw d v1)) ∗ Ow (F := F) d L O W))
    (bigSep_Ico_four (flying d L x (lw d v1) f₀ qx) (nch L)) (bigSep_Ico_four (OS d L x (lw d v1)) (nch L)))) $$ HL
  rw [hOS 0, hOS 1, hOS 2, hOS 3]
  icases HL with ⟨-, -, ⟨F0, F1, F2, F3⟩, ⟨I0, I1, I2, I3⟩, HD, -, HE, HEr, HO⟩
  iapply (wp_gathWaits (κ := κ) (g := at4 (nch L) 0) (by rw [at4_mod (by omega)])) $$ [F0 HO]
  · isplitr; · iexact Hwm
    isplitr; · iexact Hmw
    isplitl [F0]; · iexact F0
    iexact HO
  iintro ⟨R0, E0, X0, G0, HO⟩
  iapply (wp_copyWaits (g := at4 (nch L) 0 - 4) (by rw [hg 0 (by omega)])) $$ [I0 HO]
  · isplitr; · iexact Hmw
    isplitl [I0]; · iexact I0
    iexact HO
  iintro ⟨I0, D0, HO⟩
  iapply (wp_gathWaits (κ := κ) (g := at4 (nch L) 1) (by rw [at4_mod (by omega)])) $$ [F1 HO]
  · isplitr; · iexact Hwm
    isplitr; · iexact Hmw
    isplitl [F1]; · iexact F1
    iexact HO
  iintro ⟨R1, E1, X1, G1, HO⟩
  iapply (wp_copyWaits (g := at4 (nch L) 1 - 4) (by rw [hg 1 (by omega)])) $$ [I1 HO]
  · isplitr; · iexact Hmw
    isplitl [I1]; · iexact I1
    iexact HO
  iintro ⟨I1, D1, HO⟩
  iapply (wp_gathWaits (κ := κ) (g := at4 (nch L) 2) (by rw [at4_mod (by omega)])) $$ [F2 HO]
  · isplitr; · iexact Hwm
    isplitr; · iexact Hmw
    isplitl [F2]; · iexact F2
    iexact HO
  iintro ⟨R2, E2, X2, G2, HO⟩
  iapply (wp_copyWaits (g := at4 (nch L) 2 - 4) (by rw [hg 2 (by omega)])) $$ [I2 HO]
  · isplitr; · iexact Hmw
    isplitl [I2]; · iexact I2
    iexact HO
  iintro ⟨I2, D2, HO⟩
  iapply (wp_gathWaits (κ := κ) (g := at4 (nch L) 3) (by rw [at4_mod (by omega)])) $$ [F3 HO]
  · isplitr; · iexact Hwm
    isplitr; · iexact Hmw
    isplitl [F3]; · iexact F3
    iexact HO
  iintro ⟨R3, E3, X3, G3, HO⟩
  iapply (wp_copyWaits (g := at4 (nch L) 3 - 4) (by rw [hg 3 (by omega)])) $$ [I3 HO]
  · isplitr; · iexact Hmw
    isplitl [I3]; · iexact I3
    iexact HO
  iintro ⟨I3, D3, HO⟩
  rw [wp_pure]
  imodintro
  isplitl [X0 X1 X2 X3]
  · iapply (Entails.of_eq (xs_eq (F := F) d x qx).symm)
    rw [xsh_mod (F := F) (d := d) (x := x) (qx := qx) (g := 0) (g' := at4 (nch L) 0) (at4_mod (by omega)).symm,
      xsh_mod (F := F) (d := d) (x := x) (qx := qx) (g := 1) (g' := at4 (nch L) 1) (at4_mod (by omega)).symm,
      xsh_mod (F := F) (d := d) (x := x) (qx := qx) (g := 2) (g' := at4 (nch L) 2) (at4_mod (by omega)).symm,
      xsh_mod (F := F) (d := d) (x := x) (qx := qx) (g := 3) (g' := at4 (nch L) 3) (at4_mod (by omega)).symm]
    isplitl [X0]; · iexact X0
    isplitl [X1]; · iexact X1
    isplitl [X2]; · iexact X2
    iexact X3
  isplitl [Hl]; · iexact Hl
  isplitl [HD D0 D1 D2 D3]
  · iapply (outs_back (F := F) (d := d) (L := L) (x := x) (l := lw d v1))
    rw [Finset.range_eq_Ico (a := nch L), bigSep_Ico_cut _ (show 0 ≤ nch L - 4 by omega) (show nch L - 4 ≤ nch L by omega)]
    isplitl [HD]; · rw [← Finset.range_eq_Ico]; iexact HD
    have e : ∀ s, at4 (nch L - 4) s = at4 (nch L) s - 4 := fun s => by unfold at4; omega
    rw [show Finset.Ico (nch L - 4) (nch L) = Finset.Ico (nch L - 4) (nch L - 4 + 4) from by rw [Nat.sub_add_cancel (by omega)], bigSep_Ico_four,
      e 0, e 1, e 2, e 3]
    isplitl [D0]; · iexact D0
    isplitl [D1]; · iexact D1
    isplitl [D2]; · iexact D2
    iexact D3
  ihave HIs := (idles_back (F := F) (d := d) (L := L)) $$ [I0 I1 I2 I3]
  · rw [idle_mod (F := F) (d := d) (L := L) (g := 0) (g' := at4 (nch L) 0 - 4) (hg 0 (by omega)).symm,
      idle_mod (F := F) (d := d) (L := L) (g := 1) (g' := at4 (nch L) 1 - 4) (hg 1 (by omega)).symm,
      idle_mod (F := F) (d := d) (L := L) (g := 2) (g' := at4 (nch L) 2 - 4) (hg 2 (by omega)).symm,
      idle_mod (F := F) (d := d) (L := L) (g := 3) (g' := at4 (nch L) 3 - 4) (hg 3 (by omega)).symm]
    isplitl [I0]; · iexact I0
    isplitl [I1]; · iexact I1
    isplitl [I2]; · iexact I2
    iexact I3
  icases HIs with ⟨HV, HI, HOs⟩
  isplitl [HE E0 E1 E2 E3 HEr R0 R1 R2 R3 HV HI]
  · isplitl [HE E0 E1 E2 E3 HEr]
    · iexists (fj d L (lw d v1))
      rw [ents_eq, bigSep_Ico_cut _ (show 0 ≤ nch L by omega) (show nch L ≤ 200 by omega), bigSep_Ico_cut _ (show nch L ≤ nch L + 4 by omega) (show nch L + 4 ≤ 200 by omega),
        bigSep_Ico_four]
      isplitl [HE]; · rw [← Finset.range_eq_Ico]; iexact HE
      isplitl [E0 E1 E2 E3]
      · isplitl [E0]; · iexact E0
        isplitl [E1]; · iexact E1
        isplitl [E2]; · iexact E2
        iexact E3
      iexact HEr
    isplitl [R0 R1 R2 R3]
    · iapply (slots_back (F := F) (ℓ := rLoc d L) (K := slotR) (nch L) (slots_univ (R := 448) (m := 112) rfl (nch L)) slots_disjoint (fun g => gt d L x (lw d v1) g))
      rw [bigSep_Ico_four]
      isplitl [R0]; · iexact R0
      isplitl [R1]; · iexact R1
      isplitl [R2]; · iexact R2
      iexact R3
    isplitl [HV]; · iexact HV
    iexact HI
  isplitl [Hs]; · iexact Hs
  isplitl [G0 G1 G2 G3]
  · rw [show gsem 0 = gsem (at4 (nch L) 0) from semAt_mod cc0_scratch4 (at4_mod (by omega)).symm, show gsem 1 = gsem (at4 (nch L) 1) from semAt_mod cc0_scratch4 (at4_mod (by omega)).symm,
      show gsem 2 = gsem (at4 (nch L) 2) from semAt_mod cc0_scratch4 (at4_mod (by omega)).symm, show gsem 3 = gsem (at4 (nch L) 3) from semAt_mod cc0_scratch4 (at4_mod (by omega)).symm]
    isplitl [G0]; · iexact G0
    isplitl [G1]; · iexact G1
    isplitl [G2]; · iexact G2
    iexact G3
  isplitl [HOs]; · iexact HOs
  iexact HO

end Task

end Cert.Proof
-- ==== Proof.Launch.lean ====
/-
  The launch: what the call carries to the tiles, a tile's obligation, the split of the arrays, @main and the whole program's run.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Batch)
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ (UU F) ℕ
local notation "aX" => (Memref.whole Cert.KernelIdeal.main_arg0_scv : Memref Cert.KernelIdeal.sig Kind.scVector Space.hbm Cert.KernelIdeal.S700000x128 EltTy.f32)
local notation "aJ" => (Memref.whole Cert.KernelIdeal.cc0_scratch0 : Memref Cert.KernelIdeal.sig Kind.scVector Space.vmem Cert.KernelIdeal.S22400 EltTy.i32)
local notation "aR" => (Memref.whole Cert.KernelIdeal.cc0_scratch1 : Memref Cert.KernelIdeal.sig Kind.scVector Space.vmem Cert.KernelIdeal.S448x128 EltTy.f32)
local notation "aL" => (Memref.whole Cert.KernelIdeal.main_v1_scv : Memref Cert.KernelIdeal.sig Kind.scVector Space.hbm Cert.KernelIdeal.S700672 EltTy.i32)
local notation "aO" => (Memref.whole Cert.KernelIdeal.main_v2_0_scv : Memref Cert.KernelIdeal.sig Kind.scVector Space.hbm Cert.KernelIdeal.S100000x128 EltTy.f32)
local notation "aP" => (Memref.whole Cert.KernelIdeal.main_v2_1_scv : Memref Cert.KernelIdeal.sig Kind.scVector Space.hbm Cert.KernelIdeal.S100000x128 EltTy.i32)
local notation "aV" => (Memref.whole Cert.KernelIdeal.cc0_scratch2 : Memref Cert.KernelIdeal.sig Kind.scVector Space.vmem Cert.KernelIdeal.S64x128 EltTy.f32)
local notation "aI" => (Memref.whole Cert.KernelIdeal.cc0_scratch3 : Memref Cert.KernelIdeal.sig Kind.scVector Space.vmem Cert.KernelIdeal.S64x128 EltTy.i32)

/-! ## The arrays before the call -/

variable (m : (ℓ : Loc nD τ sig) → Buf (Elt F) ℓ) (ρ : Dev nD → PrngReg)

abbrev x' : DevRef τ sig := Proc.devRef .tc (main_arg0 : Ref sig .tc)
abbrev n' : DevRef τ sig := Proc.devRef .tc (main_arg1 : Ref sig .tc)
abbrev c' : DevRef τ sig := Proc.devRef .tc (main_c : Ref sig .tc)
abbrev z' : DevRef τ sig := Proc.devRef .tc (main_v0 : Ref sig .tc)
abbrev l' : DevRef τ sig := Proc.devRef .tc (main_v1 : Ref sig .tc)
abbrev o' : DevRef τ sig := Proc.devRef .tc (main_v2_0 : Ref sig .tc)
abbrev p' : DevRef τ sig := Proc.devRef .tc (main_v2_1 : Ref sig .tc)

abbrev nLoc (d : Dev nD) : Loc nD τ sig := (SparseCore.T d).loc main_arg1

abbrev opC : HloOp τ sig (Elt F) := StableHlo.nullary main_c (constantI S_ 32 0#32)
abbrev opZ : HloOp τ sig (Elt F) :=
  StableHlo.unary main_c main_v0 (broadcastInDim S672 ![] bcast_S_S672 : (⟨S_, .i32⟩ : BufTy).Contents (Elt F) → (⟨S672, .i32⟩ : BufTy).Contents (Elt F))
abbrev opL : HloOp τ sig (Elt F) :=
  StableHlo.binary main_arg1 main_v0 main_v1 ((fun a b => concatenate S700672 0 [⟨S700000, a⟩, ⟨S672, b⟩] concatenates_S700000_S672_S700672_d0) :
    (⟨S700000, .i32⟩ : BufTy).Contents (Elt F) → (⟨S672, .i32⟩ : BufTy).Contents (Elt F) → (⟨S700672, .i32⟩ : BufTy).Contents (Elt F))

/-- The launch's contents, and those before the call. -/
def V0 (d : Dev nD) : Valuation τ sig (Elt F) := fun b => m (d, b)
def V3 (d : Dev nD) : Valuation τ sig (Elt F) := (opL (F := F)).result ((opZ (F := F)).result ((opC (F := F)).result (V0 m d)))

/-- The padded list. -/
def lv (d : Dev nD) : Buf (Elt F) (lLoc d) := V3 m d l'

/-- What the proof asks of the list: each word names a row. -/
def PreOK : Prop := ∀ (d : Dev nD) (j : ℕ), (lw d (lv m d) j).toNat < 700000

/-! ## What the handshakes carry -/

/-- Tile `(c, s)`. -/
def tile (c : Fin 2) (s : Fin 16) : grid0.Coords :=
  fun | 0 => c | 1 => s | ⟨_ + 2, h⟩ => absurd h (Nat.not_lt.2 (Nat.le_add_left _ _))

/-- Its share of the arrays that all tiles read. -/
def sh (c : Fin 2) (s : Fin 16) : PosShare TreeShare := pieceOf (pieceOf fullShare 2 (by omega) c) 16 (by omega) s

def goT (d : Dev nD) (c : Fin 2) (s : Fin 16) : sProp 𝕄 :=
  iprop((xLoc d ↦{sh c s} m (xLoc d)) ∗ (lLoc d ↦{sh c s} lv m d) ∗ (oLoc d ↦[tileRows (tile c s)]{fullShare} m (oLoc d)) ∗ (pLoc d ↦[tileRows (tile c s)]{fullShare} m (pLoc d)))

abbrev oOut (d : Dev nD) : Buf (Elt F) (oLoc d) := ovA d (m (xLoc d)) (lw d (lv m d))
abbrev pOut (d : Dev nD) : Buf (Elt F) (pLoc d) := oiA d (m (xLoc d)) (lw d (lv m d))

def tdT (d : Dev nD) (c : Fin 2) (s : Fin 16) : sProp 𝕄 :=
  iprop((xLoc d ↦{sh c s} m (xLoc d)) ∗ (lLoc d ↦{sh c s} lv m d) ∗ (oLoc d ↦[tileRows (tile c s)]{fullShare} oOut m d) ∗ (pLoc d ↦[tileRows (tile c s)]{fullShare} pOut m d))

instance goT_storable (d : Dev nD) (c : Fin 2) (s : Fin 16) : BI.Storable (upEmb : UEmb _ 𝕄) (goT m d c s) := by unfold goT; infer_instance
instance tdT_storable (d : Dev nD) (c : Fin 2) (s : Fin 16) : BI.Storable (upEmb : UEmb _ 𝕄) (tdT m d c s) := by unfold tdT; infer_instance

/-- A core takes what its tiles take, and gives back what they give. -/
def P : (K (F := F)).Pay (nD := nD) (Val := Elt F) (Name := ℕ) (U := UU F) where
  st := fun q d c => match q with | 0 => bigSep Finset.univ fun s : Fin 16 => goT m d (Fin.cast nCore_zero c) s
  dn := fun q d c => match q with | 0 => bigSep Finset.univ fun s : Fin 16 => tdT m d (Fin.cast nCore_zero c) s
  go := fun q d c i => match q with | 0 => goT m d (Fin.cast nCore_zero c) (Fin.cast nSub_zero i)
  td := fun q d c i => match q with | 0 => tdT m d (Fin.cast nCore_zero c) (Fin.cast nSub_zero i)
  x := fun _ _ => iprop(∃ κ, wmI (F := F) κ)

instance P_storable : (P m).IsStorable where
  st q d c := match q with
    | 0 => (inferInstance : BI.Storable (upEmb : UEmb _ 𝕄) (bigSep Finset.univ fun s : Fin 16 => goT m d (Fin.cast nCore_zero c) s))
  dn q d c := match q with
    | 0 => (inferInstance : BI.Storable (upEmb : UEmb _ 𝕄) (bigSep Finset.univ fun s : Fin 16 => tdT m d (Fin.cast nCore_zero c) s))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

/-! ## A tile's own cells and buffers -/

section Own

variable (d : Dev nD) (L : grid0.Coords)

/-- The cells that the task names. -/
abbrev cells : Finset (SemLoc sig) :=
  {.dma cc0_scoped0.sem, .dma (gsem 0), .dma (gsem 1), .dma (gsem 2), .dma (gsem 3), .dma (osem 0), .dma (osem 1), .dma (osem 2), .dma (osem 3)}

abbrev atTile : SemLoc sig ↪ GSem nD τ sig := ⟨fun s => (thr d L, s), fun _ _ h => (Prod.mk.inj h).2⟩

theorem sep_rot (A B C : sProp 𝕄) : iprop((A ∗ B) ∗ C) = iprop(A ∗ B ∗ C) := by
  refine BI.Entails.antisymm (show iprop((A ∗ B) ∗ C) ⊢ iprop(A ∗ B ∗ C) from ?_) (show iprop(A ∗ B ∗ C) ⊢ iprop((A ∗ B) ∗ C) from ?_)
  · iintro ⟨⟨HA, HB⟩, HC⟩
    isplitl [HA]; · iexact HA
    isplitl [HB]; · iexact HB
    iexact HC
  · iintro ⟨HA, HB, HC⟩
    isplitr [HC]
    · isplitl [HA]; · iexact HA
      iexact HB
    iexact HC

theorem cells_own : ∀ s ∈ cells, s.isScoped .scVector = true := by decide +kernel

theorem ownSems0_V : (ownSems0 (thr d L) : sProp 𝕄)
    = iprop(iprop(semVal (thr d L, SemLoc.dma cc0_scoped0.sem) 0 ∗ gsems (F := F) d L ∗ osems (F := F) d L) ∗ bigSep (ownCells (thr d L) \ cells.map (atTile d L)) fun g => semVal g 0) := by
  have hsub : cells.map (atTile d L) ⊆ ownCells (thr d L) := fun g hg => by
    obtain ⟨s, hs, rfl⟩ := Finset.mem_map.mp hg
    exact mem_ownCells.mpr ⟨rfl, cells_own s hs⟩
  unfold SparseCore.Cfg.ownSems0
  rw [← Finset.union_sdiff_of_subset hsub, SparseCore.bigSep_union' Finset.disjoint_sdiff, Finset.union_sdiff_of_subset hsub, bigSep_map]
  congr 1
  unfold cells gsems osems
  rw [SparseCore.bigSep_insert' (by decide +kernel), SparseCore.bigSep_insert' (by decide +kernel), SparseCore.bigSep_insert' (by decide +kernel),
    SparseCore.bigSep_insert' (by decide +kernel), SparseCore.bigSep_insert' (by decide +kernel), SparseCore.bigSep_insert' (by decide +kernel),
    SparseCore.bigSep_insert' (by decide +kernel), SparseCore.bigSep_insert' (by decide +kernel), bigSep_singleton]
  simp only [sep_rot]
  rfl

abbrev scratch : Finset (Ref sig .scVector) := {cc0_scratch0, cc0_scratch1, cc0_scratch2, cc0_scratch3}

abbrev refAt : Ref sig .scVector ↪ DevRef τ sig := ⟨(Proc.scVector (cV L) (jV L)).devRef, Proc.devRef_injective _⟩

theorem ownBufs_V : (ownBufs (thr d L) : sProp 𝕄)
    = iprop(bufs (F := F) d L ∗ bigSep (ownRefs (τ := τ) (.scVector (cV L) (jV L)) \ scratch.map (refAt L)) fun b => iprop(∃ f, ((d, b) : Loc nD τ sig) ↦{fullShare} f)) := by
  have hsub : scratch.map (refAt L) ⊆ ownRefs (τ := τ) (.scVector (cV L) (jV L)) := fun g hg => by
    obtain ⟨s, hs, rfl⟩ := Finset.mem_map.mp hg
    refine SparseCore.Cfg.mem_ownRefs_of_owner ?_
    simp only [Finset.mem_insert, Finset.mem_singleton] at hs
    rcases hs with rfl | rfl | rfl | rfl <;> rfl
  unfold SparseCore.Cfg.ownBufs
  show bigSep (ownRefs (τ := τ) (.scVector (cV L) (jV L))) _ = _
  rw [← Finset.union_sdiff_of_subset hsub, SparseCore.bigSep_union' Finset.disjoint_sdiff, Finset.union_sdiff_of_subset hsub, bigSep_map]
  congr 1
  unfold scratch bufs
  rw [SparseCore.bigSep_insert' (by decide), SparseCore.bigSep_insert' (by decide), SparseCore.bigSep_insert' (by decide), bigSep_singleton]
  rfl

end Own

/-! ## The obligation -/

theorem tile_body (hF : (K (F := F)).Facts) (hpre : PreOK m) (d : Dev nD) (c : Fin 2) (s : Fin 16) {L : grid0.Coords} (hL : L = tile c s)
    (O : CellTallies nD τ sig (HIx 1)) (W : Waits sig (HIx 1)) (hO : ∀ g, O g none = 0) :
    iprop(levAts (K (F := F)).L (K (F := F)).lev ∗ (∃ κ, wmI (F := F) κ) ∗ goT m d c s
        ∗ scopedBufs (thr d L) ∗ scopedSems0 (thr d L) ∗ owes (thr d L) O W)
      ⊢ wp frame (wpE (defs₀ (F := F)) 𝒱₀ (thr d L) none) Set.univ
          (cc0__sc_pool L aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0)
          fun _ => iprop(tdT m d c s ∗ scopedBufs (thr d L) ∗ scopedSems0 (thr d L)
            ∗ ∃ W', ⌜∀ p ∈ W', p ∈ W ∨ p.2 = none⌝ ∗ owes (thr d L) O W') := by
  subst hL
  rw [(K (F := F)).scopedBufs_V hF d (cV (tile c s)) (jV (tile c s)), SparseCore.Cfg.scopedSems0_V (Val := Elt F) d (cV (tile c s)) (jV (tile c s)), ownSems0_V, ownBufs_V]
  unfold goT tdT
  iintro ⟨#Hlv, ⟨%κ, #Hwm⟩, ⟨Hx, Hl, Ho, Hp⟩, ⟨Hb, Hbr⟩, ⟨⟨Hs, Hg, Hos⟩, Hsr⟩, HO⟩
  ihave #Hmw := (show levAts (K (F := F)).L (K (F := F)).lev ⊢ Transfers.MayWaits (thr d (tile c s)) (default : HIx 1) O from
    (K (F := F)).mayWaits_none (thr := thr d (tile c s)) hO) $$ Hlv
  iapply (wp_wand_r frame (wpE (defs₀ (F := F)) 𝒱₀ (thr d (tile c s)) none) Set.univ)
  isplitr [Hbr Hsr]
  · iapply (wp_task d (tile c s) (m (xLoc d)) (lv m d) (sh c s) (sh c s) (κ := κ) (O := O) (W := W) (hpre d))
    isplitr; · iexact Hwm
    isplitr; · iexact Hmw
    isplitl [Hx]; · iexact Hx
    isplitl [Hl]; · iexact Hl
    isplitl [Ho Hp]
    · isplitl [Ho]; · iexists _; iexact Ho
      iexists _; iexact Hp
    isplitl [Hb]; · iexact Hb
    isplitl [Hs]; · iexact Hs
    isplitl [Hg]; · iexact Hg
    isplitl [Hos]; · iexact Hos
    unfold Ow
    iexists W; isplitr
    · ipureintro; exact fun p hp => .inl hp
    iexact HO
  iintro %u ⟨Hx, Hl, ⟨Ho, Hp⟩, Hb, Hs, Hg, Hos, HO⟩
  isplitl [Hx Hl Ho Hp]
  · isplitl [Hx]; · iexact Hx
    isplitl [Hl]; · iexact Hl
    isplitl [Ho]; · iexact Ho
    iexact Hp
  isplitl [Hb Hbr]
  · isplitl [Hb]; · iexact Hb
    iexact Hbr
  isplitl [Hs Hg Hos Hsr]
  · isplitr [Hsr]
    · isplitl [Hs]; · iexact Hs
      isplitl [Hg]; · iexact Hg
      iexact Hos
    iexact Hsr
  unfold Ow
  iexact HO

theorem defs₀_vector (c : Fin τ.nSC) (s : Fin τ.nSub) :
    defs₀ (F := F) (.scVector c s) 0 ()
      = SparseCore.onTile hcore0 hsub0 (fun c s => cc0__sc_pool (tile c s) aX (Memref.isWhole_whole _) aL (Memref.isWhole_whole _) aO (Memref.isWhole_whole _) aP (Memref.isWhole_whole _)
          aJ (Memref.isWhole_whole _) aR (Memref.isWhole_whole _) aV (Memref.isWhole_whole _) aI (Memref.isWhole_whole _) cc0_scratch4 cc0_scratch5 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (Fin.cast nCore_zero c) (Fin.cast nSub_zero i) (L := tile ⟨_, hci.1⟩ ⟨_, hci.2⟩) rfl O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => goT m d (Fin.cast nCore_zero c) s) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ bigSep Finset.univ fun s : Fin 16 => tdT m d (Fin.cast nCore_zero c) s))
  rw [bigSep_tasks (F := F) (goT m d (Fin.cast nCore_zero c)), bigSep_tasks (F := F) (tdT m d (Fin.cast nCore_zero c))]
  iintro H; imodintro
  isplitl [H]; · iexact H
  iintro H; iexact H

/-! ## The launch element -/

def u₀ : UU F := (initOf (K (F := F)).hsCells (K (F := F)).hsToks, (wm₀ nD τ sig (Elt F), 1))

theorem bigSep_emp' {I : Type} (s : Finset I) : (bigSep s fun _ => iprop(emp)) = (iprop(emp) : sProp 𝕄) := bigSep_emp_const s

include ρ in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (wm₀ nD τ sig (Elt F), (1 : Counters))) $$ Hu
  icases H with ⟨HH, HW⟩
  imod (show (BI.own ((embR : Emb (UW F × Counters) 𝕄) (wm₀ nD τ sig (Elt F), (1 : Counters))) : sProp 𝕄) ⊢ |={Set.univ}=> ∃ κ, ⌜κ ∉ (∅ : Finset ℕ)⌝ ∧ wmI (F := F) κ from
    wmInv_alloc (emb := EW (F := F)) ⟨m, fun _ => 0, ρ⟩ ∅) $$ HW with ⟨%κ, HI⟩
  icases HI with ⟨-, #HI⟩
  imodintro
  isplitl [HH]; · iexact HH
  isplitr; · rw [bigSep_emp']; iempintro
  iapply (show wmI (F := F) κ ⊢ (bigSep Finset.univ fun thr : Thread nD τ => bigSep Finset.univ fun q : Fin 1 => (P m).x q thr : sProp 𝕄) from
    bigSep_intro_persistent fun thr _ => bigSep_intro_persistent fun q _ => by
      show wmI (F := F) κ ⊢ iprop(∃ κ, wmI (F := F) κ)
      iintro H; iexists κ; iexact H)
  iexact HI

/-! ## The arrays whole, and dealt -/

theorem read_dealt {ℓ : Loc nD τ sig} (f : Buf (Elt F) ℓ) :
    (ℓ ↦{fullShare} f : sProp 𝕄) = bigSep Finset.univ fun c : Fin 2 => bigSep Finset.univ fun s : Fin 16 => ℓ ↦{sh c s} f := by
  rw [pointsTo_piecesOf Finset.univ f (o := 2) (by omega) fullShare]
  exact bigSep_congr fun c _ => pointsTo_piecesOf Finset.univ f (o := 16) (by omega) _

theorem wid_tile (c : Fin 2) (s : Fin 16) : wid (tile c s) = 2 * s.val + c.val := rfl

/-- The rows of tile `(c, s)`. -/
abbrev rowsAt (t : Fin 2 × Fin 16) : Finset S100000x128.Idx := tileRows (tile t.1 t.2)

theorem rows_disjoint : ∀ t ∈ (Finset.univ : Finset (Fin 2 × Fin 16)), ∀ t' ∈ (Finset.univ : Finset (Fin 2 × Fin 16)), t ≠ t' → Disjoint (rowsAt t) (rowsAt t') := by
  rintro ⟨c, s⟩ - ⟨c', s'⟩ - h
  refine band_disjoint ?_
  have hne : wid (tile c s) ≠ wid (tile c' s') := fun e => h (by
    rw [wid_tile, wid_tile] at e
    have h1 : c.val = c'.val := by omega
    have h2 : s.val = s'.val := by omega
    rw [Fin.ext h1, Fin.ext h2])
  show n0 (tile c s) + 16 * nch (tile c s) ≤ n0 (tile c' s') ∨ n0 (tile c' s') + 16 * nch (tile c' s') ≤ n0 (tile c s)
  unfold n0 nch
  split <;> split <;> omega

theorem rows_cover : (Finset.univ : Finset (Fin 2 × Fin 16)).biUnion rowsAt = Finset.univ := by
  ext i
  have hi : (i 0).val < 100000 := (i 0).isLt
  simp only [Finset.mem_biUnion, Finset.mem_univ, true_and, iff_true]
  have key : ∀ w, w < 32 → 3104 * w + 32 * min w 21 ≤ (i 0).val → (i 0).val < 3104 * w + 32 * min w 21 + 16 * (if w < 21 then 196 else 194) → ∃ t, i ∈ rowsAt t := by
    intro w hw h1 h2
    refine ⟨(⟨w % 2, by omega⟩, ⟨w / 2, by omega⟩), mem_band.mpr ?_⟩
    have e : wid (tile ⟨w % 2, by omega⟩ ⟨w / 2, by omega⟩) = w := by
      rw [wid_tile]
      show 2 * (w / 2) + w % 2 = w
      omega
    unfold n0 nch
    rw [e]
    exact ⟨h1, h2⟩
  by_cases h : (i 0).val < 65856
  · exact key ((i 0).val / 3136) (by omega) (by omega) (by rw [if_pos (by omega)]; omega)
  · exact key (21 + ((i 0).val - 65856) / 3104) (by omega) (by omega) (by rw [if_neg (by omega)]; omega)

theorem o_dealt (d : Dev nD) (f : Buf (Elt F) (oLoc d)) :
    (oLoc d ↦{fullShare} f : sProp 𝕄) = bigSep Finset.univ fun c : Fin 2 => bigSep Finset.univ fun s : Fin 16 => oLoc d ↦[tileRows (tile c s)]{fullShare} f := by
  rw [show (oLoc d ↦{fullShare} f : sProp 𝕄) = oLoc d ↦[(Finset.univ : Finset (Fin 2 × Fin 16)).biUnion rowsAt]{fullShare} f from by rw [rows_cover],
    pointsTo_biUnion Finset.univ (ℓ := oLoc d) rowsAt rows_disjoint, bigSep_univ_prod]

theorem p_dealt (d : Dev nD) (f : Buf (Elt F) (pLoc d)) :
    (pLoc d ↦{fullShare} f : sProp 𝕄) = bigSep Finset.univ fun c : Fin 2 => bigSep Finset.univ fun s : Fin 16 => pLoc d ↦[tileRows (tile c s)]{fullShare} f := by
  rw [show (pLoc d ↦{fullShare} f : sProp 𝕄) = pLoc d ↦[(Finset.univ : Finset (Fin 2 × Fin 16)).biUnion rowsAt]{fullShare} f from by rw [rows_cover],
    pointsTo_biUnion Finset.univ (ℓ := pLoc d) rowsAt rows_disjoint, bigSep_univ_prod]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((xLoc d ↦{fullShare} m (xLoc d)) ∗ (lLoc d ↦{fullShare} lv m d) ∗ (oLoc d ↦{fullShare} m (oLoc d)) ∗ (pLoc d ↦{fullShare} m (pLoc d))) := by
  refine (bigSep_cores (F := F) (fun c => bigSep Finset.univ fun s : Fin 16 => goT m d c s)).trans ?_
  unfold goT
  rw [read_dealt (m (xLoc d)), read_dealt (lv m d), o_dealt, p_dealt]
  simp only [bigSep_sep']

theorem dn0_eq (d : Dev nD) : (bigSep Finset.univ fun c : Fin ((K (F := F)).nCore 0) => (P m).dn 0 d c)
    = iprop((xLoc d ↦{fullShare} m (xLoc d)) ∗ (lLoc d ↦{fullShare} lv m d) ∗ (oLoc d ↦{fullShare} oOut m d) ∗ (pLoc d ↦{fullShare} pOut m d)) := by
  refine (bigSep_cores (F := F) (fun c => bigSep Finset.univ fun s : Fin 16 => tdT m d c s)).trans ?_
  unfold tdT
  rw [read_dealt (m (xLoc d)), read_dealt (lv m d), o_dealt, p_dealt]
  simp only [bigSep_sep']

/-! ## @main -/

/-- The arrays of @main. -/
abbrev S7 : Finset (DevRef τ sig) := {x', n', c', z', l', o', p'}

theorem held_S7 (d : Dev nD) (W : Valuation τ sig (Elt F)) :
    (held (SparseCore.T d) S7 W : sProp 𝕄)
      = iprop((xLoc d ↦{fullShare} W x') ∗ (nLoc d ↦{fullShare} W n') ∗ ((SparseCore.T d).loc main_c ↦{fullShare} W c') ∗ ((SparseCore.T d).loc main_v0 ↦{fullShare} W z')
          ∗ (lLoc d ↦{fullShare} W l') ∗ (oLoc d ↦{fullShare} W o') ∗ (pLoc d ↦{fullShare} W p')) := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (SparseCore.T d) S7 (V0 m d) := by
  rw [held_S7]
  unfold unscopedBufs
  rw [show (Finset.univ.filter fun b : Ref sig .tc => ¬ b.isScoped) = {main_arg0, main_arg1, main_c, main_v0, main_v1, main_v2_0, main_v2_1} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

theorem hC : (opC (F := F)).bufs ⊆ S7 := show ({c'} : Finset (DevRef τ sig)) ⊆ S7 by decide
theorem hZ : (opZ (F := F)).bufs ⊆ S7 := show ({c', z'} : Finset (DevRef τ sig)) ⊆ S7 by decide
theorem hLs : (opL (F := F)).bufs ⊆ S7 := show ({n', z', l'} : Finset (DevRef τ sig)) ⊆ S7 by decide

/-- What the three operations leave alone. -/
theorem V3_of (d : Dev nD) {b : DevRef τ sig} (h1 : b ∉ ({l'} : Finset (DevRef τ sig))) (h2 : b ∉ ({z'} : Finset (DevRef τ sig))) (h3 : b ∉ ({c'} : Finset (DevRef τ sig))) :
    V3 m d b = m (d, b) := by
  unfold V3
  rw [(opL (F := F)).result_of_not_mem _ h1, (opZ (F := F)).result_of_not_mem _ h2, (opC (F := F)).result_of_not_mem _ h3]
  rfl

theorem held_V3 (d : Dev nD) :
    (held (SparseCore.T d) S7 ((opL (F := F)).result ((opZ (F := F)).result ((opC (F := F)).result (V0 m d)))) : sProp 𝕄)
      = iprop((xLoc d ↦{fullShare} m (xLoc d)) ∗ (nLoc d ↦{fullShare} m (nLoc d)) ∗ ((SparseCore.T d).loc main_c ↦{fullShare} V3 m d c')
          ∗ ((SparseCore.T d).loc main_v0 ↦{fullShare} V3 m d z') ∗ (lLoc d ↦{fullShare} lv m d) ∗ (oLoc d ↦{fullShare} m (oLoc d)) ∗ (pLoc d ↦{fullShare} m (pLoc d))) := by
  show held (SparseCore.T d) S7 (V3 m d) = _
  rw [held_S7, V3_of m d (b := x') (by decide) (by decide) (by decide), V3_of m d (b := n') (by decide) (by decide) (by decide),
    V3_of m d (b := o') (by decide) (by decide) (by decide), V3_of m d (b := p') (by decide) (by decide) (by decide)]
  rfl

/-- What @main leaves: the arguments as they were, the results. -/
abbrev FIN (d : Dev nD) : sProp 𝕄 :=
  iprop((xLoc d ↦{fullShare} m (xLoc d)) ∗ (nLoc d ↦{fullShare} m (nLoc d)) ∗ (oLoc d ↦{fullShare} oOut m d) ∗ (pLoc d ↦{fullShare} pOut m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opC) (S := S7) hC (V := V0 m d)) $$ [Hb Hheld]
  · isplitl [Hb] <;> iassumption
  iintro ⟨Hb, Hheld⟩
  rw [wp_ret]; imodintro
  iapply (wp_hlo_within 𝒱 (SparseCore.T d) none Set.univ (op := opZ) (S := S7) hZ (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opL) (S := S7) hLs (V := (opZ (F := F)).result ((opC (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Hx, Hn, -, -, Hl, Ho, Hp⟩
  iapply ((K (F := F)).wp_run (D (F := F)) 𝒱 (EH := EH) (P := P m) κ d 0) $$ [Hst Hx Hl Ho Hp Hb Hn Hts]
  isplitr; · iexact Hctx
  isplitl [Hst]; · iexact Hst
  isplitl [Hx Hl Ho Hp]
  · rw [st0_eq]
    isplitl [Hx]; · iexact Hx
    isplitl [Hl]; · iexact Hl
    isplitl [Ho]; · iexact Ho
    iexact Hp
  iintro ⟨Hst, Hdn⟩
  ihave Hdn' := (Entails.of_eq (dn0_eq m d)) $$ Hdn
  icases Hdn' with ⟨Hx, -, Ho, Hp⟩
  imodintro
  isplitl [Hst]; · iexact Hst
  isplitr [Hb Hts]
  · isplitl [Hx]; · iexact Hx
    isplitl [Hn]; · iexact Hn
    isplitl [Ho]; · iexact Ho
    iexact Hp
  isplitl [Hb] <;> iassumption

/-- The final memory. -/
def fq (d : Dev nD) (s' : Phys nD τ sig (Elt F)) : Prop :=
  s'.mem.mem (xLoc d) = m (xLoc d) ∧ s'.mem.mem (nLoc d) = m (nLoc d) ∧ s'.mem.mem (oLoc d) = oOut m d ∧ s'.mem.mem (pLoc d) = pOut m d

theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hx, Hn, Ho, Hp⟩, HSI⟩
  ihave H := (agree (m (xLoc d)) s') $$ [Hx HSI]
  · isplitl [Hx] <;> iassumption
  icases H with ⟨%h1, HSI⟩
  ihave H := (agree (m (nLoc d)) s') $$ [Hn HSI]
  · isplitl [Hn] <;> iassumption
  icases H with ⟨%h2, HSI⟩
  ihave H := (agree (oOut m d) s') $$ [Ho HSI]
  · isplitl [Ho] <;> iassumption
  icases H with ⟨%h3, HSI⟩
  ihave H := (agree (pOut m d) s') $$ [Hp HSI]
  · isplitl [Hp] <;> iassumption
  icases H with ⟨%h4, -⟩
  ipureintro; exact ⟨h1, h2, h3, h4⟩

/-! ## The run -/

def QC : PUnit × MemSt nD τ sig (Elt F) → Prop := fun r =>
  (∀ c : Dev nD, r.2.mem (xLoc c) = m (xLoc c) ∧ r.2.mem (nLoc c) = m (nLoc c) ∧ r.2.mem (oLoc c) = oOut m c ∧ r.2.mem (pLoc c) = pOut m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m ρ)) (hmain m ρ) (fq m) (hfin m) (QC m) (fun _ h hz => ⟨h, hz⟩)

end Cert.Proof
-- ==== Proof.Words.lean ====
/-
  What the precondition gives: a word of the list, a word of the padding, and the range of both.
-/
module

public import proofs.«01_k».proof.Defs
public import proofs.«01_k».proof.Proof.Launch
public import proofs.«01_k».proof.Proof.Gen.Pre_in_rows
public import Idealize.ShloMosaic.Lib.ReduceAll
public import Idealize.ShloMosaic.Lib.Pipeline.Value

@[expose] public section

noncomputable section

namespace Cert.Proof

open Cert.KernelIdeal Cert.KernelIdeal.Gen

open Idealize.ShloMosaic

variable {F : FTy → Type} [FloatOps F]

variable (m : (ℓ : Loc nD τ sig) → Buf (Elt F) ℓ)

/-- The argument list, and the padding. -/
abbrev nv (d : Dev nD) : S700000.Idx → BitVec 32 := m (nLoc d)
abbrev zv : S672.Idx → BitVec 32 := broadcastInDim S672 ![] bcast_S_S672 (constantI S_ 32 0#32)

/-- The list the kernel reads: the argument, and zeros behind it. -/
theorem lv_eq (d : Dev nD) : lv m d = concatenate S700672 0 [⟨S700000, nv m d⟩, ⟨S672, zv⟩] concatenates_S700000_S672_S700672_d0 := by
  have e1 : (opC (F := F)).result (V0 m d) c' = constantI S_ 32 0#32 := StableHlo.nullary_result _ _ _ _
  have e2 : (opZ (F := F)).result ((opC (F := F)).result (V0 m d)) z' = zv := by
    refine Eq.trans ?_ (congrArg (broadcastInDim S672 ![] bcast_S_S672 : (⟨S_, .i32⟩ : BufTy).Contents (Elt F) → (⟨S672, .i32⟩ : BufTy).Contents (Elt F)) e1)
    exact StableHlo.unary_result _ _ _ _ _ _
  have e3 : (opZ (F := F)).result ((opC (F := F)).result (V0 m d)) n' = nv m d := by
    rw [(opZ (F := F)).result_of_not_mem _ (show n' ∉ ({z'} : Finset (DevRef τ sig)) by decide),
      (opC (F := F)).result_of_not_mem _ (show n' ∉ ({c'} : Finset (DevRef τ sig)) by decide)]
    rfl
  have e4 : lv m d = concatenate S700672 0 [⟨S700000, ((opZ (F := F)).result ((opC (F := F)).result (V0 m d)) n' : S700000.Idx → BitVec 32)⟩,
      ⟨S672, ((opZ (F := F)).result ((opC (F := F)).result (V0 m d)) z' : S672.Idx → BitVec 32)⟩] concatenates_S700000_S672_S700672_d0 := by
    unfold lv V3
    exact StableHlo.binary_result _ _ _ _ _ _ _ _
  rw [e4, e2, e3]

/-- A word of the argument's own part. -/
theorem lw_of_lt (d : Dev nD) (j : ℕ) (hj : j < 700000) : lw d (lv m d) j = m (nLoc d) (ix1 ⟨j, hj⟩) := by
  show lv m d (ix1 ⟨j % 700672, _⟩) = _
  rw [lv_eq]
  refine concatenate_pair_apply_left (t := S700672) (s₁ := S700000) (s₂ := S672) 0 (nv m d) zv _ _ rfl _ ?_
  intro b
  match b with
  | 0 => exact (Nat.mod_eq_of_lt (show j < 700672 by omega)).symm

/-- A word of the padding. -/
theorem lw_of_ge (d : Dev nD) (j : ℕ) (hj : 700000 ≤ j % 700672) : lw d (lv m d) j = 0#32 := by
  show lv m d (ix1 ⟨j % 700672, _⟩) = _
  rw [lv_eq]
  have h2 : j % 700672 < 700672 := Nat.mod_lt _ (by omega)
  refine concatenate_pair_apply_right (t := S700672) (s₁ := S700000) (s₂ := S672) 0 (nv m d) zv _ _ rfl rfl (ix1 ⟨j % 700672 - 700000, by omega⟩) ?_ ?_
  · intro b hb
    match b with
    | 0 => exact absurd rfl hb
  · show j % 700672 - 700000 + 700000 = j % 700672
    omega

/-- Every word of the argument in range. -/
def InRows : Prop := ∀ (d : Dev nD) (j : S700000.Idx), (m (nLoc d) j).toNat < 700000

theorem ok_of_rows (h : InRows m) : PreOK m := by
  intro d j
  by_cases hj : j % 700672 < 700000
  · have e : lw d (lv m d) j = lw d (lv m d) (j % 700672) := by
      show lv m d (ix1 ⟨j % 700672, _⟩) = lv m d (ix1 ⟨j % 700672 % 700672, _⟩)
      congr 2
      exact Fin.ext (Nat.mod_mod _ _).symm
    rw [e, lw_of_lt m d _ hj]
    exact h d _
  · rw [lw_of_ge m d j (by omega)]
    decide

/-- The precondition, a word at a time. -/
theorem rows_of_pre (x : FVec F S700000x128 .f32) (n : IVec S700000 32) (h : Cert.Pre_in_rows.fn x n = fun _ => 1#1) (j : S700000.Idx) : (n j).toNat < 700000 := by
  have e := Host.reduce_andi_all _ _ _ _ ix0 (congrFun h ix0) j
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 700000#32) = 1#1 → v.toNat < 700000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  exact key _ e

end Cert.Proof

end
-- ==== Proof.Frames.lean ====
/-
  The frames of the three programs.
-/
module

public import proofs.«01_k».proof.Proof.Words
public import proofs.«01_k».proof.Proof.Ref
public import proofs.«01_k».proof.Proof.Gen.Kernel
public import proofs.«01_k».proof.Proof.Gen.ReferenceIdeal

@[expose] public section

noncomputable section

namespace Cert.Proof

open Idealize.ShloMosaic Idealize.SL.Sem

/-- The idealized kernel's frame. -/
theorem frame_ideal : Cert.quiescent_KernelIdeal := fun m ρ hp =>
  (θ_run Cert.KernelIdeal.defs _ _).mono (fun _ h => ⟨fun c => ⟨(h.1 c).1, (h.1 c).2.1⟩, h.2⟩)
    (run_main (F := Ideal) m ρ (ok_of_rows m fun d j => rows_of_pre _ _ (hp d) j))

/-- The kernel's frame: the two have the same text, so the run is the one already made, over the formats' words. -/
theorem frame_kernel : Cert.quiescent_Kernel := fun m ρ hp =>
  (θ_run Cert.KernelIdeal.defs _ _).mono (fun _ h => ⟨fun c => ⟨(h.1 c).1, (h.1 c).2.1⟩, h.2⟩)
    (run_main (F := Bits) m ρ (ok_of_rows (F := Bits) m fun d j => rows_of_pre _ _ (hp d) j))

/-- The reference's frame; it needs no precondition. -/
theorem frame_reference : Cert.quiescent_ReferenceIdeal := fun m ρ _ =>
  (θ_run Cert.ReferenceIdeal.defs _ _).mono (fun r h => ⟨fun c => (h c).2.2, sem_eq_zero_of_no_sems (by decide) r.2⟩) (Ref.run (F := Ideal) m ρ)

end Cert.Proof

end
-- ==== Proof.Value.lean ====
/-
  The two results of the reference over the extended reals, word by word, and the equation of the two programs.
-/
module

public import proofs.«01_k».proof.Proof.Argmax
public import proofs.«01_k».proof.Proof.Frames
public import Idealize.ShloMosaic.Lib.Routing.Ops

@[expose] public section

noncomputable section

namespace Cert.Proof

open Idealize.ShloMosaic Idealize.SL.Sem
open Cert.ReferenceIdeal Cert.ReferenceIdeal.Facts₀ Cert.ReferenceIdeal.Facts

section Cells
variable {F : FTy → Type} [FloatOps F] (x : FVec F S700000x128 .f32) (n : IVec S700000 32)

theorem start_word (hn : ∀ j, (n j).toNat < 700000) (r : Fin 700000) :
    Ref.starts n (ix2 r (0 : Fin 1)) = BitVec.ofNat 32 (n (ix1 r)).toNat := by
  have e : Ref.starts n (ix2 r (0 : Fin 1))
      = Scalar.select (IntOp.cmpi .slt (n (ix1 r)) 0#32) (IntOp.addi (n (ix1 r)) 700000#32) (n (ix1 r)) := by
    unfold Ref.starts
    refine (broadcastInDim_apply _ _ _ (ix2 r (0 : Fin 1)) (ix1 r) ?_).trans rfl
    intro a
    match a with
    | 0 => rfl
  rw [e, BitVec.ofNat_toNat, BitVec.setWidth_eq]
  have h := hn (ix1 r)
  have hs : (n (ix1 r)).slt 0#32 = false := by
    rw [BitVec.slt, decide_eq_false_iff_not, BitVec.toInt_eq_toNat_of_lt (by omega)]
    simp
  simp [IntOp.cmpi, Scalar.select, hs]

/-- A cell of the reference: word `7 b + k` of the seven rows of node `a`. -/
theorem cells_at (hn : ∀ j, (n j).toNat < 700000) (l : ℕ → BitVec 32) (hl : ∀ j (hj : j < 700000), l j = n (ix1 ⟨j, hj⟩))
    (a : Fin 100000) (b : Fin 128) (k : Fin 7) : Ref.cells x n (ix3 a b k) = XV x l a.val b.val k.val := by
  have ha := a.isLt
  have hb := b.isLt
  have hk := k.isLt
  have hr : 7 * a.val + (7 * b.val + k.val) / 128 < 700000 := by omega
  have hc : (7 * b.val + k.val) % 128 < 128 := Nat.mod_lt _ (by decide)
  unfold Ref.cells
  rw [shapeCast_apply _ _ _ (ix2 (⟨7 * a.val + (7 * b.val + k.val) / 128, hr⟩ : Fin 700000) (⟨(7 * b.val + k.val) % 128, hc⟩ : Fin 128))]
  · refine Eq.trans (Routing.gather_row gather_S700000x128_S700000x1_S700000x128_1_0_n_n_0_1_1128 rfl rfl rfl rfl rfl x (Ref.starts n)
      ⟨_, hr⟩ ⟨_, hc⟩ ⟨(n (ix1 ⟨_, hr⟩)).toNat, hn _⟩ (start_word n hn _) (by decide)) ?_
    unfold XV xAt
    rw [hl _ hr]
    refine congrArg x (funext fun c => Fin.ext ?_)
    match c with
    | 0 => exact (Nat.mod_eq_of_lt (hn _)).symm
    | 1 => exact (Nat.mod_mod _ _).symm
  · rw [Shape.rowMajor_val_two, Shape.rowMajor_val_three]
    show (7 * a.val + (7 * b.val + k.val) / 128) * 128 + (7 * b.val + k.val) % 128 = (a.val * 128 + b.val) * 7 + k.val
    omega

/-- The reference's two reduced arrays as the plain fold of the pairs. -/
def pairs : S100000x128.Idx → F .f32 × BitVec 32 :=
  Host.reduce2 reducer_argmax_f32_i32 (Ref.cells x n) (iotaInDim S100000x128x7 32 2) (constant S_ .f32 0xFF800000#32) (constantI S_ 32 0#32)
    reducesTo_S100000x128x7_S100000x128_d2 h_S_

theorem idxs_arg : Ref.idxs x n = fun j => (Host.argReduce reducer_argmax_f32_i32 (Ref.cells x n) (iotaInDim S100000x128x7 32 2)
    (constant S_ .f32 0xFF800000#32) (constantI S_ 32 0#32) reducesTo_S100000x128x7_S100000x128_d2 h_S_ j).2 := rfl

/-- Where no word compares unequal to itself the second result is the fold's index. -/
theorem idxs_pairs (hune : ∀ v : F .f32, FloatOps.cmpf .une v v ≠ 1#1) : Ref.idxs x n = fun j => (pairs x n j).2 :=
  (idxs_arg x n).trans (congrArg (fun g : S100000x128.Idx → F .f32 × BitVec 32 => fun j => (g j).2)
    (Host.argReduce_eq_reduce2_of_une_irrefl hune _ _ _ _ _ _ _))

end Cells

/-- A fold of pairs by a commutative and associative body, over the set it runs through. -/
theorem reduce2_fold {s t u : Shape} {axes : List (Fin s.rank)} {α β : Type} (f : α × β → α × β → α × β) [Std.Commutative f] [Std.Associative f]
    (x : s.Idx → α) (y : s.Idx → β) (ix : u.Idx → α) (iy : u.Idx → β) (h : s.ReducesTo axes t) (hu : 0 < u.numel) (j : t.Idx) :
    Host.reduce2 f x y ix iy h hu j
      = (Finset.univ.filter fun i => h.drop i = j).fold f (ix (Shape.Idx.first hu), iy (Shape.Idx.first hu)) (fun i => (x i, y i)) :=
  Shape.foldl_filter_rowMajor_eq_fold h.drop f _ (fun i => (x i, y i)) j

theorem red_axis : S100000x128x7.Reduces [2] S100000x128 := by decide

theorem lift_at (a : Fin 100000) (b : Fin 128) (k : Fin 7) : red_axis.lift (ix2 a b) k = ix3 a b k := by
  funext c
  match c with
  | 0 => rfl
  | 1 => rfl
  | 2 => rfl

section Results
variable (x : FVec Ideal S700000x128 .f32) (n : IVec S700000 32) (hn : ∀ j, (n j).toNat < 700000)
  (l : ℕ → BitVec 32) (hl : ∀ j (hj : j < 700000), l j = n (ix1 ⟨j, hj⟩))
include hn hl

/-- The reference's first result: the running maximum. -/
theorem vals_at (a : Fin 100000) (b : Fin 128) : Ref.vals x n (ix2 a b) = OV x l a.val b.val := by
  unfold Ref.vals
  rw [Host.reduce_eq_fold_single _ _ _ _ red_axis]
  refine Eq.trans ?_ (fold_max (XV x l a.val b.val))
  refine congrArg (Finset.fold _ _ · _) (funext fun k => ?_)
  exact (congrArg (Ref.cells x n) (lift_at a b k)).trans (cells_at x n hn l hl a b k)

/-- The reference's pair of results at an index: the running maximum and its first position. -/
theorem pair_at (a : Fin 100000) (b : Fin 128) :
    pairs x n (ix2 a b) = (maxS (XV x l a.val b.val) 6, BitVec.ofNat 32 (argI (XV x l a.val b.val) 6)) := by
  have e : pairs x n (ix2 a b) = (Finset.univ.filter fun i => reducesTo_S100000x128x7_S100000x128_d2.drop i = ix2 a b).fold red
      (FloatOps.ofBits .f32 0xFF800000#32, 0#32) (fun i => (Ref.cells x n i, iotaInDim S100000x128x7 32 2 i)) :=
    reduce2_fold red _ _ _ _ _ _ _
  rw [e]
  rw [Shape.ReducesTo.drop_eq_drop _ red_axis, red_axis.fold_filter_drop_single]
  refine Eq.trans ?_ (fold_red (XV x l a.val b.val))
  refine congrArg (Finset.fold _ _ · _) (funext fun k => ?_)
  exact Prod.ext ((congrArg (Ref.cells x n) (lift_at a b k)).trans (cells_at x n hn l hl a b k))
    (congrArg (iotaInDim S100000x128x7 32 2) (lift_at a b k))

end Results

/-- The kernel's second result is that position. -/
theorem OI_word (x : FVec Ideal S700000x128 .f32) (l : ℕ → BitVec 32) (a b : ℕ) : OI (F := Ideal) x l a b = BitVec.ofNat 32 (argI (XV (F := Ideal) x l a b) 6) :=
  word_arg _

theorem idxs_fold (x : FVec Ideal S700000x128 .f32) (n : IVec S700000 32) : Ref.idxs x n = fun j => (pairs x n j).2 :=
  idxs_pairs x n fun v => by simp [Ideal.cmpf_def, Ideal.cmp]

/-- The reference's second result: the first position of the maximum, the number the kernel rounds back. -/
theorem idxs_at (x : FVec Ideal S700000x128 .f32) (n : IVec S700000 32) (hn : ∀ j, (n j).toNat < 700000)
    (l : ℕ → BitVec 32) (hl : ∀ j (hj : j < 700000), l j = n (ix1 ⟨j, hj⟩)) (a : Fin 100000) (b : Fin 128) :
    Ref.idxs x n (ix2 a b) = OI (F := Ideal) x l a.val b.val := by
  rw [idxs_fold, OI_word]
  exact congrArg Prod.snd (pair_at x n hn l hl a b)

theorem ix2_eta (j : S100000x128.Idx) : j = ix2 (j 0) (j 1) := by
  funext c
  match c with
  | 0 => rfl
  | 1 => rfl

/-- The equation of the two programs, both results. -/
theorem algebraic : Cert.algebraic_KernelIdeal_ReferenceIdeal := fun m ρ m' ρ' hp hag => by
  have hr : ∀ d j, ((m (nLoc d) : IVec S700000 32) j).toNat < 700000 := fun d j => rows_of_pre _ _ (hp d) j
  refine ⟨oOut m, pOut m, ?_, ?_⟩
  · exact (θ_run Cert.KernelIdeal.defs _ _).mono (fun _ h c => ⟨(h.1 c).2.2.1, (h.1 c).2.2.2, (h.1 c).1, (h.1 c).2.1⟩)
      (run_main (F := Ideal) m ρ (ok_of_rows m hr))
  · refine (θ_run Cert.ReferenceIdeal.defs _ _).mono (fun r h c => ?_) (Ref.run (F := Ideal) m' ρ')
    obtain ⟨h0, h1, h2, h3⟩ := h c
    refine ⟨?_, ?_, h2, h3⟩
    · rw [h0, (hag c).1, (hag c).2]
      funext j
      rw [ix2_eta j]
      exact vals_at _ _ (hr c) (lw c (lv m c)) (fun i hi => lw_of_lt m c i hi) (j 0) (j 1)
    · rw [h1, (hag c).1, (hag c).2]
      funext j
      rw [ix2_eta j]
      exact idxs_at _ _ (hr c) (lw c (lv m c)) (fun i hi => lw_of_lt m c i hi) (j 0) (j 1)

/-- The reference's frame as the equation's claim asks it, under the precondition it does not need. -/
theorem frame_reference_pre : Cert.quiescent_ReferenceIdeal_pre_in_rows := fun m ρ _ =>
  (θ_run Cert.ReferenceIdeal.defs _ _).mono (fun r h => ⟨fun c => (h c).2.2, sem_eq_zero_of_no_sems (by decide) r.2⟩) (Ref.run (F := Ideal) m ρ)

end Cert.Proof

end
-- ==== Proof.lean ====
/-
  The proof of `Cert.Claim`: the frames, from Proof/Frames.lean, and the equation, from Proof/Value.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_rows
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_in_rows.Gen.facts,
  frame_kernel, frame_ideal, frame_reference, frame_reference_pre, trivial, algebraic⟩

end Cert.Proof

end
